-- ==== Defs.lean ====
def Pre_Kernel [hPre_rows_named : Cert.Pre_rows_named.Facts] (m : (ℓ : Loc Cert.Kernel.nD Cert.Kernel.τ Cert.Kernel.sig) → Buf (Elt Bits) ℓ) : Prop :=
  ∀ c : Dev Cert.Kernel.nD,
    (Cert.Pre_rows_named.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_rows_named : Cert.Pre_rows_named.Facts] (m : (ℓ : Loc Cert.KernelIdeal.nD Cert.KernelIdeal.τ Cert.KernelIdeal.sig) → Buf (Elt Ideal) ℓ) : Prop :=
  ∀ c : Dev Cert.KernelIdeal.nD,
    (Cert.Pre_rows_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_named [hPre_rows_named : Cert.Pre_rows_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_rows_named : Cert.Pre_rows_named.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_rows_named [hReferenceIdeal : Cert.ReferenceIdeal.Facts] [hPre_rows_named : Cert.Pre_rows_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_named : Cert.Pre_rows_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_rows_named : Cert.Pre_rows_named.Facts),
    quiescent_Kernel (hKernel := hKernel) (hPre_rows_named := hPre_rows_named)
    ∧ quiescent_KernelIdeal (hKernelIdeal := hKernelIdeal) (hPre_rows_named := hPre_rows_named)
    ∧ quiescent_ReferenceIdeal (hReferenceIdeal := hReferenceIdeal)
    ∧ quiescent_ReferenceIdeal_pre_rows_named (hReferenceIdeal := hReferenceIdeal) (hPre_rows_named := hPre_rows_named)
    ∧ preserves_Kernel_KernelIdeal
    ∧ algebraic_KernelIdeal_ReferenceIdeal (hKernelIdeal := hKernelIdeal) (hReferenceIdeal := hReferenceIdeal) (hPre_rows_named := hPre_rows_named)
-- ==== Pre_rows_named.lean ====
abbrev S16384x26 : Shape := ⟨2, ![16384, 26]⟩
abbrev S26x100000x16 : Shape := ⟨3, ![26, 100000, 16]⟩
abbrev S3x416 : Shape := ⟨2, ![3, 416]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S480x1 : Shape := ⟨2, ![480, 1]⟩
abbrev S1 : Shape := ⟨1, ![1]⟩
abbrev S_ : Shape := ⟨0, ![]⟩

class Facts : Prop where
  bcast_S_S16384x26 : S_.BroadcastsInDim S16384x26 (![] : Fin 0 → Fin S16384x26.rank)

variable [Facts]

def fn {F : FTy → Type} [FloatOps F] (main_arg0 : IVec S16384x26 32) (main_arg1 : FVec F S26x100000x16 .f32) (main_arg2 : FVec F S3x416 .f32) (main_arg3 : FVec F S3x416 .f32) (main_arg4 : FVec F S416x256 .f32) (main_arg5 : FVec F S256 .f32) (main_arg6 : FVec F S256x128 .f32) (main_arg7 : FVec F S128 .f32) (main_arg8 : FVec F S128x64 .f32) (main_arg9 : FVec F S64 .f32) (main_arg10 : FVec F S480x1 .f32) (main_arg11 : FVec F S1 .f32) : IVec S16384x26 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  main_v4
-- ==== Kernel.lean ====
abbrev S16384x26 : Shape := ⟨2, ![16384, 26]⟩
abbrev S26x100000x16 : Shape := ⟨3, ![26, 100000, 16]⟩
abbrev S3x416 : Shape := ⟨2, ![3, 416]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S480x1 : Shape := ⟨2, ![480, 1]⟩
abbrev S1 : Shape := ⟨1, ![1]⟩
abbrev S_ : Shape := ⟨0, ![]⟩
abbrev S26 : Shape := ⟨1, ![26]⟩
abbrev S1x26 : Shape := ⟨2, ![1, 26]⟩
abbrev S16384x14 : Shape := ⟨2, ![16384, 14]⟩
abbrev S1x14 : Shape := ⟨2, ![1, 14]⟩
abbrev S229376 : Shape := ⟨1, ![229376]⟩
abbrev S16384x12 : Shape := ⟨2, ![16384, 12]⟩
abbrev S1x12 : Shape := ⟨2, ![1, 12]⟩
abbrev S196608 : Shape := ⟨1, ![196608]⟩
abbrev S26x16x100000 : Shape := ⟨3, ![26, 16, 100000]⟩
abbrev S7x25000x128 : Shape := ⟨3, ![7, 25000, 128]⟩
abbrev S2x16x100000 : Shape := ⟨3, ![2, 16, 100000]⟩
abbrev S1x25000x128 : Shape := ⟨3, ![1, 25000, 128]⟩
abbrev S1x16x4096 : Shape := ⟨3, ![1, 16, 4096]⟩
abbrev S16x4096 : Shape := ⟨2, ![16, 4096]⟩
abbrev S16x512 : Shape := ⟨2, ![16, 512]⟩
abbrev S128x512 : Shape := ⟨2, ![128, 512]⟩
abbrev S512x128 : Shape := ⟨2, ![512, 128]⟩
abbrev S1x512x128 : Shape := ⟨3, ![1, 512, 128]⟩
abbrev S1x16x1696 : Shape := ⟨3, ![1, 16, 1696]⟩
abbrev S16x1696 : Shape := ⟨2, ![16, 1696]⟩
abbrev S1696x16 : Shape := ⟨2, ![1696, 16]⟩
abbrev S212x8x16 : Shape := ⟨3, ![212, 8, 16]⟩
abbrev S212x1x16 : Shape := ⟨3, ![212, 1, 16]⟩
abbrev S212x16 : Shape := ⟨2, ![212, 16]⟩
abbrev S212x128 : Shape := ⟨2, ![212, 128]⟩
abbrev S1x212x128 : Shape := ⟨3, ![1, 212, 128]⟩
abbrev S1400000x16 : Shape := ⟨2, ![1400000, 16]⟩
abbrev S6x25000x128 : Shape := ⟨3, ![6, 25000, 128]⟩
abbrev S1200000x16 : Shape := ⟨2, ![1200000, 16]⟩
abbrev S1x229376 : Shape := ⟨2, ![1, 229376]⟩
abbrev S229376x16 : Shape := ⟨2, ![229376, 16]⟩
abbrev S2x1x128 : Shape := ⟨3, ![2, 1, 128]⟩
abbrev S2 : Shape := ⟨1, ![2]⟩
abbrev S2x128x16 : Shape := ⟨3, ![2, 128, 16]⟩
abbrev S1x1x128 : Shape := ⟨3, ![1, 1, 128]⟩
abbrev S1x128 : Shape := ⟨2, ![1, 128]⟩
abbrev S1x128x16 : Shape := ⟨3, ![1, 128, 16]⟩
abbrev S128x16 : Shape := ⟨2, ![128, 16]⟩
abbrev S1x196608 : Shape := ⟨2, ![1, 196608]⟩
abbrev S196608x16 : Shape := ⟨2, ![196608, 16]⟩
abbrev S16384x224 : Shape := ⟨2, ![16384, 224]⟩
abbrev S16384x192 : Shape := ⟨2, ![16384, 192]⟩
abbrev S1x256 : Shape := ⟨2, ![1, 256]⟩
abbrev S1x64 : Shape := ⟨2, ![1, 64]⟩
abbrev S1x1 : Shape := ⟨2, ![1, 1]⟩
abbrev S16384x1 : Shape := ⟨2, ![16384, 1]⟩
abbrev S2048x224 : Shape := ⟨2, ![2048, 224]⟩
abbrev S2048x192 : Shape := ⟨2, ![2048, 192]⟩
abbrev S2048x1 : Shape := ⟨2, ![2048, 1]⟩
abbrev S2048x416 : Shape := ⟨2, ![2048, 416]⟩
abbrev S1x416 : Shape := ⟨2, ![1, 416]⟩
abbrev S416 : Shape := ⟨1, ![416]⟩
abbrev S2048 : Shape := ⟨1, ![2048]⟩
abbrev S2048x256 : Shape := ⟨2, ![2048, 256]⟩
abbrev S2048x128 : Shape := ⟨2, ![2048, 128]⟩
abbrev S2048x64 : Shape := ⟨2, ![2048, 64]⟩
abbrev S416x1 : Shape := ⟨2, ![416, 1]⟩
abbrev S64x1 : Shape := ⟨2, ![64, 1]⟩

abbrev nBuf : Table → Nat
  | .hbm => 64
  | .local .tc .vmem => 24
  | .local .scVector .vmem => 4
  | _ => 0

abbrev bufTy : (tb : Table) → Fin (nBuf tb) → BufTy
  | .hbm, ⟨0, _⟩ => ⟨S16384x26, .i32⟩
  | .hbm, ⟨1, _⟩ => ⟨S26x100000x16, .f32⟩
  | .hbm, ⟨2, _⟩ => ⟨S3x416, .f32⟩
  | .hbm, ⟨3, _⟩ => ⟨S3x416, .f32⟩
  | .hbm, ⟨4, _⟩ => ⟨S416x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S480x1, .f32⟩
  | .hbm, ⟨11, _⟩ => ⟨S1, .f32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S_, .i32⟩
  | .hbm, ⟨19, _⟩ => ⟨S16384x26, .i32⟩
  | .hbm, ⟨20, _⟩ => ⟨S16384x26, .i32⟩
  | .hbm, ⟨21, _⟩ => ⟨S_, .i32⟩
  | .hbm, ⟨22, _⟩ => ⟨S16384x26, .i32⟩
  | .hbm, ⟨23, _⟩ => ⟨S16384x26, .i32⟩
  | .hbm, ⟨24, _⟩ => ⟨S16384x26, .i32⟩
  | .hbm, ⟨25, _⟩ => ⟨S_, .i32⟩
  | .hbm, ⟨26, _⟩ => ⟨S16384x26, .i32⟩
  | .hbm, ⟨27, _⟩ => ⟨S16384x26, .i32⟩
  | .hbm, ⟨28, _⟩ => ⟨S_, .i32⟩
  | .hbm, ⟨29, _⟩ => ⟨S16384x26, .i32⟩
  | .hbm, ⟨30, _⟩ => ⟨S16384x26, .i32⟩
  | .hbm, ⟨31, _⟩ => ⟨S16384x26, .i32⟩
  | .hbm, ⟨32, _⟩ => ⟨S16384x26, .i32⟩
  | .hbm, ⟨33, _⟩ => ⟨S26, .i32⟩
  | .hbm, ⟨34, _⟩ => ⟨S_, .i32⟩
  | .hbm, ⟨35, _⟩ => ⟨S26, .i32⟩
  | .hbm, ⟨36, _⟩ => ⟨S26, .i32⟩
  | .hbm, ⟨37, _⟩ => ⟨S1x26, .i32⟩
  | .hbm, ⟨38, _⟩ => ⟨S16384x14, .i32⟩
  | .hbm, ⟨39, _⟩ => ⟨S1x14, .i32⟩
  | .hbm, ⟨40, _⟩ => ⟨S16384x14, .i32⟩
  | .hbm, ⟨41, _⟩ => ⟨S16384x14, .i32⟩
  | .hbm, ⟨42, _⟩ => ⟨S229376, .i32⟩
  | .hbm, ⟨43, _⟩ => ⟨S16384x12, .i32⟩
  | .hbm, ⟨44, _⟩ => ⟨S1x12, .i32⟩
  | .hbm, ⟨45, _⟩ => ⟨S16384x12, .i32⟩
  | .hbm, ⟨46, _⟩ => ⟨S16384x12, .i32⟩
  | .hbm, ⟨47, _⟩ => ⟨S196608, .i32⟩
  | .hbm, ⟨48, _⟩ => ⟨S26x16x100000, .f32⟩
  | .hbm, ⟨49, _⟩ => ⟨S7x25000x128, .f32⟩
  | .hbm, ⟨50, _⟩ => ⟨S1400000x16, .f32⟩
  | .hbm, ⟨51, _⟩ => ⟨S6x25000x128, .f32⟩
  | .hbm, ⟨52, _⟩ => ⟨S1200000x16, .f32⟩
  | .hbm, ⟨53, _⟩ => ⟨S1x229376, .i32⟩
  | .hbm, ⟨54, _⟩ => ⟨S229376x16, .f32⟩
  | .hbm, ⟨55, _⟩ => ⟨S1x196608, .i32⟩
  | .hbm, ⟨56, _⟩ => ⟨S196608x16, .f32⟩
  | .hbm, ⟨57, _⟩ => ⟨S16384x224, .f32⟩
  | .hbm, ⟨58, _⟩ => ⟨S16384x192, .f32⟩
  | .hbm, ⟨59, _⟩ => ⟨S1x256, .f32⟩
  | .hbm, ⟨60, _⟩ => ⟨S1x128, .f32⟩
  | .hbm, ⟨61, _⟩ => ⟨S1x64, .f32⟩
  | .hbm, ⟨62, _⟩ => ⟨S1x1, .f32⟩
  | .hbm, ⟨63, _⟩ => ⟨S16384x1, .f32⟩
  | .local .tc .vmem, ⟨0, _⟩ => ⟨S2x16x100000, .f32⟩
  | .local .tc .vmem, ⟨1, _⟩ => ⟨S2x16x100000, .f32⟩
  | .local .tc .vmem, ⟨2, _⟩ => ⟨S1x25000x128, .f32⟩
  | .local .tc .vmem, ⟨3, _⟩ => ⟨S1x25000x128, .f32⟩
  | .local .tc .vmem, ⟨4, _⟩ => ⟨S2x16x100000, .f32⟩
  | .local .tc .vmem, ⟨5, _⟩ => ⟨S2x16x100000, .f32⟩
  | .local .tc .vmem, ⟨6, _⟩ => ⟨S1x25000x128, .f32⟩
  | .local .tc .vmem, ⟨7, _⟩ => ⟨S1x25000x128, .f32⟩
  | .local .tc .vmem, ⟨8, _⟩ => ⟨S2048x224, .f32⟩
  | .local .tc .vmem, ⟨9, _⟩ => ⟨S2048x224, .f32⟩
  | .local .tc .vmem, ⟨10, _⟩ => ⟨S2048x192, .f32⟩
  | .local .tc .vmem, ⟨11, _⟩ => ⟨S2048x192, .f32⟩
  | .local .tc .vmem, ⟨12, _⟩ => ⟨S3x416, .f32⟩
  | .local .tc .vmem, ⟨13, _⟩ => ⟨S3x416, .f32⟩
  | .local .tc .vmem, ⟨14, _⟩ => ⟨S416x256, .f32⟩
  | .local .tc .vmem, ⟨15, _⟩ => ⟨S1x256, .f32⟩
  | .local .tc .vmem, ⟨16, _⟩ => ⟨S256x128, .f32⟩
  | .local .tc .vmem, ⟨17, _⟩ => ⟨S1x128, .f32⟩
  | .local .tc .vmem, ⟨18, _⟩ => ⟨S128x64, .f32⟩
  | .local .tc .vmem, ⟨19, _⟩ => ⟨S1x64, .f32⟩
  | .local .tc .vmem, ⟨20, _⟩ => ⟨S480x1, .f32⟩
  | .local .tc .vmem, ⟨21, _⟩ => ⟨S1x1, .f32⟩
  | .local .tc .vmem, ⟨22, _⟩ => ⟨S2048x1, .f32⟩
  | .local .tc .vmem, ⟨23, _⟩ => ⟨S2048x1, .f32⟩
  | .local .scVector .vmem, ⟨0, _⟩ => ⟨S2x1x128, .i32⟩
  | .local .scVector .vmem, ⟨1, _⟩ => ⟨S2x128x16, .f32⟩
  | .local .scVector .vmem, ⟨2, _⟩ => ⟨S2x1x128, .i32⟩
  | .local .scVector .vmem, ⟨3, _⟩ => ⟨S2x128x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_v9 : Ref sig .tc := ⟨.hbm, 26, rfl⟩
abbrev main_v10 : Ref sig .tc := ⟨.hbm, 27, rfl⟩
abbrev main_c_4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v31_scv : Ref sig .scVector := ⟨.hbm, 50, rfl⟩
abbrev main_v34_scv : Ref sig .scVector := ⟨.hbm, 53, rfl⟩
abbrev main_v35_scv : Ref sig .scVector := ⟨.hbm, 54, rfl⟩
abbrev main_v33_scv : Ref sig .scVector := ⟨.hbm, 52, rfl⟩
abbrev main_v36_scv : Ref sig .scVector := ⟨.hbm, 55, rfl⟩
abbrev main_v37_scv : Ref sig .scVector := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc4_stg0_0 : Ref sig .tc := ⟨.vmem, 8, rfl⟩
abbrev cc4_stg0_1 : Ref sig .tc := ⟨.vmem, 9, rfl⟩
abbrev cc4_stg1_0 : Ref sig .tc := ⟨.vmem, 10, rfl⟩
abbrev cc4_stg1_1 : Ref sig .tc := ⟨.vmem, 11, rfl⟩
abbrev cc4_stg2_0 : Ref sig .tc := ⟨.vmem, 12, rfl⟩
abbrev cc4_stg3_0 : Ref sig .tc := ⟨.vmem, 13, rfl⟩
abbrev cc4_stg4_0 : Ref sig .tc := ⟨.vmem, 14, rfl⟩
abbrev cc4_stg5_0 : Ref sig .tc := ⟨.vmem, 15, rfl⟩
abbrev cc4_stg6_0 : Ref sig .tc := ⟨.vmem, 16, rfl⟩
abbrev cc4_stg7_0 : Ref sig .tc := ⟨.vmem, 17, rfl⟩
abbrev cc4_stg8_0 : Ref sig .tc := ⟨.vmem, 18, rfl⟩
abbrev cc4_stg9_0 : Ref sig .tc := ⟨.vmem, 19, rfl⟩
abbrev cc4_stg10_0 : Ref sig .tc := ⟨.vmem, 20, rfl⟩
abbrev cc4_stg11_0 : Ref sig .tc := ⟨.vmem, 21, rfl⟩
abbrev cc4_stg12_0 : Ref sig .tc := ⟨.vmem, 22, rfl⟩
abbrev cc4_stg12_1 : Ref sig .tc := ⟨.vmem, 23, rfl⟩
abbrev cc2_scoped0 : Ref sig .scVector := ⟨.vmem, 0, rfl⟩
abbrev cc2_scoped2 : Ref sig .scVector := ⟨.vmem, 1, rfl⟩
abbrev cc3_scoped0 : Ref sig .scVector := ⟨.vmem, 2, rfl⟩
abbrev cc3_scoped2 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc4_sem0_0 : DmaSem sig := 18
abbrev cc4_sem0_1 : DmaSem sig := 19
abbrev cc4_sem1_0 : DmaSem sig := 20
abbrev cc4_sem1_1 : DmaSem sig := 21
abbrev cc4_sem2_0 : DmaSem sig := 22
abbrev cc4_sem3_0 : DmaSem sig := 23
abbrev cc4_sem4_0 : DmaSem sig := 24
abbrev cc4_sem5_0 : DmaSem sig := 25
abbrev cc4_sem6_0 : DmaSem sig := 26
abbrev cc4_sem7_0 : DmaSem sig := 27
abbrev cc4_sem8_0 : DmaSem sig := 28
abbrev cc4_sem9_0 : DmaSem sig := 29
abbrev cc4_sem10_0 : DmaSem sig := 30
abbrev cc4_sem11_0 : DmaSem sig := 31
abbrev cc4_sem12_0 : DmaSem sig := 32
abbrev cc4_sem12_1 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![7], ![false]⟩

@[reducible] def k0_t1_loop : Scf.Loop 32 :=
  let c0_i32 : BitVec 32 := 0#32
  let c24_i32 : BitVec 32 := 24#32
  let v0 : BitVec 32 := Scalar.addi c0_i32 c24_i32
  let c1_i32 : BitVec 32 := 1#32
  ⟨c0_i32, v0, c1_i32⟩
def k0_off1 (k0_t1 : Fin k0_t1_loop.trips) : Fin 3 → Nat :=
  let c0_12 : Index := 0#32
  let c0_13 : Index := 0#32
  let c0_i32 : BitVec 32 := 0#32
  let c1_i32 : BitVec 32 := 1#32
  let arg3 : BitVec 32 := Scf.iv c0_i32 c1_i32 k0_t1
  let c4096_i32 : BitVec 32 := 4096#32
  let v50 : BitVec 32 := Scalar.muli arg3 c4096_i32
  let v51 : Index := Scalar.indexCast v50
  ![0, 0, v51.toNat]
def k0_off2 (k0_t1 : Fin k0_t1_loop.trips) : Fin 3 → Nat :=
  let c0_15 : Index := 0#32
  let c0_i32_14 : BitVec 32 := 0#32
  let c0_i32 : BitVec 32 := 0#32
  let c1_i32 : BitVec 32 := 1#32
  let arg3 : BitVec 32 := Scf.iv c0_i32 c1_i32 k0_t1
  let c512_i32 : BitVec 32 := 512#32
  let v64 : BitVec 32 := Scalar.muli arg3 c512_i32
  let v65 : BitVec 32 := Scalar.addi c0_i32_14 v64
  let v66 : Index := Scalar.indexCast v65
  let c0_16 : Index := 0#32
  ![0, v66.toNat, 0]
@[reducible] def k0_t2_loop : Scf.Loop 32 :=
  let c0_i32_4 : BitVec 32 := 0#32
  let c24_i32_5 : BitVec 32 := 24#32
  let v25 : BitVec 32 := Scalar.addi c0_i32_4 c24_i32_5
  let c1_i32_6 : BitVec 32 := 1#32
  ⟨c0_i32_4, v25, c1_i32_6⟩
def k0_off3 (k0_t2 : Fin k0_t2_loop.trips) : Fin 3 → Nat :=
  let c1_12 : Index := 1#32
  let c0_13 : Index := 0#32
  let c0_i32_4 : BitVec 32 := 0#32
  let c1_i32_6 : BitVec 32 := 1#32
  let arg3 : BitVec 32 := Scf.iv c0_i32_4 c1_i32_6 k0_t2
  let c4096_i32 : BitVec 32 := 4096#32
  let v50 : BitVec 32 := Scalar.muli arg3 c4096_i32
  let v51 : Index := Scalar.indexCast v50
  ![1, 0, v51.toNat]
def k0_off4 (k0_t2 : Fin k0_t2_loop.trips) : Fin 3 → Nat :=
  let c0_14 : Index := 0#32
  let c12500_i32 : BitVec 32 := 12500#32
  let c0_i32_4 : BitVec 32 := 0#32
  let c1_i32_6 : BitVec 32 := 1#32
  let arg3 : BitVec 32 := Scf.iv c0_i32_4 c1_i32_6 k0_t2
  let c512_i32 : BitVec 32 := 512#32
  let v64 : BitVec 32 := Scalar.muli arg3 c512_i32
  let v65 : BitVec 32 := Scalar.addi c12500_i32 v64
  let v66 : Index := Scalar.indexCast v65
  let c0_15 : Index := 0#32
  ![0, v66.toNat, 0]
def cc0_transform_0 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x25000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![6], ![false]⟩

@[reducible] def k1_t1_loop : Scf.Loop 32 :=
  let c0_i32 : BitVec 32 := 0#32
  let c24_i32 : BitVec 32 := 24#32
  let v0 : BitVec 32 := Scalar.addi c0_i32 c24_i32
  let c1_i32 : BitVec 32 := 1#32
  ⟨c0_i32, v0, c1_i32⟩
def k1_off1 (k1_t1 : Fin k1_t1_loop.trips) : Fin 3 → Nat :=
  let c0_12 : Index := 0#32
  let c0_13 : Index := 0#32
  let c0_i32 : BitVec 32 := 0#32
  let c1_i32 : BitVec 32 := 1#32
  let arg3 : BitVec 32 := Scf.iv c0_i32 c1_i32 k1_t1
  let c4096_i32 : BitVec 32 := 4096#32
  let v50 : BitVec 32 := Scalar.muli arg3 c4096_i32
  let v51 : Index := Scalar.indexCast v50
  ![0, 0, v51.toNat]
def k1_off2 (k1_t1 : Fin k1_t1_loop.trips) : Fin 3 → Nat :=
  let c0_15 : Index := 0#32
  let c0_i32_14 : BitVec 32 := 0#32
  let c0_i32 : BitVec 32 := 0#32
  let c1_i32 : BitVec 32 := 1#32
  let arg3 : BitVec 32 := Scf.iv c0_i32 c1_i32 k1_t1
  let c512_i32 : BitVec 32 := 512#32
  let v64 : BitVec 32 := Scalar.muli arg3 c512_i32
  let v65 : BitVec 32 := Scalar.addi c0_i32_14 v64
  let v66 : Index := Scalar.indexCast v65
  let c0_16 : Index := 0#32
  ![0, v66.toNat, 0]
@[reducible] def k1_t2_loop : Scf.Loop 32 :=
  let c0_i32_4 : BitVec 32 := 0#32
  let c24_i32_5 : BitVec 32 := 24#32
  let v25 : BitVec 32 := Scalar.addi c0_i32_4 c24_i32_5
  let c1_i32_6 : BitVec 32 := 1#32
  ⟨c0_i32_4, v25, c1_i32_6⟩
def k1_off3 (k1_t2 : Fin k1_t2_loop.trips) : Fin 3 → Nat :=
  let c1_12 : Index := 1#32
  let c0_13 : Index := 0#32
  let c0_i32_4 : BitVec 32 := 0#32
  let c1_i32_6 : BitVec 32 := 1#32
  let arg3 : BitVec 32 := Scf.iv c0_i32_4 c1_i32_6 k1_t2
  let c4096_i32 : BitVec 32 := 4096#32
  let v50 : BitVec 32 := Scalar.muli arg3 c4096_i32
  let v51 : Index := Scalar.indexCast v50
  ![1, 0, v51.toNat]
def k1_off4 (k1_t2 : Fin k1_t2_loop.trips) : Fin 3 → Nat :=
  let c0_14 : Index := 0#32
  let c12500_i32 : BitVec 32 := 12500#32
  let c0_i32_4 : BitVec 32 := 0#32
  let c1_i32_6 : BitVec 32 := 1#32
  let arg3 : BitVec 32 := Scf.iv c0_i32_4 c1_i32_6 k1_t2
  let c512_i32 : BitVec 32 := 512#32
  let v64 : BitVec 32 := Scalar.muli arg3 c512_i32
  let v65 : BitVec 32 := Scalar.addi c12500_i32 v64
  let v66 : Index := Scalar.indexCast v65
  let c0_15 : Index := 0#32
  ![0, v66.toNat, 0]
def cc1_transform_0 (i : grid1.Coords) : Fin 3 → Nat :=
  let arg0 : BitVec 32 := BitVec.ofNat 32 (i 0).val
  let c7_i32 : BitVec 32 := 7#32
  let v0 : BitVec 32 := Scalar.addi arg0 c7_i32
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x16x100000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x25000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k2_off2 (i : grid2.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v7_r0 : BitVec 32 := Scalar.addi c0_i32_1_r0 v4
  let v22_r0 : BitVec 32 := Scalar.muli c128_i32_r0 v7_r0
  ![0, v22_r0.toNat]
def k2_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k2_t1_loop : Scf.Loop 32 :=
  let c0_i32_26_r0 : BitVec 32 := 0#32
  let c56_i32_27_r0 : BitVec 32 := 56#32
  let v32_r0 : BitVec 32 := Scalar.addi c0_i32_26_r0 c56_i32_27_r0
  let c1_i32_28_r0 : BitVec 32 := 1#32
  ⟨c0_i32_26_r0, v32_r0, c1_i32_28_r0⟩
def k2_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k2_cond1 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c56_i32_62_r0 : BitVec 32 := 56#32
  let v74_r0 : BitVec 1 := Scalar.cmpi .eq v73_r0 c56_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c55_i32_68_r0 : BitVec 32 := 55#32
  let v83_r0 : BitVec 1 := Scalar.cmpi .sge arg5_r0 c55_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k2_off5 (i : grid2.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c56_i32_62_r0 : BitVec 32 := 56#32
  let v74_r0 : BitVec 1 := Scalar.cmpi .eq v73_r0 c56_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v76_r0 : BitVec 32 := Scalar.addi v75_r0 v4
  let v145_r0 : BitVec 32 := Scalar.muli c128_i32_100_r0 v76_r0
  ![0, v145_r0.toNat]
def k2_off6 (arg6_r0 : BitVec 32) : Fin 1 → Nat :=
  let c2_i32_99_r0 : BitVec 32 := 2#32
  let v144_r0 : BitVec 32 := Scalar.remui arg6_r0 c2_i32_99_r0
  ![v144_r0.toNat]
def k2_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k2_cond2 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c55_i32_59_r0 : BitVec 32 := 55#32
  let v70_r0 : BitVec 32 := Scalar.select v69_r0 c55_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k2_off8 (i : grid2.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v66_r0 : BitVec 32 := Scalar.addi arg10_r0 v4
  let v144_r0 : BitVec 32 := Scalar.muli c128_i32_99_r0 v66_r0
  ![0, v144_r0.toNat]
def k2_off9 (arg7_r0 : BitVec 32) : Fin 1 → Nat :=
  let c2_i32_100_r0 : BitVec 32 := 2#32
  let v145_r0 : BitVec 32 := Scalar.remui arg7_r0 c2_i32_100_r0
  ![v145_r0.toNat]
def k2_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k2_chk2 (arg8_r0 : BitVec 32) : Prop :=
  (∀ a, (k2_off10 arg8_r0) a + S1x128x16.size a ≤ S2x128x16.size a)
theorem k2_off10_inb : ∀ (arg8_r0 : BitVec 32) (k2_hw2 : k2_chk2 arg8_r0), ∀ a, (k2_off10 arg8_r0) a + S1x128x16.size a ≤ S2x128x16.size a := fun arg8_r0 k2_hw2 => k2_hw2

def k2_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k2_chk3 (arg7_r0 : BitVec 32) : Prop :=
  (∀ a, (k2_off11 arg7_r0) a + S1x1x128.size a ≤ S2x1x128.size a)
theorem k2_off11_inb : ∀ (arg7_r0 : BitVec 32) (k2_hw3 : k2_chk3 arg7_r0), ∀ a, (k2_off11 arg7_r0) a + S1x1x128.size a ≤ S2x1x128.size a := fun arg7_r0 k2_hw3 => k2_hw3

def k2_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k2_cond5 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c56_i32_62_r0 : BitVec 32 := 56#32
  let v74_r0 : BitVec 1 := Scalar.cmpi .eq v73_r0 c56_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k2_t1
  let c55_i32_55_r0 : BitVec 32 := 55#32
  let v65_r0 : BitVec 1 := Scalar.cmpi .eq arg5_r0 c55_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k2_off13 (i : grid2.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k2_off14 (arg8_r0 : BitVec 32) : Fin 1 → Nat :=
  let c2_i32_99_r0 : BitVec 32 := 2#32
  let v144_r0 : BitVec 32 := Scalar.remui arg8_r0 c2_i32_99_r0
  ![v144_r0.toNat]
def k2_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k2_cond7 (i : grid2.Coords) (k2_t1 : Fin k2_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c55_i32_59_r0 : BitVec 32 := 55#32
  let v70_r0 : BitVec 32 := Scalar.select v69_r0 c55_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k2_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k2_off16 (i : grid2.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c55_i32_59_r0 : BitVec 32 := 55#32
  let v70_r0 : BitVec 32 := Scalar.select v69_r0 c55_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v71_r0 : BitVec 32 := Scalar.addi v70_r0 v4
  let v145_r0 : BitVec 32 := Scalar.muli c128_i32_100_r0 v71_r0
  let c0_i32_103_r0 : BitVec 32 := 0#32
  ![v145_r0.toNat, 0]
def k2_off17 (arg9_r0 : BitVec 32) : Fin 1 → Nat :=
  let c2_i32_99_r0 : BitVec 32 := 2#32
  let v144_r0 : BitVec 32 := Scalar.remui arg9_r0 c2_i32_99_r0
  ![v144_r0.toNat]

def k2_chk1 (i : grid2.Coords) (k2_t1 : Fin k2_t1_loop.trips) (arg6_r0 : BitVec 32) (arg7_r0 : BitVec 32) (arg8_r0 : BitVec 32) (arg9_r0 : BitVec 32) (arg10_r0 : BitVec 32) : Prop :=
  (∀ (k2_h1 : k2_cond1 i k2_t1 arg10_r0 = 1#1), ∀ a, (k2_off4 arg6_r0) a + S1x1x128.size a ≤ S2x1x128.size a) ∧
  (∀ (k2_h1 : k2_cond1 i k2_t1 arg10_r0 = 1#1), ∀ a, (k2_off5 i arg10_r0) a + S1x128.size a ≤ S1x229376.size a) ∧
  (∀ (k2_h1 : k2_cond1 i k2_t1 arg10_r0 = 1#1), ∀ a, (k2_off6 arg6_r0) a + S1.size a ≤ S2.size a) ∧
  (∀ (k2_h2 : k2_cond2 i k2_t1 arg10_r0 = 1#1), ∀ a, (k2_off7 arg7_r0) a + S1x1x128.size a ≤ S2x1x128.size a) ∧
  (∀ (k2_h2 : k2_cond2 i k2_t1 arg10_r0 = 1#1), ∀ a, (k2_off8 i arg10_r0) a + S1x128.size a ≤ S1x229376.size a) ∧
  (∀ (k2_h2 : k2_cond2 i k2_t1 arg10_r0 = 1#1), ∀ a, (k2_off9 arg7_r0) a + S1.size a ≤ S2.size a) ∧
  (∀ (k2_h5 : k2_cond5 i k2_t1 arg10_r0 = 1#1), ∀ a, (k2_off12 arg8_r0) a + S1x128x16.size a ≤ S2x128x16.size a) ∧
  (∀ (k2_h5 : k2_cond5 i k2_t1 arg10_r0 = 1#1), ∀ a, (k2_off13 i arg10_r0) a + S128x16.size a ≤ S229376x16.size a) ∧
  (∀ (k2_h5 : k2_cond5 i k2_t1 arg10_r0 = 1#1), ∀ a, (k2_off14 arg8_r0) a + S1.size a ≤ S2.size a) ∧
  (∀ (k2_h7 : k2_cond7 i k2_t1 arg10_r0 = 1#1), ∀ a, (k2_off15 arg9_r0) a + S1x128x16.size a ≤ S2x128x16.size a) ∧
  (∀ (k2_h7 : k2_cond7 i k2_t1 arg10_r0 = 1#1), ∀ a, (k2_off16 i arg10_r0) a + S128x16.size a ≤ S229376x16.size a) ∧
  (∀ (k2_h7 : k2_cond7 i k2_t1 arg10_r0 = 1#1), ∀ a, (k2_off17 arg9_r0) a + S1.size a ≤ S2.size a)
theorem k2_off4_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off4 arg6_r0) a + S1x1x128.size a ≤ S2x1x128.size a := fun i k2_t1 arg6_r0 arg7_r0 arg8_r0 arg9_r0 arg10_r0 k2_hw1 k2_h1 => k2_hw1.1 k2_h1
theorem k2_off5_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off5 i arg10_r0) a + S1x128.size a ≤ S1x229376.size a := fun i k2_t1 arg6_r0 arg7_r0 arg8_r0 arg9_r0 arg10_r0 k2_hw1 k2_h1 => k2_hw1.2.1 k2_h1
theorem k2_off6_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i k2_t1 arg10_r0 = 1#1), ∀ a, (k2_off6 arg6_r0) a + S1.size a ≤ S2.size a := fun i k2_t1 arg6_r0 arg7_r0 arg8_r0 arg9_r0 arg10_r0 k2_hw1 k2_h1 => k2_hw1.2.2.1 k2_h1
theorem k2_off7_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off7 arg7_r0) a + S1x1x128.size a ≤ S2x1x128.size a := fun i k2_t1 arg6_r0 arg7_r0 arg8_r0 arg9_r0 arg10_r0 k2_hw1 k2_h2 => k2_hw1.2.2.2.1 k2_h2
theorem k2_off8_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off8 i arg10_r0) a + S1x128.size a ≤ S1x229376.size a := fun i k2_t1 arg6_r0 arg7_r0 arg8_r0 arg9_r0 arg10_r0 k2_hw1 k2_h2 => k2_hw1.2.2.2.2.1 k2_h2
theorem k2_off9_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h2 : k2_cond2 i k2_t1 arg10_r0 = 1#1), ∀ a, (k2_off9 arg7_r0) a + S1.size a ≤ S2.size a := fun i k2_t1 arg6_r0 arg7_r0 arg8_r0 arg9_r0 arg10_r0 k2_hw1 k2_h2 => k2_hw1.2.2.2.2.2.1 k2_h2
theorem k2_off12_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off12 arg8_r0) a + S1x128x16.size a ≤ S2x128x16.size a := fun i k2_t1 arg6_r0 arg7_r0 arg8_r0 arg9_r0 arg10_r0 k2_hw1 k2_h5 => k2_hw1.2.2.2.2.2.2.1 k2_h5
theorem k2_off13_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off13 i arg10_r0) a + S128x16.size a ≤ S229376x16.size a := fun i k2_t1 arg6_r0 arg7_r0 arg8_r0 arg9_r0 arg10_r0 k2_hw1 k2_h5 => k2_hw1.2.2.2.2.2.2.2.1 k2_h5
theorem k2_off14_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h5 : k2_cond5 i k2_t1 arg10_r0 = 1#1), ∀ a, (k2_off14 arg8_r0) a + S1.size a ≤ S2.size a := fun i k2_t1 arg6_r0 arg7_r0 arg8_r0 arg9_r0 arg10_r0 k2_hw1 k2_h5 => k2_hw1.2.2.2.2.2.2.2.2.1 k2_h5
theorem k2_off15_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off15 arg9_r0) a + S1x128x16.size a ≤ S2x128x16.size a := fun i k2_t1 arg6_r0 arg7_r0 arg8_r0 arg9_r0 arg10_r0 k2_hw1 k2_h7 => k2_hw1.2.2.2.2.2.2.2.2.2.1 k2_h7
theorem k2_off16_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off16 i arg10_r0) a + S128x16.size a ≤ S229376x16.size a := fun i k2_t1 arg6_r0 arg7_r0 arg8_r0 arg9_r0 arg10_r0 k2_hw1 k2_h7 => k2_hw1.2.2.2.2.2.2.2.2.2.2.1 k2_h7
theorem k2_off17_inb : ∀ (i : grid2.Coords) (k2_t1 : Fin k2_t1_loop.trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h7 : k2_cond7 i k2_t1 arg10_r0 = 1#1), ∀ a, (k2_off17 arg9_r0) a + S1.size a ≤ S2.size a := fun i k2_t1 arg6_r0 arg7_r0 arg8_r0 arg9_r0 arg10_r0 k2_hw1 k2_h7 => k2_hw1.2.2.2.2.2.2.2.2.2.2.2 k2_h7

def k2_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k2_off19 (i : grid2.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c55_i32_33_r0 : BitVec 32 := 55#32
  let v37_r0 : BitVec 32 := Scalar.select v36_r0 c55_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c56_i32 : BitVec 32 := 56#32
  let v4 : BitVec 32 := Scalar.muli v3 c56_i32
  let v38_r0 : BitVec 32 := Scalar.addi v37_r0 v4
  let v55_r0 : BitVec 32 := Scalar.muli c128_i32_47_r0 v38_r0
  let c0_i32_50_r0 : BitVec 32 := 0#32
  ![v55_r0.toNat, 0]

def k2_chk5 (i : grid2.Coords) (v33_4_r0 : BitVec 32) : Prop :=
  (∀ a, (k2_off19 i v33_4_r0) a + S128x16.size a ≤ S229376x16.size a)
theorem k2_off19_inb : ∀ (i : grid2.Coords) (v33_4_r0 : BitVec 32) (k2_hw5 : k2_chk5 i v33_4_r0), ∀ a, (k2_off19 i v33_4_r0) a + S128x16.size a ≤ S229376x16.size a := fun i v33_4_r0 k2_hw5 => k2_hw5

def k2_off20 (v33_3_r0 : BitVec 32) : Fin 1 → Nat :=
  let c2_i32_46_r0 : BitVec 32 := 2#32
  let v54_r0 : BitVec 32 := Scalar.remui v33_3_r0 c2_i32_46_r0
  ![v54_r0.toNat]
def k2_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k2_chk4 (v33_3_r0 : BitVec 32) : Prop :=
  (∀ a, (k2_off18 v33_3_r0) a + S1x128x16.size a ≤ S2x128x16.size a) ∧
  (∀ a, (k2_off20 v33_3_r0) a + S1.size a ≤ S2.size a) ∧
  (∀ a, (k2_off21 v33_3_r0) a + S1x128x16.size a ≤ S2x128x16.size a)
theorem k2_off18_inb : ∀ (v33_3_r0 : BitVec 32) (k2_hw4 : k2_chk4 v33_3_r0), ∀ a, (k2_off18 v33_3_r0) a + S1x128x16.size a ≤ S2x128x16.size a := fun v33_3_r0 k2_hw4 => k2_hw4.1
theorem k2_off20_inb : ∀ (v33_3_r0 : BitVec 32) (k2_hw4 : k2_chk4 v33_3_r0), ∀ a, (k2_off20 v33_3_r0) a + S1.size a ≤ S2.size a := fun v33_3_r0 k2_hw4 => k2_hw4.2.1
theorem k2_off21_inb : ∀ (v33_3_r0 : BitVec 32) (k2_hw4 : k2_chk4 v33_3_r0), ∀ a, (k2_off21 v33_3_r0) a + S1x128x16.size a ≤ S2x128x16.size a := fun v33_3_r0 k2_hw4 => k2_hw4.2.2

abbrev grid3 : Pipeline.Grid := ⟨2, ![2, 16], ![false, false]⟩

def k3_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k3_off2 (i : grid3.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v7_r0 : BitVec 32 := Scalar.addi c0_i32_1_r0 v4
  let v22_r0 : BitVec 32 := Scalar.muli c128_i32_r0 v7_r0
  ![0, v22_r0.toNat]
def k3_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k3_t1_loop : Scf.Loop 32 :=
  let c0_i32_26_r0 : BitVec 32 := 0#32
  let c48_i32_27_r0 : BitVec 32 := 48#32
  let v32_r0 : BitVec 32 := Scalar.addi c0_i32_26_r0 c48_i32_27_r0
  let c1_i32_28_r0 : BitVec 32 := 1#32
  ⟨c0_i32_26_r0, v32_r0, c1_i32_28_r0⟩
def k3_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k3_cond1 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c48_i32_62_r0 : BitVec 32 := 48#32
  let v74_r0 : BitVec 1 := Scalar.cmpi .eq v73_r0 c48_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c47_i32_68_r0 : BitVec 32 := 47#32
  let v83_r0 : BitVec 1 := Scalar.cmpi .sge arg5_r0 c47_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k3_off5 (i : grid3.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c48_i32_62_r0 : BitVec 32 := 48#32
  let v74_r0 : BitVec 1 := Scalar.cmpi .eq v73_r0 c48_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v76_r0 : BitVec 32 := Scalar.addi v75_r0 v4
  let v145_r0 : BitVec 32 := Scalar.muli c128_i32_100_r0 v76_r0
  ![0, v145_r0.toNat]
def k3_off6 (arg6_r0 : BitVec 32) : Fin 1 → Nat :=
  let c2_i32_99_r0 : BitVec 32 := 2#32
  let v144_r0 : BitVec 32 := Scalar.remui arg6_r0 c2_i32_99_r0
  ![v144_r0.toNat]
def k3_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k3_cond2 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c47_i32_59_r0 : BitVec 32 := 47#32
  let v70_r0 : BitVec 32 := Scalar.select v69_r0 c47_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k3_off8 (i : grid3.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v66_r0 : BitVec 32 := Scalar.addi arg10_r0 v4
  let v144_r0 : BitVec 32 := Scalar.muli c128_i32_99_r0 v66_r0
  ![0, v144_r0.toNat]
def k3_off9 (arg7_r0 : BitVec 32) : Fin 1 → Nat :=
  let c2_i32_100_r0 : BitVec 32 := 2#32
  let v145_r0 : BitVec 32 := Scalar.remui arg7_r0 c2_i32_100_r0
  ![v145_r0.toNat]
def k3_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k3_chk2 (arg8_r0 : BitVec 32) : Prop :=
  (∀ a, (k3_off10 arg8_r0) a + S1x128x16.size a ≤ S2x128x16.size a)
theorem k3_off10_inb : ∀ (arg8_r0 : BitVec 32) (k3_hw2 : k3_chk2 arg8_r0), ∀ a, (k3_off10 arg8_r0) a + S1x128x16.size a ≤ S2x128x16.size a := fun arg8_r0 k3_hw2 => k3_hw2

def k3_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k3_chk3 (arg7_r0 : BitVec 32) : Prop :=
  (∀ a, (k3_off11 arg7_r0) a + S1x1x128.size a ≤ S2x1x128.size a)
theorem k3_off11_inb : ∀ (arg7_r0 : BitVec 32) (k3_hw3 : k3_chk3 arg7_r0), ∀ a, (k3_off11 arg7_r0) a + S1x1x128.size a ≤ S2x1x128.size a := fun arg7_r0 k3_hw3 => k3_hw3

def k3_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k3_cond5 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c48_i32_62_r0 : BitVec 32 := 48#32
  let v74_r0 : BitVec 1 := Scalar.cmpi .eq v73_r0 c48_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k3_t1
  let c47_i32_55_r0 : BitVec 32 := 47#32
  let v65_r0 : BitVec 1 := Scalar.cmpi .eq arg5_r0 c47_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k3_off13 (i : grid3.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k3_off14 (arg8_r0 : BitVec 32) : Fin 1 → Nat :=
  let c2_i32_99_r0 : BitVec 32 := 2#32
  let v144_r0 : BitVec 32 := Scalar.remui arg8_r0 c2_i32_99_r0
  ![v144_r0.toNat]
def k3_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k3_cond7 (i : grid3.Coords) (k3_t1 : Fin k3_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c47_i32_59_r0 : BitVec 32 := 47#32
  let v70_r0 : BitVec 32 := Scalar.select v69_r0 c47_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k3_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k3_off16 (i : grid3.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c47_i32_59_r0 : BitVec 32 := 47#32
  let v70_r0 : BitVec 32 := Scalar.select v69_r0 c47_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v71_r0 : BitVec 32 := Scalar.addi v70_r0 v4
  let v145_r0 : BitVec 32 := Scalar.muli c128_i32_100_r0 v71_r0
  let c0_i32_103_r0 : BitVec 32 := 0#32
  ![v145_r0.toNat, 0]
def k3_off17 (arg9_r0 : BitVec 32) : Fin 1 → Nat :=
  let c2_i32_99_r0 : BitVec 32 := 2#32
  let v144_r0 : BitVec 32 := Scalar.remui arg9_r0 c2_i32_99_r0
  ![v144_r0.toNat]

def k3_chk1 (i : grid3.Coords) (k3_t1 : Fin k3_t1_loop.trips) (arg6_r0 : BitVec 32) (arg7_r0 : BitVec 32) (arg8_r0 : BitVec 32) (arg9_r0 : BitVec 32) (arg10_r0 : BitVec 32) : Prop :=
  (∀ (k3_h1 : k3_cond1 i k3_t1 arg10_r0 = 1#1), ∀ a, (k3_off4 arg6_r0) a + S1x1x128.size a ≤ S2x1x128.size a) ∧
  (∀ (k3_h1 : k3_cond1 i k3_t1 arg10_r0 = 1#1), ∀ a, (k3_off5 i arg10_r0) a + S1x128.size a ≤ S1x196608.size a) ∧
  (∀ (k3_h1 : k3_cond1 i k3_t1 arg10_r0 = 1#1), ∀ a, (k3_off6 arg6_r0) a + S1.size a ≤ S2.size a) ∧
  (∀ (k3_h2 : k3_cond2 i k3_t1 arg10_r0 = 1#1), ∀ a, (k3_off7 arg7_r0) a + S1x1x128.size a ≤ S2x1x128.size a) ∧
  (∀ (k3_h2 : k3_cond2 i k3_t1 arg10_r0 = 1#1), ∀ a, (k3_off8 i arg10_r0) a + S1x128.size a ≤ S1x196608.size a) ∧
  (∀ (k3_h2 : k3_cond2 i k3_t1 arg10_r0 = 1#1), ∀ a, (k3_off9 arg7_r0) a + S1.size a ≤ S2.size a) ∧
  (∀ (k3_h5 : k3_cond5 i k3_t1 arg10_r0 = 1#1), ∀ a, (k3_off12 arg8_r0) a + S1x128x16.size a ≤ S2x128x16.size a) ∧
  (∀ (k3_h5 : k3_cond5 i k3_t1 arg10_r0 = 1#1), ∀ a, (k3_off13 i arg10_r0) a + S128x16.size a ≤ S196608x16.size a) ∧
  (∀ (k3_h5 : k3_cond5 i k3_t1 arg10_r0 = 1#1), ∀ a, (k3_off14 arg8_r0) a + S1.size a ≤ S2.size a) ∧
  (∀ (k3_h7 : k3_cond7 i k3_t1 arg10_r0 = 1#1), ∀ a, (k3_off15 arg9_r0) a + S1x128x16.size a ≤ S2x128x16.size a) ∧
  (∀ (k3_h7 : k3_cond7 i k3_t1 arg10_r0 = 1#1), ∀ a, (k3_off16 i arg10_r0) a + S128x16.size a ≤ S196608x16.size a) ∧
  (∀ (k3_h7 : k3_cond7 i k3_t1 arg10_r0 = 1#1), ∀ a, (k3_off17 arg9_r0) a + S1.size a ≤ S2.size a)
theorem k3_off4_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off4 arg6_r0) a + S1x1x128.size a ≤ S2x1x128.size a := fun i k3_t1 arg6_r0 arg7_r0 arg8_r0 arg9_r0 arg10_r0 k3_hw1 k3_h1 => k3_hw1.1 k3_h1
theorem k3_off5_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off5 i arg10_r0) a + S1x128.size a ≤ S1x196608.size a := fun i k3_t1 arg6_r0 arg7_r0 arg8_r0 arg9_r0 arg10_r0 k3_hw1 k3_h1 => k3_hw1.2.1 k3_h1
theorem k3_off6_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i k3_t1 arg10_r0 = 1#1), ∀ a, (k3_off6 arg6_r0) a + S1.size a ≤ S2.size a := fun i k3_t1 arg6_r0 arg7_r0 arg8_r0 arg9_r0 arg10_r0 k3_hw1 k3_h1 => k3_hw1.2.2.1 k3_h1
theorem k3_off7_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off7 arg7_r0) a + S1x1x128.size a ≤ S2x1x128.size a := fun i k3_t1 arg6_r0 arg7_r0 arg8_r0 arg9_r0 arg10_r0 k3_hw1 k3_h2 => k3_hw1.2.2.2.1 k3_h2
theorem k3_off8_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off8 i arg10_r0) a + S1x128.size a ≤ S1x196608.size a := fun i k3_t1 arg6_r0 arg7_r0 arg8_r0 arg9_r0 arg10_r0 k3_hw1 k3_h2 => k3_hw1.2.2.2.2.1 k3_h2
theorem k3_off9_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h2 : k3_cond2 i k3_t1 arg10_r0 = 1#1), ∀ a, (k3_off9 arg7_r0) a + S1.size a ≤ S2.size a := fun i k3_t1 arg6_r0 arg7_r0 arg8_r0 arg9_r0 arg10_r0 k3_hw1 k3_h2 => k3_hw1.2.2.2.2.2.1 k3_h2
theorem k3_off12_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off12 arg8_r0) a + S1x128x16.size a ≤ S2x128x16.size a := fun i k3_t1 arg6_r0 arg7_r0 arg8_r0 arg9_r0 arg10_r0 k3_hw1 k3_h5 => k3_hw1.2.2.2.2.2.2.1 k3_h5
theorem k3_off13_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off13 i arg10_r0) a + S128x16.size a ≤ S196608x16.size a := fun i k3_t1 arg6_r0 arg7_r0 arg8_r0 arg9_r0 arg10_r0 k3_hw1 k3_h5 => k3_hw1.2.2.2.2.2.2.2.1 k3_h5
theorem k3_off14_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h5 : k3_cond5 i k3_t1 arg10_r0 = 1#1), ∀ a, (k3_off14 arg8_r0) a + S1.size a ≤ S2.size a := fun i k3_t1 arg6_r0 arg7_r0 arg8_r0 arg9_r0 arg10_r0 k3_hw1 k3_h5 => k3_hw1.2.2.2.2.2.2.2.2.1 k3_h5
theorem k3_off15_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off15 arg9_r0) a + S1x128x16.size a ≤ S2x128x16.size a := fun i k3_t1 arg6_r0 arg7_r0 arg8_r0 arg9_r0 arg10_r0 k3_hw1 k3_h7 => k3_hw1.2.2.2.2.2.2.2.2.2.1 k3_h7
theorem k3_off16_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off16 i arg10_r0) a + S128x16.size a ≤ S196608x16.size a := fun i k3_t1 arg6_r0 arg7_r0 arg8_r0 arg9_r0 arg10_r0 k3_hw1 k3_h7 => k3_hw1.2.2.2.2.2.2.2.2.2.2.1 k3_h7
theorem k3_off17_inb : ∀ (i : grid3.Coords) (k3_t1 : Fin k3_t1_loop.trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h7 : k3_cond7 i k3_t1 arg10_r0 = 1#1), ∀ a, (k3_off17 arg9_r0) a + S1.size a ≤ S2.size a := fun i k3_t1 arg6_r0 arg7_r0 arg8_r0 arg9_r0 arg10_r0 k3_hw1 k3_h7 => k3_hw1.2.2.2.2.2.2.2.2.2.2.2 k3_h7

def k3_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k3_off19 (i : grid3.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c47_i32_33_r0 : BitVec 32 := 47#32
  let v37_r0 : BitVec 32 := Scalar.select v36_r0 c47_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c48_i32 : BitVec 32 := 48#32
  let v4 : BitVec 32 := Scalar.muli v3 c48_i32
  let v38_r0 : BitVec 32 := Scalar.addi v37_r0 v4
  let v55_r0 : BitVec 32 := Scalar.muli c128_i32_47_r0 v38_r0
  let c0_i32_50_r0 : BitVec 32 := 0#32
  ![v55_r0.toNat, 0]

def k3_chk5 (i : grid3.Coords) (v33_4_r0 : BitVec 32) : Prop :=
  (∀ a, (k3_off19 i v33_4_r0) a + S128x16.size a ≤ S196608x16.size a)
theorem k3_off19_inb : ∀ (i : grid3.Coords) (v33_4_r0 : BitVec 32) (k3_hw5 : k3_chk5 i v33_4_r0), ∀ a, (k3_off19 i v33_4_r0) a + S128x16.size a ≤ S196608x16.size a := fun i v33_4_r0 k3_hw5 => k3_hw5

def k3_off20 (v33_3_r0 : BitVec 32) : Fin 1 → Nat :=
  let c2_i32_46_r0 : BitVec 32 := 2#32
  let v54_r0 : BitVec 32 := Scalar.remui v33_3_r0 c2_i32_46_r0
  ![v54_r0.toNat]
def k3_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k3_chk4 (v33_3_r0 : BitVec 32) : Prop :=
  (∀ a, (k3_off18 v33_3_r0) a + S1x128x16.size a ≤ S2x128x16.size a) ∧
  (∀ a, (k3_off20 v33_3_r0) a + S1.size a ≤ S2.size a) ∧
  (∀ a, (k3_off21 v33_3_r0) a + S1x128x16.size a ≤ S2x128x16.size a)
theorem k3_off18_inb : ∀ (v33_3_r0 : BitVec 32) (k3_hw4 : k3_chk4 v33_3_r0), ∀ a, (k3_off18 v33_3_r0) a + S1x128x16.size a ≤ S2x128x16.size a := fun v33_3_r0 k3_hw4 => k3_hw4.1
theorem k3_off20_inb : ∀ (v33_3_r0 : BitVec 32) (k3_hw4 : k3_chk4 v33_3_r0), ∀ a, (k3_off20 v33_3_r0) a + S1.size a ≤ S2.size a := fun v33_3_r0 k3_hw4 => k3_hw4.2.1
theorem k3_off21_inb : ∀ (v33_3_r0 : BitVec 32) (k3_hw4 : k3_chk4 v33_3_r0), ∀ a, (k3_off21 v33_3_r0) a + S1x128x16.size a ≤ S2x128x16.size a := fun v33_3_r0 k3_hw4 => k3_hw4.2.2

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x224 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S3x416 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S3x416 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S416x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S256x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x64 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S480x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S2048x1 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S16384x26 : Shape := ⟨2, ![16384, 26]⟩
abbrev S26x100000x16 : Shape := ⟨3, ![26, 100000, 16]⟩
abbrev S3x416 : Shape := ⟨2, ![3, 416]⟩
abbrev S416x256 : Shape := ⟨2, ![416, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S480x1 : Shape := ⟨2, ![480, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x16 : Shape := ⟨3, ![16384, 26, 16]⟩
abbrev S16384x416 : Shape := ⟨2, ![16384, 416]⟩
abbrev S1x416 : Shape := ⟨2, ![1, 416]⟩
abbrev S416 : Shape := ⟨1, ![416]⟩
abbrev S16384 : Shape := ⟨1, ![16384]⟩
abbrev S16384x1 : Shape := ⟨2, ![16384, 1]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x480 : Shape := ⟨2, ![16384, 480]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100000x16, .f32⟩
  | .hbm, ⟨2, _⟩ => ⟨S3x416, .f32⟩
  | .hbm, ⟨3, _⟩ => ⟨S3x416, .f32⟩
  | .hbm, ⟨4, _⟩ => ⟨S416x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S480x1, .f32⟩
  | .hbm, ⟨11, _⟩ => ⟨S1, .f32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S1x26, .i32⟩
  | .hbm, ⟨16, _⟩ => ⟨S1x26, .i1⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S1x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26x1, .i32⟩
  | .hbm, ⟨30, _⟩ => ⟨S16384x26x1, .i32⟩
  | .hbm, ⟨31, _⟩ => ⟨S16384x26x2, .i32⟩
  | .hbm, ⟨32, _⟩ => ⟨S16384x26x16, .f32⟩
  | .hbm, ⟨33, _⟩ => ⟨S16384x416, .f32⟩
  | .hbm, ⟨34, _⟩ => ⟨S1x416, .f32⟩
  | .hbm, ⟨35, _⟩ => ⟨S416, .f32⟩
  | .hbm, ⟨36, _⟩ => ⟨S16384, .f32⟩
  | .hbm, ⟨37, _⟩ => ⟨S16384x1, .f32⟩
  | .hbm, ⟨38, _⟩ => ⟨S16384x416, .f32⟩
  | .hbm, ⟨39, _⟩ => ⟨S16384x416, .f32⟩
  | .hbm, ⟨40, _⟩ => ⟨S1x416, .f32⟩
  | .hbm, ⟨41, _⟩ => ⟨S416, .f32⟩
  | .hbm, ⟨42, _⟩ => ⟨S1x416, .f32⟩
  | .hbm, ⟨43, _⟩ => ⟨S16384x416, .f32⟩
  | .hbm, ⟨44, _⟩ => ⟨S16384x416, .f32⟩
  | .hbm, ⟨45, _⟩ => ⟨S16384x416, .f32⟩
  | .hbm, ⟨46, _⟩ => ⟨S1x416, .f32⟩
  | .hbm, ⟨47, _⟩ => ⟨S416, .f32⟩
  | .hbm, ⟨48, _⟩ => ⟨S16384, .f32⟩
  | .hbm, ⟨49, _⟩ => ⟨S16384x1, .f32⟩
  | .hbm, ⟨50, _⟩ => ⟨S16384x416, .f32⟩
  | .hbm, ⟨51, _⟩ => ⟨S16384x416, .f32⟩
  | .hbm, ⟨52, _⟩ => ⟨S1x416, .f32⟩
  | .hbm, ⟨53, _⟩ => ⟨S416, .f32⟩
  | .hbm, ⟨54, _⟩ => ⟨S1x416, .f32⟩
  | .hbm, ⟨55, _⟩ => ⟨S16384x416, .f32⟩
  | .hbm, ⟨56, _⟩ => ⟨S16384x416, .f32⟩
  | .hbm, ⟨57, _⟩ => ⟨S16384x416, .f32⟩
  | .hbm, ⟨58, _⟩ => ⟨S1x416, .f32⟩
  | .hbm, ⟨59, _⟩ => ⟨S416, .f32⟩
  | .hbm, ⟨60, _⟩ => ⟨S16384, .f32⟩
  | .hbm, ⟨61, _⟩ => ⟨S16384x1, .f32⟩
  | .hbm, ⟨62, _⟩ => ⟨S16384x416, .f32⟩
  | .hbm, ⟨63, _⟩ => ⟨S16384x416, .f32⟩
  | .hbm, ⟨64, _⟩ => ⟨S1x416, .f32⟩
  | .hbm, ⟨65, _⟩ => ⟨S416, .f32⟩
  | .hbm, ⟨66, _⟩ => ⟨S1x416, .f32⟩
  | .hbm, ⟨67, _⟩ => ⟨S16384x416, .f32⟩
  | .hbm, ⟨68, _⟩ => ⟨S16384x416, .f32⟩
  | .hbm, ⟨69, _⟩ => ⟨S16384x416, .f32⟩
  | .hbm, ⟨70, _⟩ => ⟨S16384x256, .f32⟩
  | .hbm, ⟨71, _⟩ => ⟨S1x256, .f32⟩
  | .hbm, ⟨72, _⟩ => ⟨S16384x256, .f32⟩
  | .hbm, ⟨73, _⟩ => ⟨S16384x256, .f32⟩
  | .hbm, ⟨74, _⟩ => ⟨S_, .f32⟩
  | .hbm, ⟨75, _⟩ => ⟨S16384x256, .f32⟩
  | .hbm, ⟨76, _⟩ => ⟨S16384x256, .f32⟩
  | .hbm, ⟨77, _⟩ => ⟨S16384x128, .f32⟩
  | .hbm, ⟨78, _⟩ => ⟨S1x128, .f32⟩
  | .hbm, ⟨79, _⟩ => ⟨S16384x128, .f32⟩
  | .hbm, ⟨80, _⟩ => ⟨S16384x128, .f32⟩
  | .hbm, ⟨81, _⟩ => ⟨S_, .f32⟩
  | .hbm, ⟨82, _⟩ => ⟨S16384x128, .f32⟩
  | .hbm, ⟨83, _⟩ => ⟨S16384x128, .f32⟩
  | .hbm, ⟨84, _⟩ => ⟨S16384x64, .f32⟩
  | .hbm, ⟨85, _⟩ => ⟨S1x64, .f32⟩
  | .hbm, ⟨86, _⟩ => ⟨S16384x64, .f32⟩
  | .hbm, ⟨87, _⟩ => ⟨S16384x64, .f32⟩
  | .hbm, ⟨88, _⟩ => ⟨S_, .f32⟩
  | .hbm, ⟨89, _⟩ => ⟨S16384x64, .f32⟩
  | .hbm, ⟨90, _⟩ => ⟨S16384x64, .f32⟩
  | .hbm, ⟨91, _⟩ => ⟨S16384x480, .f32⟩
  | .hbm, ⟨92, _⟩ => ⟨S16384x1, .f32⟩
  | .hbm, ⟨93, _⟩ => ⟨S1x1, .f32⟩
  | .hbm, ⟨94, _⟩ => ⟨S16384x1, .f32⟩
  | .hbm, ⟨95, _⟩ => ⟨S16384x1, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S_, .f32⟩
  | .hbm, ⟨102, _⟩ => ⟨S16384x1, .f32⟩
  | .hbm, ⟨103, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_call0_cst : Ref sig .tc := ⟨.hbm, 74, rfl⟩
abbrev main_call0_v0 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call1_cst : Ref sig .tc := ⟨.hbm, 81, rfl⟩
abbrev main_call1_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call2_cst : Ref sig .tc := ⟨.hbm, 88, rfl⟩
abbrev main_call2_v0 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst : Ref sig .tc := ⟨.hbm, 98, rfl⟩
abbrev main_v76 : Ref sig .tc := ⟨.hbm, 99, rfl⟩
abbrev main_v77 : Ref sig .tc := ⟨.hbm, 100, rfl⟩
abbrev main_cst_3 : Ref sig .tc := ⟨.hbm, 101, rfl⟩
abbrev main_v78 : Ref sig .tc := ⟨.hbm, 102, rfl⟩
abbrev main_v79 : Ref sig .tc := ⟨.hbm, 103, rfl⟩

abbrev nD : Nat := 1
abbrev τ : Topo := Topo.v7x

variable {F : FTy → Type} [FloatOps F]
-- ==== Proof.Common.lean ====
/-
  What every part of the proof shares: the program as the launch theorem sees it (three TensorCore grids and two
  SparseCore calls in one @main), the user algebra (the SparseCore handshakes, the grids' staging rounds, the
  transfers' counters), and its three embeddings.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.SL.BI.BigOpNat
public import Idealize.ShloMosaic.Lib.ShareLeaves
public import Idealize.ShloMosaic.Lib.VecWindow
public import Idealize.ShloMosaic.Lib.ViewIndex
public import Idealize.ShloMosaic.Lib.Pipeline.ValueKit
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- The labels of the program's TensorCore side: the three grids' over the kernels' own. -/
abbrev ΛP : Labels := Pipeline.Sig Λ₀ (Fin 3) fun p => (pcfgs (F := F) p).Adm
/-- The two SparseCore calls. -/
abbrev K : SparseCore.Cfg τ sig (ΛP (F := F)) 2 := sc (F := F)
/-- What the labels mean: the grids' pipelines over the kernels' bodies. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and outlive a call, and no call's task shares a scoped buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
/-- The user component: the handshakes', the staging cells', the local transfers'. -/
abbrev UU : Type := (UH × UP) × Counters

/-- The machine's algebra at this program. -/
abbrev MM (F : FTy → Type) : Type := MT nD τ sig (HIx 2) (Elt F) ℕ UU ℕ

abbrev EH : Emb UH (MM F) := (Emb.inl : Emb UH (UH × UP)).trans embL
abbrev EP : Emb UP (MM F) := (Emb.inr : Emb UP (UH × UP)).trans embL

instance EH_landsIn : (EH : Emb UH (MM F)).LandsIn (upEmb : UEmb _ (MM F)) := inferInstance
instance EP_landsIn : (EP : Emb UP (MM F)).LandsIn (upEmb : UEmb _ (MM F)) := inferInstance

/-- An index of a rank-two shape, from its coordinates. -/
def ix2 {a b : ℕ} (i : Fin a) (j : Fin b) : (⟨2, ![a, b]⟩ : Shape).Idx := Fin.cases i (Fin.cases j fun x => x.elim0)

/-- Every index of a rank-two shape is made of its coordinates. -/
theorem eq_ix2 {a b : ℕ} (x : (⟨2, ![a, b]⟩ : Shape).Idx) : x = ix2 (x 0) (x 1) := by
  funext k
  match k with
  | 0 => rfl
  | 1 => rfl

end Cert.Proof

end

end
-- ==== Proof.Ring.lean ====
/-
  The double-buffered row gather that both SparseCore calls run, stated once over any table height and index count:
  the blocks and slots it addresses, what a task holds between two trips, and one rule per memory step of a trip.
-/
module

public import proofs.«01_k».proof.Proof.Common

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Unit-stride slices of a memref at equal offsets are the same memref. -/
theorem slice_off {κ : Kind} {sp : Space} {s : Shape} {e : EltTy} (m : Memref sig κ sp s e) {off off' size : Fin s.rank → ℕ} (h : off = off')
    {i : ∀ a, off a + size a ≤ s.size a} {i' : ∀ a, off' a + size a ≤ s.size a} :
    m.slice (Rect.unit off size i) (fun _ => rfl) = m.slice (Rect.unit off' size i') (fun _ => rfl) := by
  subst h; rfl
/-- One semaphore of a pair, named at equal offsets. -/
theorem sem_off (m : DmaSems sig S2) {off off' : Fin 1 → ℕ} (h : off = off')
    {i : ∀ a, off a + S1.size a ≤ S2.size a} {i' : ∀ a, off' a + S1.size a ≤ S2.size a} :
    ((m.slice (Rect.unit (s := S2) off S1.size i)).squeeze S_ squeezes_S1_S_).sem
      = ((m.slice (Rect.unit (s := S2) off' S1.size i')).squeeze S_ squeezes_S1_S_).sem := by
  subst h; rfl

/-- The flat list of a one-row block of 128, index by index. -/
theorem list_row : ∀ j : Fin 128, Shape.reshapeEquiv squeezes_S1x128_S128.numel_eq (S128.rowMajor.symm j) = ix2 (0 : Fin 1) j := by
  decide +kernel

/-- One task's operands: a table of `rows` rows of sixteen, `M` blocks of 128 indices and of 128 output rows, the two
    slots of its index scratch and of its row scratch with their semaphores, and the range of blocks it does. -/
structure Ring where
  rows : ℕ
  n : ℕ
  M : ℕ
  hn : n = 128 * M
  hM : 0 < M
  tab : Memref sig .scVector .hbm (⟨2, ![rows, 16]⟩ : Shape) .f32
  idx : Memref sig .scVector .hbm (⟨2, ![1, n]⟩ : Shape) .i32
  out : Memref sig .scVector .hbm (⟨2, ![n, 16]⟩ : Shape) .f32
  ib : Memref sig .scVector .vmem S2x1x128 .i32
  isems : DmaSems sig S2
  ob : Memref sig .scVector .vmem S2x128x16 .f32
  osems : DmaSems sig S2
  gsem : DmaSem sig
  b0 : ℕ
  NB : ℕ

namespace Ring

variable (R : Ring)

theorem inbT (a : Fin 2) : (![0, 0] : Fin 2 → ℕ) a + (![R.rows, 16] : Fin 2 → ℕ) a ≤ (⟨2, ![R.rows, 16]⟩ : Shape).size a := by
  match a with
  | 0 => exact (Nat.zero_add _).le
  | 1 => exact (Nat.zero_add _).le

/-- The whole table, as the gather names it. -/
abbrev tabV : Memref sig .scVector .hbm (⟨2, ![R.rows, 16]⟩ : Shape) .f32 :=
  R.tab.slice (Rect.unit (s := ⟨2, ![R.rows, 16]⟩) ![0, 0] ![R.rows, 16] R.inbT) (fun _ => rfl)

abbrev ioff (b : ℕ) : Fin 2 → ℕ := ![0, 128 * (b % R.M)]
theorem inbI (b : ℕ) (a : Fin 2) : R.ioff b a + S1x128.size a ≤ (⟨2, ![1, R.n]⟩ : Shape).size a := by
  have h := Nat.mod_lt b R.hM
  have := R.hn
  match a with
  | 0 => exact le_refl 1
  | 1 => show 128 * (b % R.M) + 128 ≤ R.n; omega
/-- Block `b` of the indices. -/
abbrev idxBlk (b : ℕ) : Memref sig .scVector .hbm S1x128 .i32 :=
  R.idx.slice (Rect.unit (s := ⟨2, ![1, R.n]⟩) (R.ioff b) S1x128.size (R.inbI b)) (fun _ => rfl)

abbrev ooff (b : ℕ) : Fin 2 → ℕ := ![128 * (b % R.M), 0]
theorem inbO (b : ℕ) (a : Fin 2) : R.ooff b a + S128x16.size a ≤ (⟨2, ![R.n, 16]⟩ : Shape).size a := by
  have h := Nat.mod_lt b R.hM
  have := R.hn
  match a with
  | 0 => show 128 * (b % R.M) + 128 ≤ R.n; omega
  | 1 => exact le_refl 16
/-- Block `b` of the output rows. -/
abbrev outBlk (b : ℕ) : Memref sig .scVector .hbm S128x16 .f32 :=
  R.out.slice (Rect.unit (s := ⟨2, ![R.n, 16]⟩) (R.ooff b) S128x16.size (R.inbO b)) (fun _ => rfl)

abbrev soff (t : ℕ) : Fin 3 → ℕ := ![t % 2, 0, 0]
abbrev qoff (t : ℕ) : Fin 1 → ℕ := ![t % 2]
theorem inbIb (t : ℕ) (a : Fin 3) : soff t a + S1x1x128.size a ≤ S2x1x128.size a := by
  have h := Nat.mod_lt t (show 0 < 2 by decide)
  match a with
  | 0 => show t % 2 + 1 ≤ 2; omega
  | 1 => exact le_refl 1
  | 2 => exact le_refl 128
theorem inbOb (t : ℕ) (a : Fin 3) : soff t a + S1x128x16.size a ≤ S2x128x16.size a := by
  have h := Nat.mod_lt t (show 0 < 2 by decide)
  match a with
  | 0 => show t % 2 + 1 ≤ 2; omega
  | 1 => exact le_refl 128
  | 2 => exact le_refl 16
theorem inbQ (t : ℕ) (a : Fin 1) : qoff t a + S1.size a ≤ S2.size a := by
  have h := Nat.mod_lt t (show 0 < 2 by decide)
  match a with
  | 0 => show t % 2 + 1 ≤ 2; omega

/-- The slot of the index scratch that trip `t` uses. -/
abbrev ibSlot (t : ℕ) : Memref sig .scVector .vmem S1x128 .i32 :=
  (R.ib.slice (Rect.unit (s := S2x1x128) (soff t) S1x1x128.size (inbIb t)) (fun _ => rfl)).squeeze S1x128 squeezes_S1x1x128_S1x128
/-- The same slot as the gather's list. -/
abbrev lst (t : ℕ) : Memref sig .scVector .vmem S128 .i32 :=
  ((R.ibSlot t).slice (Rect.unit (s := S1x128) ![0, 0] S1x128.size inb_S1x128_S1x128_0_0) (fun _ => rfl)).squeeze S128 squeezes_S1x128_S128
/-- The slot of the row scratch that trip `t` uses. -/
abbrev obSlot (t : ℕ) : Memref sig .scVector .vmem S128x16 .f32 :=
  (R.ob.slice (Rect.unit (s := S2x128x16) (soff t) S1x128x16.size (inbOb t)) (fun _ => rfl)).squeeze S128x16 squeezes_S1x128x16_S128x16
/-- The semaphores of trip `t`'s slots. -/
abbrev isem (t : ℕ) : DmaSem sig := ((R.isems.slice (Rect.unit (s := S2) (qoff t) S1.size (inbQ t))).squeeze S_ squeezes_S1_S_).sem
abbrev osem (t : ℕ) : DmaSem sig := ((R.osems.slice (Rect.unit (s := S2) (qoff t) S1.size (inbQ t))).squeeze S_ squeezes_S1_S_).sem

theorem ibSlot_congr {t t' : ℕ} (h : t % 2 = t' % 2) : R.ibSlot t = R.ibSlot t' :=
  congrArg (fun m => Memref.squeeze m S1x128 squeezes_S1x1x128_S1x128) (slice_off _ (by rw [soff, soff, h]))
theorem obSlot_congr {t t' : ℕ} (h : t % 2 = t' % 2) : R.obSlot t = R.obSlot t' :=
  congrArg (fun m => Memref.squeeze m S128x16 squeezes_S1x128x16_S128x16) (slice_off _ (by rw [soff, soff, h]))
theorem isem_congr {t t' : ℕ} (h : t % 2 = t' % 2) : R.isem t = R.isem t' := sem_off _ (by rw [qoff, qoff, h])
theorem osem_congr {t t' : ℕ} (h : t % 2 = t' % 2) : R.osem t = R.osem t' := sem_off _ (by rw [qoff, qoff, h])

theorem set_lst (t : ℕ) : (R.lst t).view.set = (R.ibSlot t).view.set := by
  show (((R.ibSlot t).view.slice (Rect.unit (s := S1x128) ![0, 0] S1x128.size inb_S1x128_S1x128_0_0)).reshape S128 _).set = _
  rw [View.set_reshape, View.set_slice, Rect.set_eq_univ_of_whole]
  · rfl
  · intro a; match a with
    | 0 => exact ⟨rfl, rfl, rfl⟩
    | 1 => exact ⟨rfl, rfl, rfl⟩

/-! ## What a task holds -/

variable (d : Dev nD) (cc : Fin τ.nSC) (jj : Fin τ.nSub)

variable (q : PosShare TreeShare) (fT : Buf (Elt F) (R.tab.view.loc (V d cc jj))) (fI : Buf (Elt F) (R.idx.view.loc (V d cc jj)))
  (G : Buf (Elt F) (R.out.view.loc (V d cc jj)))

/-- What the output is to hold: row `r` is the table's row that index `r` names. -/
def Goal : Prop := ∀ (r : Fin R.n) (e : Fin 16) (k : Fin R.rows), (R.idx.view.read (Elt F) fI (ix2 0 r)).toNat = k.val →
  R.out.view.read (Elt F) G (ix2 r e) = R.tab.view.read (Elt F) fT (ix2 k e)
/-- Every index names a row of the table. -/
def InRange : Prop := ∀ r : Fin R.n, (R.idx.view.read (Elt F) fI (ix2 0 r)).toNat < R.rows

abbrev idxPts (b : ℕ) : sProp (MM F) := R.idx.view.loc (V d cc jj) ↦[(R.idxBlk b).view.set]{fullShare} fI
abbrev outTodo (b : ℕ) : sProp (MM F) := iprop(∃ f : Buf (Elt F) (R.out.view.loc (V d cc jj)), R.out.view.loc (V d cc jj) ↦[(R.outBlk b).view.set]{fullShare} f)
abbrev outDone (b : ℕ) : sProp (MM F) := R.out.view.loc (V d cc jj) ↦[(R.outBlk b).view.set]{fullShare} G
abbrev tabPts : sProp (MM F) := R.tab.view.loc (V d cc jj) ↦[R.tabV.view.set]{q} fT
abbrev ibAny (t : ℕ) : sProp (MM F) := iprop(∃ f : Buf (Elt F) (R.ib.view.loc (V d cc jj)), R.ib.view.loc (V d cc jj) ↦[(R.ibSlot t).view.set]{fullShare} f)
abbrev ibFull (t b : ℕ) : sProp (MM F) := iprop(∃ f : Buf (Elt F) (R.ib.view.loc (V d cc jj)),
  (R.ib.view.loc (V d cc jj) ↦[(R.ibSlot t).view.set]{fullShare} f) ∗ ⌜(R.ibSlot t).view.read (Elt F) f = (R.idxBlk b).view.read (Elt F) fI⌝)
abbrev obAny (t : ℕ) : sProp (MM F) := iprop(∃ f : Buf (Elt F) (R.ob.view.loc (V d cc jj)), R.ob.view.loc (V d cc jj) ↦[(R.obSlot t).view.set]{fullShare} f)
abbrev obFull (t b : ℕ) : sProp (MM F) := iprop(∃ f : Buf (Elt F) (R.ob.view.loc (V d cc jj)),
  (R.ob.view.loc (V d cc jj) ↦[(R.obSlot t).view.set]{fullShare} f) ∗ ⌜(R.obSlot t).view.read (Elt F) f = (R.outBlk b).view.read (Elt F) G⌝)
abbrev inFree (t : ℕ) : sProp (MM F) := iprop(semVal (V d cc jj, SemLoc.dma (R.isem t)) 0 ∗ R.ibAny d cc jj t)
abbrev outFree (t : ℕ) : sProp (MM F) := iprop(semVal (V d cc jj, SemLoc.dma (R.osem t)) 0 ∗ R.obAny d cc jj t)
abbrev inFly (t b : ℕ) : sProp (MM F) :=
  Transfers.Flight countersEmb (V d cc jj) (.dma (R.isem t)) (none : HIx 2) (R.ibSlot t).view.dmaCredit iprop(R.ibFull d cc jj fI t b ∗ R.idxPts d cc jj fI b)
abbrev outFly (t b : ℕ) : sProp (MM F) :=
  Transfers.Flight countersEmb (V d cc jj) (.dma (R.osem t)) (none : HIx 2) (R.outBlk b).view.dmaCredit iprop(R.obAny d cc jj t ∗ R.outDone d cc jj G b)

variable (O : CellTallies nD τ sig (HIx 2)) (W : Waits sig (HIx 2))

abbrev owesUp : sProp (MM F) := iprop(∃ W', ⌜∀ p ∈ W', p ∈ W ∨ p.2 = none⌝ ∗ owes (V d cc jj) O W')
abbrev MW : sProp (MM F) := Transfers.MayWaits (V d cc jj) (none : HIx 2) O

/-! ## The steps -/

variable {α : Type} {Q : α → sProp (MM F)}

/-- A tile program's weakest precondition. -/
abbrev tileWp {α : Type} (d : Dev nD) (cc : Fin τ.nSC) (jj : Fin τ.nSub) (Q : α → sProp (MM F)) (p : Prog (TpuEff nD τ sig (Elt F) Λ₀ (.scVector cc jj)) α) :
    sProp (MM F) := wp frame (wpE (defs₀ (F := F)) 𝒱₀ (V d cc jj) none) Set.univ p Q

/-- Issuing the copy of index block `b` into slot `t`. -/
theorem step_in (t b : ℕ) {src : Memref sig .scVector .hbm S1x128 .i32} (h1 : src = R.idxBlk b)
    {dst : Memref sig .scVector .vmem S1x128 .i32} (h2 : dst = R.ibSlot t) {sm : DmaSem sig} (h3 : sm = R.isem t)
    {hsrc : src.view.WordExact} {hdst : dst.view.WordExact} {hsem : DmaTarget.Typed (nD := nD) (τ := τ) (p := .scVector cc jj) .hbm (.dma sm) (.here dst)}
    {k : PUnit → Prog (TpuEff nD τ sig (Elt F) Λ₀ (.scVector cc jj)) α} :
    iprop(R.inFree (F := F) d cc jj t ∗ R.idxPts d cc jj fI b)
      ⊢ iprop((R.inFly d cc jj fI t b -∗ tileWp d cc jj Q (k ⟨⟩)) -∗ tileWp d cc jj Q (.op (.enqueueDmaAs src (.here dst) .same (.dma sm) hsrc hdst hsem) k)) := by
  subst h1 h2 h3
  iintro ⟨⟨Hv, %f, Hib⟩, Hi⟩ Hk
  iapply (Transfers.wp_dmaLocal countersEmb 𝒱₀ (V d cc jj) none (src := R.idxBlk b) (dst := R.ibSlot t) (via := .same) (none : HIx 2)
    (R.ibSlot t).view.dmaCredit rfl (View.dmaCredit_pos _ (by decide)) (le_refl _)) $$ [Hi Hib Hv]
  · isplitl [Hi]; · iexact Hi
    isplitl [Hib]; · iexact Hib
    iexact Hv
  iintro Hf
  iapply Hk
  iapply (Transfers.Flight_mono countersEmb (V d cc jj) ?_) $$ Hf
  iintro ⟨H1, H2⟩
  isplitl [H1]
  · iexists _
    isplitl [H1]; · iexact H1
    ipureintro
    exact View.read_write_univ _ _
  · iexact H2

/-- Waiting for the copy of index block `b` into slot `t`. -/
theorem step_waitIn (hO : ∀ g, O g none = 0) (t b : ℕ) {src : Memref sig .scVector .hbm S1x128 .i32}
    {dst : Memref sig .scVector .vmem S1x128 .i32} (h2 : dst = R.ibSlot t) {sm : DmaSem sig} (h3 : sm = R.isem t)
    {hsrc : src.view.WordExact} {hdst : dst.view.WordExact}
    {k : PUnit → Prog (TpuEff nD τ sig (Elt F) Λ₀ (.scVector cc jj)) α} :
    iprop(R.inFly (F := F) d cc jj fI t b ∗ owesUp d cc jj O W ∗ MW d cc jj O)
      ⊢ iprop((iprop(semVal (V d cc jj, SemLoc.dma (R.isem t)) 0 ∗ R.ibFull d cc jj fI t b ∗ R.idxPts d cc jj fI b ∗ owesUp d cc jj O W) -∗ tileWp d cc jj Q (k ⟨⟩))
        -∗ tileWp d cc jj Q (.op (.waitDma2 sm src dst hsrc hdst) k)) := by
  subst h2 h3
  iintro ⟨Hf, ⟨%W', %hW, HO⟩, Hmw⟩ Hk
  iapply (Transfers.wp_waitLocalO countersEmb 𝒱₀ (V d cc jj) none (none : HIx 2) rfl) $$ [Hf HO Hmw]
  · isplitl [Hf]; · iexact Hf
    isplitl [HO]; · iexact HO
    iapply (Transfers.MayWaits.elim (.dma (R.isem t))); iexact Hmw
  iintro ⟨⟨H1, H2⟩, Hv, HO⟩
  iapply Hk
  isplitl [Hv]; · iexact Hv
  isplitl [H1]; · iexact H1
  isplitl [H2]; · iexact H2
  iexists insert (SemLoc.dma (R.isem t), none) W'
  isplitr
  · ipureintro
    exact fun p hp => (Finset.mem_insert.mp hp).elim (fun e => .inr (by rw [e])) (hW p)
  · iexact HO

/-- Issuing the copy of slot `t` out to output block `b`. -/
theorem step_out (t b : ℕ) {src : Memref sig .scVector .vmem S128x16 .f32} (h1 : src = R.obSlot t)
    {dst : Memref sig .scVector .hbm S128x16 .f32} (h2 : dst = R.outBlk b) {sm : DmaSem sig} (h3 : sm = R.osem t)
    {hsrc : src.view.WordExact} {hdst : dst.view.WordExact} {hsem : DmaTarget.Typed (nD := nD) (τ := τ) (p := .scVector cc jj) .vmem (.dma sm) (.here dst)}
    {k : PUnit → Prog (TpuEff nD τ sig (Elt F) Λ₀ (.scVector cc jj)) α} :
    iprop(semVal (V d cc jj, SemLoc.dma (R.osem t)) 0 ∗ R.obFull d cc jj G t b ∗ R.outTodo (F := F) d cc jj b)
      ⊢ iprop((R.outFly d cc jj G t b -∗ tileWp d cc jj Q (k ⟨⟩)) -∗ tileWp d cc jj Q (.op (.enqueueDmaAs src (.here dst) .same (.dma sm) hsrc hdst hsem) k)) := by
  subst h1 h2 h3
  iintro ⟨Hv, ⟨%f, Hob, %hf⟩, %f', Ho⟩ Hk
  iapply (Transfers.wp_dmaLocal countersEmb 𝒱₀ (V d cc jj) none (src := R.obSlot t) (dst := R.outBlk b) (via := .same) (none : HIx 2)
    (R.outBlk b).view.dmaCredit rfl (View.dmaCredit_pos _ (by decide)) (le_refl _)) $$ [Hob Ho Hv]
  · isplitl [Hob]; · iexact Hob
    isplitl [Ho]; · iexact Ho
    iexact Hv
  iintro Hf
  iapply Hk
  iapply (Transfers.Flight_mono countersEmb (V d cc jj) ?_) $$ Hf
  iintro ⟨H1, H2⟩
  isplitl [H2]
  · iexists _; iexact H2
  · iapply (Entails.of_eq (pointsTo_congr ?_)) $$ H1
    intro i hi
    obtain ⟨x, -, rfl⟩ := Finset.mem_map.mp hi
    refine View.eq_of_read_eq (v := (R.outBlk b).view) ?_
    rw [View.read_write_univ]
    exact congrFun hf x

/-- Waiting for the copy of slot `t` out to output block `b`. -/
theorem step_waitOut (hO : ∀ g, O g none = 0) (t b : ℕ) {src : Memref sig .scVector .vmem S128x16 .f32}
    {dst : Memref sig .scVector .hbm S128x16 .f32} (h2 : dst = R.outBlk b) {sm : DmaSem sig} (h3 : sm = R.osem t)
    {hsrc : src.view.WordExact} {hdst : dst.view.WordExact}
    {k : PUnit → Prog (TpuEff nD τ sig (Elt F) Λ₀ (.scVector cc jj)) α} :
    iprop(R.outFly (F := F) d cc jj G t b ∗ owesUp d cc jj O W ∗ MW d cc jj O)
      ⊢ iprop((iprop(R.outFree d cc jj t ∗ R.outDone d cc jj G b ∗ owesUp d cc jj O W) -∗ tileWp d cc jj Q (k ⟨⟩))
        -∗ tileWp d cc jj Q (.op (.waitDma2 sm src dst hsrc hdst) k)) := by
  subst h2 h3
  iintro ⟨Hf, ⟨%W', %hW, HO⟩, Hmw⟩ Hk
  iapply (Transfers.wp_waitLocalO countersEmb 𝒱₀ (V d cc jj) none (none : HIx 2) rfl) $$ [Hf HO Hmw]
  · isplitl [Hf]; · iexact Hf
    isplitl [HO]; · iexact HO
    iapply (Transfers.MayWaits.elim (.dma (R.osem t))); iexact Hmw
  iintro ⟨⟨H1, H2⟩, Hv, HO⟩
  iapply Hk
  isplitl [H1 Hv]
  · isplitl [Hv]; · iexact Hv
    iexact H1
  isplitl [H2]; · iexact H2
  iexists insert (SemLoc.dma (R.osem t), none) W'
  isplitr
  · ipureintro
    exact fun p hp => (Finset.mem_insert.mp hp).elim (fun e => .inr (by rw [e])) (hW p)
  · iexact HO

/-- Index block `b`, entry by entry. -/
theorem read_idxBlk (b : ℕ) (j : Fin 128) (hr : 128 * (b % R.M) + j.val < R.n) :
    (R.idxBlk b).view.read (Elt F) fI (ix2 0 j) = R.idx.view.read (Elt F) fI (ix2 0 ⟨128 * (b % R.M) + j.val, hr⟩) := by
  show R.idx.view.read (Elt F) fI ((Rect.unit (s := ⟨2, ![1, R.n]⟩) (R.ioff b) S1x128.size (R.inbI b)).emb (ix2 0 j)) = _
  congr 1
  funext a
  match a with
  | 0 => exact Fin.ext (by rw [ValueKit.rect_emb_unit_val]; rfl)
  | 1 => exact Fin.ext (by rw [ValueKit.rect_emb_unit_val]; rfl)

/-- Output block `b`, entry by entry. -/
theorem read_outBlk (b : ℕ) (j : Fin 128) (e : Fin 16) (hr : 128 * (b % R.M) + j.val < R.n) :
    (R.outBlk b).view.read (Elt F) G (ix2 j e) = R.out.view.read (Elt F) G (ix2 ⟨128 * (b % R.M) + j.val, hr⟩ e) := by
  show R.out.view.read (Elt F) G ((Rect.unit (s := ⟨2, ![R.n, 16]⟩) (R.ooff b) S128x16.size (R.inbO b)).emb (ix2 j e)) = _
  congr 1
  funext a
  match a with
  | 0 => exact Fin.ext (by rw [ValueKit.rect_emb_unit_val]; rfl)
  | 1 => exact Fin.ext (by rw [ValueKit.rect_emb_unit_val]; exact Nat.zero_add _)

/-- The table through its whole slice. -/
theorem read_tabV (k : Fin R.rows) (e : Fin 16) : R.tabV.view.read (Elt F) fT (ix2 k e) = R.tab.view.read (Elt F) fT (ix2 k e) := by
  show R.tab.view.read (Elt F) fT ((Rect.unit (s := ⟨2, ![R.rows, 16]⟩) ![0, 0] ![R.rows, 16] R.inbT).emb (ix2 k e)) = _
  congr 1
  funext a
  match a with
  | 0 => exact Fin.ext (by rw [ValueKit.rect_emb_unit_val]; exact Nat.zero_add _)
  | 1 => exact Fin.ext (by rw [ValueKit.rect_emb_unit_val]; exact Nat.zero_add _)

theorem row_lt (b : ℕ) (j : Fin 128) : 128 * (b % R.M) + j.val < R.n := by
  have h := Nat.mod_lt b R.hM
  have := R.hn
  have := j.isLt
  omega

/-- The list in slot `t` once index block `b` has landed there. -/
theorem read_lst (t b : ℕ) (f : Buf (Elt F) (R.ib.view.loc (V d cc jj)))
    (hf : (R.ibSlot t).view.read (Elt F) f = (R.idxBlk b).view.read (Elt F) fI) (j : Fin 128) :
    (R.lst t).view.read (Elt F) f (S128.rowMajor.symm j) = R.idx.view.read (Elt F) fI (ix2 0 ⟨_, R.row_lt b j⟩) := by
  rw [← R.read_idxBlk d cc jj fI b j, ← hf, Memref.read_squeeze_full]
  exact congrArg _ (list_row j)

/-- Gathering the rows that the list in slot `t` names into slot `t` of the row scratch, and waiting for them. -/
theorem step_gather (hO : ∀ g, O g none = 0) (hG : R.Goal d cc jj fT fI G) (hI : R.InRange d cc jj fI) (t b : ℕ)
    {src : Memref sig .scVector .hbm (⟨2, ![R.rows, 16]⟩ : Shape) .f32} (h1 : src = R.tabV)
    {dst : Memref sig .scVector .vmem S128x16 .f32} (h2 : dst = R.obSlot t)
    {ls : Memref sig .scVector .vmem S128 .i32} (h3 : ls = R.lst t) {sm : DmaSem sig} (h4 : sm = R.gsem)
    {src' : Memref sig .scVector .hbm (⟨2, ![R.rows, 16]⟩ : Shape) .f32}
    {dst' : Memref sig .scVector .vmem S128x16 .f32} (h2' : dst' = R.obSlot t)
    {hg : (⟨2, ![R.rows, 16]⟩ : Shape).Gathers 0 S128x16} {hn : S128.numel = S128x16.size hg.axis'}
    {hp : (Proc.scVector cc jj : Proc τ).kind = .scVector} {hsrc : src.view.WordExact} {he : (EltTy.f32).bits = 32} {hsp : Space.hbm = .hbm ∨ Space.hbm = .shared}
    {hr : (⟨2, ![R.rows, 16]⟩ : Shape).StreamRows 0}
    {hsrc' : src'.view.WordExact} {hdst' : dst'.view.WordExact}
    {k : PUnit → Prog (TpuEff nD τ sig (Elt F) Λ₀ (.scVector cc jj)) α} :
    iprop(semVal (V d cc jj, SemLoc.dma R.gsem) 0 ∗ R.tabPts d cc jj q fT ∗ R.ibFull d cc jj fI t b ∗ R.obAny (F := F) d cc jj t
        ∗ owesUp d cc jj O W ∗ MW d cc jj O)
      ⊢ iprop((iprop(semVal (V d cc jj, SemLoc.dma R.gsem) 0 ∗ R.tabPts d cc jj q fT ∗ R.ibAny d cc jj t ∗ R.obFull d cc jj G t b
            ∗ owesUp d cc jj O W) -∗ tileWp d cc jj Q (k ⟨⟩))
        -∗ tileWp d cc jj Q (SparseCore.enqueueIndirectGather hp src dst hg ls hn sm hsrc he hsp hr
          >>= fun _ => .op (.waitDma2 sm src' dst' hsrc' hdst') k)) := by
  subst h1 h2 h3 h4 h2'
  iintro ⟨Hv, HT, ⟨%fl, Hl, %hfl⟩, ⟨%fo, Ho⟩, ⟨%W', %hW, HO⟩, Hmw⟩ Hk
  have hin : ∀ x, ((R.lst t).view.read (Elt F) fl x).toNat < (⟨2, ![R.rows, 16]⟩ : Shape).size hg.axis := by
    intro x
    obtain ⟨j, rfl⟩ := S128.rowMajor.symm.surjective x
    rw [show (R.lst t).view.read (Elt F) fl (S128.rowMajor.symm j) = _ from R.read_lst d cc jj fI t b fl hfl j]
    exact hI _
  ihave Hl' := (Entails.of_eq (show (R.ib.view.loc (V d cc jj) ↦[(R.ibSlot t).view.set]{fullShare} fl : sProp (MM F))
    = (R.lst t).view.loc (V d cc jj) ↦[(R.lst t).view.set]{fullShare} fl by rw [set_lst])) $$ Hl
  iapply (SparseCore.wp_indirectGatherLocal countersEmb 𝒱₀ (V d cc jj) none (hg := hg) (none : HIx 2) (R.obSlot t).view.dmaCredit
    (SparseCore.sum_rowCredit_eq_dmaCredit _ _ (fun _ => rfl)) (by decide) hin) $$ [HT Ho Hl' Hv]
  · isplitl [HT]; · iexact HT
    isplitl [Ho]; · iexact Ho
    isplitl [Hl']; · iexact Hl'
    iexact Hv
  iintro Hf
  iapply (Transfers.wp_waitLocalO countersEmb 𝒱₀ (V d cc jj) none (none : HIx 2) rfl) $$ [Hf HO Hmw]
  · isplitl [Hf]; · iexact Hf
    isplitl [HO]; · iexact HO
    iapply (Transfers.MayWaits.elim (.dma R.gsem)); iexact Hmw
  iintro ⟨⟨H1, H2, H3⟩, Hv, HO⟩
  iapply Hk
  isplitl [Hv]; · iexact Hv
  isplitl [H2]; · iexact H2
  isplitl [H3]
  · iexists fl
    iapply (Entails.of_eq (show ((R.lst t).view.loc (V d cc jj) ↦[(R.lst t).view.set]{fullShare} fl : sProp (MM F))
      = R.ib.view.loc (V d cc jj) ↦[(R.ibSlot t).view.set]{fullShare} fl by rw [set_lst])); iexact H3
  isplitl [H1]
  · iexists _
    isplitl [H1]; · iexact H1
    ipureintro
    refine (View.read_write_univ _ _).trans ?_
    funext x
    obtain ⟨j, e, rfl⟩ : ∃ (j : Fin 128) (e : Fin 16), x = (ix2 j e : S128x16.Idx) := ⟨x 0, x 1, eq_ix2 x⟩
    rw [R.read_outBlk d cc jj G b _ _ (R.row_lt b _)]
    have hk := R.read_lst d cc jj fI t b fl hfl j
    rw [hG ⟨_, R.row_lt b j⟩ e ⟨_, hI _⟩ rfl, ← R.read_tabV d cc jj fT]
    show R.tabV.view.read (Elt F) fT (hg.idx _ _) = _
    congr 1
    funext a
    match a with
    | 0 => exact Fin.ext (by simp only [← hk]; rfl)
    | 1 => rfl
  iexists insert (SemLoc.dma (R.gsem), none) W'
  isplitr
  · ipureintro
    exact fun p hp => (Finset.mem_insert.mp hp).elim (fun e => .inr (by rw [e])) (hW p)
  · iexact HO

end Ring

end Cert.Proof

end

end
-- ==== Proof.Trip.lean ====
/-
  One trip of the double-buffered row gather, in five phases, over what a task holds before trip `t`: the copy of
  index block `t` on its way in, the copy of row block `t - 1` on its way out, the blocks done and the blocks to do.
-/
module

public import proofs.«01_k».proof.Proof.Ring

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- A bind pushed into both branches of a conditional. -/
theorem bind_dite {E : Type → Type} {β γ : Type} {c : Prop} [Decidable c] (p : c → Prog E β) (q : ¬c → Prog E β) (k : β → Prog E γ) :
    (dite c p q >>= k) = dite c (fun h => p h >>= k) (fun h => q h >>= k) := by split <;> rfl
theorem bind_dite' {E : Type → Type} {β γ : Type} {c : Prop} [Decidable c] (p : c → Prog E β) (q : ¬c → Prog E β) (k : β → Prog E γ) :
    (dite c p q).bind k = dite c (fun h => (p h).bind k) (fun h => (q h).bind k) := by split <;> rfl

namespace Ring

variable (R : Ring) (d : Dev nD) (cc : Fin τ.nSC) (jj : Fin τ.nSub)
variable (q : PosShare TreeShare) (fT : Buf (Elt F) (R.tab.view.loc (V d cc jj))) (fI : Buf (Elt F) (R.idx.view.loc (V d cc jj)))
  (G : Buf (Elt F) (R.out.view.loc (V d cc jj))) (O : CellTallies nD τ sig (HIx 2)) (W : Waits sig (HIx 2))

/-- What does not change hands in a trip, and the gather's own semaphore at rest. -/
def base : sProp (MM F) := iprop(MW d cc jj O ∗ owesUp d cc jj O W ∗ R.tabPts d cc jj q fT ∗ semVal (V d cc jj, SemLoc.dma R.gsem) 0)
/-- Index block `t` on its way in, if there is one. -/
def inSide (t : ℕ) : sProp (MM F) := if t < R.NB then R.inFly d cc jj fI t (R.b0 + t) else R.inFree d cc jj t
/-- Row block `t - 1` on its way out, if there is one. -/
def outSide (t : ℕ) : sProp (MM F) := if t = 0 then R.outFree d cc jj (t + 1) else R.outFly d cc jj G (t + 1) (R.b0 + (t - 1))
def idxFrom (a b : ℕ) : sProp (MM F) := bigSep (Finset.Ico a b) fun u => R.idxPts d cc jj fI (R.b0 + u)
def todo (t : ℕ) : sProp (MM F) := bigSep (Finset.Ico t R.NB) fun u => R.outTodo (F := F) d cc jj (R.b0 + u)
def done (t : ℕ) : sProp (MM F) := bigSep (Finset.range t) fun u => R.outDone d cc jj G (R.b0 + u)

/-- What a task holds before trip `t`. -/
def INV (t : ℕ) : sProp (MM F) := iprop(R.base d cc jj q fT O W ∗ R.inSide d cc jj fI t ∗ R.inFree d cc jj (t + 1) ∗ R.outFree d cc jj t
  ∗ R.outSide d cc jj G t ∗ R.idxFrom d cc jj fI 0 t ∗ R.idxFrom d cc jj fI (t + 1) R.NB ∗ R.todo (F := F) d cc jj t ∗ R.done d cc jj G (t - 1))
/-- After the next index block's copy is issued. -/
def INV1 (t : ℕ) : sProp (MM F) := iprop(R.base d cc jj q fT O W ∗ R.inFly d cc jj fI t (R.b0 + t) ∗ R.inSide d cc jj fI (t + 1) ∗ R.outFree d cc jj t
  ∗ R.outSide d cc jj G t ∗ R.idxFrom d cc jj fI 0 t ∗ R.idxFrom d cc jj fI (t + 2) R.NB ∗ R.todo (F := F) d cc jj t ∗ R.done d cc jj G (t - 1))
/-- After this index block has come in. -/
def INV2 (t : ℕ) : sProp (MM F) := iprop(R.base d cc jj q fT O W ∗ semVal (V d cc jj, SemLoc.dma (R.isem t)) 0 ∗ R.ibFull d cc jj fI t (R.b0 + t)
  ∗ R.inSide d cc jj fI (t + 1) ∗ R.outFree d cc jj t
  ∗ R.outSide d cc jj G t ∗ R.idxFrom d cc jj fI 0 (t + 1) ∗ R.idxFrom d cc jj fI (t + 2) R.NB ∗ R.todo (F := F) d cc jj t ∗ R.done d cc jj G (t - 1))
/-- After the rows are gathered. -/
def INV3 (t : ℕ) : sProp (MM F) := iprop(R.base d cc jj q fT O W ∗ R.inFree d cc jj (t + 2) ∗ semVal (V d cc jj, SemLoc.dma (R.osem t)) 0
  ∗ R.obFull d cc jj G t (R.b0 + t) ∗ R.inSide d cc jj fI (t + 1)
  ∗ R.outSide d cc jj G t ∗ R.idxFrom d cc jj fI 0 (t + 1) ∗ R.idxFrom d cc jj fI (t + 2) R.NB ∗ R.todo (F := F) d cc jj t ∗ R.done d cc jj G (t - 1))
/-- After their copy out is issued. -/
def INV4 (t : ℕ) : sProp (MM F) := iprop(R.base d cc jj q fT O W ∗ R.inFree d cc jj (t + 2) ∗ R.outSide d cc jj G (t + 1) ∗ R.inSide d cc jj fI (t + 1)
  ∗ R.outSide d cc jj G t ∗ R.idxFrom d cc jj fI 0 (t + 1) ∗ R.idxFrom d cc jj fI (t + 2) R.NB ∗ R.todo (F := F) d cc jj (t + 1) ∗ R.done d cc jj G (t - 1))

theorem mod2 (t : ℕ) : (t + 2) % 2 = t % 2 := Nat.add_mod_right t 2

theorem set_ib {off off' : Fin 3 → ℕ} (h : off = off') {i : ∀ a, off a + S1x1x128.size a ≤ S2x1x128.size a} {i' : ∀ a, off' a + S1x1x128.size a ≤ S2x1x128.size a} :
    ((R.ib.slice (Rect.unit (s := S2x1x128) off S1x1x128.size i) (fun _ => rfl)).squeeze S1x128 squeezes_S1x1x128_S1x128).view.set
      = ((R.ib.slice (Rect.unit (s := S2x1x128) off' S1x1x128.size i') (fun _ => rfl)).squeeze S1x128 squeezes_S1x1x128_S1x128).view.set := by
  subst h; rfl
theorem set_ob {off off' : Fin 3 → ℕ} (h : off = off') {i : ∀ a, off a + S1x128x16.size a ≤ S2x128x16.size a} {i' : ∀ a, off' a + S1x128x16.size a ≤ S2x128x16.size a} :
    ((R.ob.slice (Rect.unit (s := S2x128x16) off S1x128x16.size i) (fun _ => rfl)).squeeze S128x16 squeezes_S1x128x16_S128x16).view.set
      = ((R.ob.slice (Rect.unit (s := S2x128x16) off' S1x128x16.size i') (fun _ => rfl)).squeeze S128x16 squeezes_S1x128x16_S128x16).view.set := by
  subst h; rfl
theorem ibAny_two (t : ℕ) : R.ibAny (F := F) d cc jj (t + 2) = R.ibAny d cc jj t := by
  unfold ibAny
  rw [show (R.ibSlot (t + 2)).view.set = (R.ibSlot t).view.set from R.set_ib (by rw [soff, soff, mod2])]
theorem obAny_two (t : ℕ) : R.obAny (F := F) d cc jj (t + 2) = R.obAny d cc jj t := by
  unfold obAny
  rw [show (R.obSlot (t + 2)).view.set = (R.obSlot t).view.set from R.set_ob (by rw [soff, soff, mod2])]
theorem inFree_two (t : ℕ) : R.inFree (F := F) d cc jj (t + 2) = R.inFree d cc jj t := by
  unfold inFree; rw [ibAny_two, R.isem_congr (mod2 t)]
theorem outFree_two (t : ℕ) : R.outFree (F := F) d cc jj (t + 2) = R.outFree d cc jj t := by
  unfold outFree; rw [obAny_two, R.osem_congr (mod2 t)]
theorem outFly_two (t b : ℕ) : R.outFly (F := F) d cc jj G (t + 2) b = R.outFly d cc jj G t b := by
  unfold outFly; rw [obAny_two, R.osem_congr (mod2 t)]

variable {α : Type} {Q : α → sProp (MM F)}

/-- A conditional whose two branches meet again. -/
theorem step_opt {c : Prop} [Decidable c] {p : c → Prog (TpuEff nD τ sig (Elt F) Λ₀ (.scVector cc jj)) α}
    {k : Prog (TpuEff nD τ sig (Elt F) Λ₀ (.scVector cc jj)) α} {A B : sProp (MM F)}
    (h1 : ∀ h : c, A ⊢ iprop((B -∗ tileWp d cc jj Q k) -∗ tileWp d cc jj Q (p h))) (h2 : ¬c → A ⊢ B) : A ⊢ iprop((B -∗ tileWp d cc jj Q k) -∗ tileWp d cc jj Q (dite c p fun _ => k)) := by
  split
  · next h => exact h1 h
  · next h =>
    iintro HA Hk
    iapply Hk
    iapply (h2 h) $$ HA

/-- A check that holds is passed. -/
theorem step_assume {P : Prop} {dec : Decidable P} (h : P) {k : PLift P → Prog (TpuEff nD τ sig (Elt F) Λ₀ (.scVector cc jj)) α} :
    (tileWp d cc jj Q (k ⟨h⟩)) ⊢ tileWp d cc jj Q (.op (.assume P dec) k) := by
  exact Entails.of_eq (wp_assume_of 𝒱₀ (V d cc jj) none Set.univ h).symm

/-- Phase 1: the next index block's copy is issued if there is a next block. -/
theorem phase1 (t : ℕ) (ht : t < R.NB) {c : Prop} [Decidable c] (hc : c ↔ t + 1 < R.NB) {src : c → Memref sig .scVector .hbm S1x128 .i32}
    (h1 : ∀ h, src h = R.idxBlk (R.b0 + (t + 1))) {dst : c → Memref sig .scVector .vmem S1x128 .i32} (h2 : ∀ h, dst h = R.ibSlot (t + 1))
    {sm : c → DmaSem sig} (h3 : ∀ h, sm h = R.isem (t + 1)) {hsrc : ∀ h, (src h).view.WordExact} {hdst : ∀ h, (dst h).view.WordExact}
    {hsem : ∀ h, DmaTarget.Typed (nD := nD) (τ := τ) (p := .scVector cc jj) .hbm (.dma (sm h)) (.here (dst h))}
    {k : Prog (TpuEff nD τ sig (Elt F) Λ₀ (.scVector cc jj)) α} :
    R.INV d cc jj q fT fI G O W t ⊢ iprop((R.INV1 d cc jj q fT fI G O W t -∗ tileWp d cc jj Q k)
      -∗ tileWp d cc jj Q (dite c (fun h => .op (.enqueueDmaAs (src h) (.here (dst h)) .same (.dma (sm h)) (hsrc h) (hdst h) (hsem h)) fun _ => k) fun _ => k)) := by
  refine step_opt d cc jj (fun h => ?_) (fun h => ?_)
  · have hl := hc.mp h
    unfold INV INV1
    simp only [inSide, if_pos ht, if_pos hl, idxFrom]
    rw [bigSep_Ico_succ_bot hl]
    iintro ⟨Hb, Hi, Hf, Ho, Hs, Hd, ⟨Hx, Hr⟩, Ht, Hg⟩ Hk
    iapply (R.step_in d cc jj fI (t + 1) (R.b0 + (t + 1)) (h1 h) (h2 h) (h3 h)) $$ [Hf Hx]
    · isplitl [Hf]; · iexact Hf
      iexact Hx
    iintro Hf
    iapply Hk
    isplitl [Hb]; · iexact Hb
    isplitl [Hi]; · iexact Hi
    isplitl [Hf]; · iexact Hf
    isplitl [Ho]; · iexact Ho
    isplitl [Hs]; · iexact Hs
    isplitl [Hd]; · iexact Hd
    isplitl [Hr]; · iexact Hr
    isplitl [Ht]; · iexact Ht
    iexact Hg
  · have hl : ¬t + 1 < R.NB := fun h' => h (hc.mpr h')
    unfold INV INV1
    simp only [inSide, if_pos ht, if_neg hl, idxFrom, Finset.Ico_eq_empty_of_le (show R.NB ≤ t + 1 by omega),
      Finset.Ico_eq_empty_of_le (show R.NB ≤ t + 2 by omega)]
    exact .rfl

/-- Phase 2: the wait for this index block. -/
theorem phase2 (hO : ∀ g, O g none = 0) (t : ℕ) {c : Prop} [Decidable c] (hc : c) {src : c → Memref sig .scVector .hbm S1x128 .i32}
    {dst : c → Memref sig .scVector .vmem S1x128 .i32} (h2 : ∀ h, dst h = R.ibSlot t)
    {sm : c → DmaSem sig} (h3 : ∀ h, sm h = R.isem t) {hsrc : ∀ h, (src h).view.WordExact} {hdst : ∀ h, (dst h).view.WordExact}
    {k : Prog (TpuEff nD τ sig (Elt F) Λ₀ (.scVector cc jj)) α} :
    R.INV1 d cc jj q fT fI G O W t ⊢ iprop((R.INV2 d cc jj q fT fI G O W t -∗ tileWp d cc jj Q k)
      -∗ tileWp d cc jj Q (dite c (fun h => .op (.waitDma2 (sm h) (src h) (dst h) (hsrc h) (hdst h)) fun _ => k) fun _ => k)) := by
  refine step_opt d cc jj (fun h => ?_) (fun h => absurd hc h)
  unfold INV1 INV2 base
  simp only [idxFrom]
  rw [bigSep_Ico_succ_top (Nat.zero_le t)]
  iintro ⟨⟨#Hm, Hw, HT, Hg⟩, Hi, Hf, Ho, Hs, Hd, Hr, Ht, HD⟩ Hk
  iapply (R.step_waitIn d cc jj fI O W hO t (R.b0 + t) (h2 h) (h3 h)) $$ [Hi Hw]
  · isplitl [Hi]; · iexact Hi
    isplitl [Hw]; · iexact Hw
    iexact Hm
  iintro ⟨Hv, Hib, Hx, Hw⟩
  iapply Hk
  isplitl [Hw HT Hg]
  · isplitr; · iexact Hm
    isplitl [Hw]; · iexact Hw
    isplitl [HT]; · iexact HT
    iexact Hg
  isplitl [Hv]; · iexact Hv
  isplitl [Hib]; · iexact Hib
  isplitl [Hf]; · iexact Hf
  isplitl [Ho]; · iexact Ho
  isplitl [Hs]; · iexact Hs
  isplitl [Hd Hx]
  · isplitl [Hx]; · iexact Hx
    iexact Hd
  isplitl [Hr]; · iexact Hr
  isplitl [Ht]; · iexact Ht
  iexact HD

/-- Phase 3: the rows that the block names. -/
theorem phase3 (hO : ∀ g, O g none = 0) (hG : R.Goal d cc jj fT fI G) (hI : R.InRange d cc jj fI) (t : ℕ)
    {src : Memref sig .scVector .hbm (⟨2, ![R.rows, 16]⟩ : Shape) .f32} (h1 : src = R.tabV)
    {dst : Memref sig .scVector .vmem S128x16 .f32} (h2 : dst = R.obSlot t)
    {ls : Memref sig .scVector .vmem S128 .i32} (h3 : ls = R.lst t) {sm : DmaSem sig} (h4 : sm = R.gsem)
    {src' : Memref sig .scVector .hbm (⟨2, ![R.rows, 16]⟩ : Shape) .f32}
    {dst' : Memref sig .scVector .vmem S128x16 .f32} (h2' : dst' = R.obSlot t)
    {hg : (⟨2, ![R.rows, 16]⟩ : Shape).Gathers 0 S128x16} {hn : S128.numel = S128x16.size hg.axis'}
    {hp : (Proc.scVector cc jj : Proc τ).kind = .scVector} {hsrc : src.view.WordExact} {he : (EltTy.f32).bits = 32} {hsp : Space.hbm = .hbm ∨ Space.hbm = .shared}
    {hr : (⟨2, ![R.rows, 16]⟩ : Shape).StreamRows 0}
    {hsrc' : src'.view.WordExact} {hdst' : dst'.view.WordExact}
    {k : PUnit → Prog (TpuEff nD τ sig (Elt F) Λ₀ (.scVector cc jj)) α} :
    R.INV2 d cc jj q fT fI G O W t ⊢ iprop((R.INV3 d cc jj q fT fI G O W t -∗ tileWp d cc jj Q (k ⟨⟩))
      -∗ tileWp d cc jj Q (SparseCore.enqueueIndirectGather hp src dst hg ls hn sm hsrc he hsp hr
          >>= fun _ => .op (.waitDma2 sm src' dst' hsrc' hdst') k)) := by
  unfold INV2 INV3 base
  rw [inFree_two]
  iintro ⟨⟨#Hm, Hw, HT, Hg⟩, Hv, Hib, Hf, ⟨Hov, Hob⟩, Hs, Hd, Hr, Ht, HD⟩ Hk
  iapply (R.step_gather d cc jj q fT fI G O W hO hG hI t (R.b0 + t) h1 h2 h3 h4 h2') $$ [Hg HT Hib Hob Hw]
  · isplitl [Hg]; · iexact Hg
    isplitl [HT]; · iexact HT
    isplitl [Hib]; · iexact Hib
    isplitl [Hob]; · iexact Hob
    isplitl [Hw]; · iexact Hw
    iexact Hm
  iintro ⟨Hg, HT, Hib, Hob, Hw⟩
  iapply Hk
  isplitl [Hw HT Hg]
  · isplitr; · iexact Hm
    isplitl [Hw]; · iexact Hw
    isplitl [HT]; · iexact HT
    iexact Hg
  isplitl [Hv Hib]
  · isplitl [Hv]; · iexact Hv
    iexact Hib
  isplitl [Hov]; · iexact Hov
  isplitl [Hob]; · iexact Hob
  isplitl [Hf]; · iexact Hf
  isplitl [Hs]; · iexact Hs
  isplitl [Hd]; · iexact Hd
  isplitl [Hr]; · iexact Hr
  isplitl [Ht]; · iexact Ht
  iexact HD

/-- Phase 4: the copy of the rows out. -/
theorem phase4 (t : ℕ) (ht : t < R.NB) {c : Prop} [Decidable c] (hc : c) {src : c → Memref sig .scVector .vmem S128x16 .f32}
    (h1 : ∀ h, src h = R.obSlot t) {dst : c → Memref sig .scVector .hbm S128x16 .f32} (h2 : ∀ h, dst h = R.outBlk (R.b0 + t))
    {sm : c → DmaSem sig} (h3 : ∀ h, sm h = R.osem t) {hsrc : ∀ h, (src h).view.WordExact} {hdst : ∀ h, (dst h).view.WordExact}
    {hsem : ∀ h, DmaTarget.Typed (nD := nD) (τ := τ) (p := .scVector cc jj) .vmem (.dma (sm h)) (.here (dst h))}
    {k : Prog (TpuEff nD τ sig (Elt F) Λ₀ (.scVector cc jj)) α} :
    R.INV3 d cc jj q fT fI G O W t ⊢ iprop((R.INV4 d cc jj q fT fI G O W t -∗ tileWp d cc jj Q k)
      -∗ tileWp d cc jj Q (dite c (fun h => .op (.enqueueDmaAs (src h) (.here (dst h)) .same (.dma (sm h)) (hsrc h) (hdst h) (hsem h)) fun _ => k) fun _ => k)) := by
  refine step_opt d cc jj (fun h => ?_) (fun h => absurd hc h)
  unfold INV3 INV4
  rw [show R.outSide (F := F) d cc jj G (t + 1) = R.outFly d cc jj G t (R.b0 + t) by
    rw [outSide, if_neg (Nat.succ_ne_zero t)]; exact R.outFly_two d cc jj G t _]
  simp only [todo]
  rw [bigSep_Ico_succ_bot ht]
  iintro ⟨Hb, Hi, Hov, Hob, Hf, Hs, Hd, Hr, ⟨Hx, Ht⟩, HD⟩ Hk
  iapply (R.step_out d cc jj G t (R.b0 + t) (h1 h) (h2 h) (h3 h)) $$ [Hov Hob Hx]
  · isplitl [Hov]; · iexact Hov
    isplitl [Hob]; · iexact Hob
    iexact Hx
  iintro Ho
  iapply Hk
  isplitl [Hb]; · iexact Hb
  isplitl [Hi]; · iexact Hi
  isplitl [Ho]; · iexact Ho
  isplitl [Hf]; · iexact Hf
  isplitl [Hs]; · iexact Hs
  isplitl [Hd]; · iexact Hd
  isplitl [Hr]; · iexact Hr
  isplitl [Ht]; · iexact Ht
  iexact HD

/-- Phase 5: the wait for the previous row block, if there was one. -/
theorem phase5 (hO : ∀ g, O g none = 0) (t : ℕ) {c : Prop} [Decidable c] (hc : c ↔ t ≠ 0) {src : c → Memref sig .scVector .vmem S128x16 .f32}
    {dst : c → Memref sig .scVector .hbm S128x16 .f32} (h2 : ∀ h, dst h = R.outBlk (R.b0 + (t - 1)))
    {sm : c → DmaSem sig} (h3 : ∀ h, sm h = R.osem (t + 1)) {hsrc : ∀ h, (src h).view.WordExact} {hdst : ∀ h, (dst h).view.WordExact}
    {k : Prog (TpuEff nD τ sig (Elt F) Λ₀ (.scVector cc jj)) α} :
    R.INV4 d cc jj q fT fI G O W t ⊢ iprop((R.INV d cc jj q fT fI G O W (t + 1) -∗ tileWp d cc jj Q k)
      -∗ tileWp d cc jj Q (dite c (fun h => .op (.waitDma2 (sm h) (src h) (dst h) (hsrc h) (hdst h)) fun _ => k) fun _ => k)) := by
  refine step_opt d cc jj (fun h => ?_) (fun h => ?_)
  · have hl := hc.mp h
    obtain ⟨s, rfl⟩ := Nat.exists_eq_succ_of_ne_zero hl
    unfold INV4 INV base
    rw [show R.outSide (F := F) d cc jj G (s.succ) = R.outFly d cc jj G (s.succ + 1) (R.b0 + (s.succ - 1)) from if_neg (Nat.succ_ne_zero s)]
    simp only [done, Nat.succ_eq_add_one, Nat.add_sub_cancel]
    rw [bigSep_range_succ]
    iintro ⟨⟨#Hm, Hw, HT, Hg⟩, Hi, Ho, Hf, Hs, Hd, Hr, Ht, HD⟩ Hk
    iapply (R.step_waitOut d cc jj G O W hO (s + 1 + 1) (R.b0 + s) (h2 h) (h3 h)) $$ [Hs Hw]
    · isplitl [Hs]; · iexact Hs
      isplitl [Hw]; · iexact Hw
      iexact Hm
    iintro ⟨Hs, Hx, Hw⟩
    iapply Hk
    isplitl [Hw HT Hg]
    · isplitr; · iexact Hm
      isplitl [Hw]; · iexact Hw
      isplitl [HT]; · iexact HT
      iexact Hg
    isplitl [Hf]; · iexact Hf
    isplitl [Hi]; · iexact Hi
    isplitl [Hs]; · iexact Hs
    isplitl [Ho]; · iexact Ho
    isplitl [Hd]; · iexact Hd
    isplitl [Hr]; · iexact Hr
    isplitl [Ht]; · iexact Ht
    isplitl [Hx]; · iexact Hx
    iexact HD
  · obtain rfl : t = 0 := by by_contra h'; exact h (hc.mpr h')
    unfold INV4 INV
    rw [show R.outSide (F := F) d cc jj G 0 = R.outFree d cc jj (0 + 1) from if_pos rfl]
    iintro ⟨Hb, Hi, Ho, Hf, Hs, Hd, Hr, Ht, HD⟩
    isplitl [Hb]; · iexact Hb
    isplitl [Hf]; · iexact Hf
    isplitl [Hi]; · iexact Hi
    isplitl [Hs]; · iexact Hs
    isplitl [Ho]; · iexact Ho
    isplitl [Hd]; · iexact Hd
    isplitl [Hr]; · iexact Hr
    isplitl [Ht]; · iexact Ht
    iexact HD

end Ring

end Cert.Proof

end
-- ==== Proof.Ends.lean ====
/-
  What comes before the first trip and after the last: the first index block is sent for, the last row block waited for.
-/
module

public import proofs.«01_k».proof.Proof.Trip

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

namespace Ring

variable (R : Ring) (d : Dev nD) (cc : Fin τ.nSC) (jj : Fin τ.nSub)
variable (q : PosShare TreeShare) (fT : Buf (Elt F) (R.tab.view.loc (V d cc jj))) (fI : Buf (Elt F) (R.idx.view.loc (V d cc jj)))
  (G : Buf (Elt F) (R.out.view.loc (V d cc jj))) (O : CellTallies nD τ sig (HIx 2)) (W : Waits sig (HIx 2))

/-- The four slots at rest. -/
def slots : sProp (MM F) := iprop(R.inFree (F := F) d cc jj 0 ∗ R.inFree d cc jj 1 ∗ R.outFree d cc jj 0 ∗ R.outFree d cc jj 1)
/-- What a task starts from. -/
def START : sProp (MM F) := iprop(R.base d cc jj q fT O W ∗ R.slots d cc jj ∗ R.idxFrom d cc jj fI 0 R.NB ∗ R.todo (F := F) d cc jj 0)
/-- What a task ends with. -/
def FINISH : sProp (MM F) := iprop(R.base d cc jj q fT O W ∗ R.slots d cc jj ∗ R.idxFrom d cc jj fI 0 R.NB ∗ R.done d cc jj G R.NB)

variable {α : Type} {Q : α → sProp (MM F)}

/-- Sending for the first index block. -/
theorem fill (hN : 0 < R.NB) {src : Memref sig .scVector .hbm S1x128 .i32} (h1 : src = R.idxBlk (R.b0 + 0))
    {dst : Memref sig .scVector .vmem S1x128 .i32} (h2 : dst = R.ibSlot 0) {sm : DmaSem sig} (h3 : sm = R.isem 0)
    {hsrc : src.view.WordExact} {hdst : dst.view.WordExact} {hsem : DmaTarget.Typed (nD := nD) (τ := τ) (p := .scVector cc jj) .hbm (.dma sm) (.here dst)}
    {k : PUnit → Prog (TpuEff nD τ sig (Elt F) Λ₀ (.scVector cc jj)) α} :
    R.START d cc jj q fT fI O W ⊢ iprop((R.INV d cc jj q fT fI G O W 0 -∗ tileWp d cc jj Q (k ⟨⟩))
      -∗ tileWp d cc jj Q (.op (.enqueueDmaAs src (.here dst) .same (.dma sm) hsrc hdst hsem) k)) := by
  unfold START INV slots
  simp only [inSide, outSide, if_pos hN, if_true, idxFrom, done, Finset.Ico_self, Finset.range_zero, Nat.zero_sub, bigSep_empty]
  rw [bigSep_Ico_succ_bot hN]
  iintro ⟨Hb, ⟨Hi0, Hi1, Ho0, Ho1⟩, ⟨Hx, Hr⟩, Ht⟩ Hk
  iapply (R.step_in d cc jj fI 0 (R.b0 + 0) h1 h2 h3) $$ [Hi0 Hx]
  · isplitl [Hi0]; · iexact Hi0
    iexact Hx
  iintro Hf
  iapply Hk
  isplitl [Hb]; · iexact Hb
  isplitl [Hf]; · iexact Hf
  isplitl [Hi1]; · iexact Hi1
  isplitl [Ho0]; · iexact Ho0
  isplitl [Ho1]; · iexact Ho1
  isplitr; · iempintro
  isplitl [Hr]; · iexact Hr
  isplitl [Ht]; · iexact Ht
  iempintro

theorem inFree_parity {s t : ℕ} (h : s % 2 = t % 2) : R.inFree (F := F) d cc jj s = R.inFree d cc jj t := by
  unfold inFree ibAny
  rw [R.isem_congr h, show (R.ibSlot s).view.set = (R.ibSlot t).view.set from R.set_ib (by rw [soff, soff, h])]
theorem outFree_parity {s t : ℕ} (h : s % 2 = t % 2) : R.outFree (F := F) d cc jj s = R.outFree d cc jj t := by
  unfold outFree obAny
  rw [R.osem_congr h, show (R.obSlot s).view.set = (R.obSlot t).view.set from R.set_ob (by rw [soff, soff, h])]

/-- Waiting for the last row block. -/
theorem drain (hO : ∀ g, O g none = 0) (s : ℕ) (hN : R.NB = 2 * s + 2) {src : Memref sig .scVector .vmem S128x16 .f32}
    {dst : Memref sig .scVector .hbm S128x16 .f32} (h2 : dst = R.outBlk (R.b0 + (2 * s + 1))) {sm : DmaSem sig} (h3 : sm = R.osem (2 * s + 1))
    {hsrc : src.view.WordExact} {hdst : dst.view.WordExact}
    {k : PUnit → Prog (TpuEff nD τ sig (Elt F) Λ₀ (.scVector cc jj)) α} :
    R.INV d cc jj q fT fI G O W (2 * s + 2)
      ⊢ iprop((R.FINISH d cc jj q fT fI G O W -∗ tileWp d cc jj Q (k ⟨⟩)) -∗ tileWp d cc jj Q (.op (.waitDma2 sm src dst hsrc hdst) k)) := by
  have hs : R.outSide (F := F) d cc jj G (2 * s + 2) = R.outFly d cc jj G (2 * s + 1) (R.b0 + (2 * s + 1)) :=
    (if_neg (by omega)).trans (R.outFly_two d cc jj G (2 * s + 1) _)
  have hi : R.inSide (F := F) d cc jj fI (2 * s + 2) = R.inFree d cc jj 0 := (if_neg (by omega)).trans (R.inFree_parity d cc jj (by omega))
  have hi1 : R.inFree (F := F) d cc jj (2 * s + 2 + 1) = R.inFree d cc jj 1 := R.inFree_parity d cc jj (by omega)
  have ho : R.outFree (F := F) d cc jj (2 * s + 2) = R.outFree d cc jj 0 := R.outFree_parity d cc jj (by omega)
  have ho1 : R.outFree (F := F) d cc jj (2 * s + 1) = R.outFree d cc jj 1 := R.outFree_parity d cc jj (by omega)
  unfold INV FINISH slots base
  rw [hs, hi, hi1, ho, hN, ← ho1]
  simp only [done, Nat.add_sub_cancel, show 2 * s + 2 - 1 = 2 * s + 1 from rfl]
  rw [bigSep_range_succ (2 * s + 1)]
  iintro ⟨⟨#Hm, Hw, HT, Hg⟩, Hi0, Hi1, Ho0, Hf, Hd, -, -, HD⟩ Hk
  iapply (R.step_waitOut d cc jj G O W hO (2 * s + 1) (R.b0 + (2 * s + 1)) h2 h3) $$ [Hf Hw]
  · isplitl [Hf]; · iexact Hf
    isplitl [Hw]; · iexact Hw
    iexact Hm
  iintro ⟨Ho1, Hx, Hw⟩
  iapply Hk
  isplitl [Hw HT Hg]
  · isplitr; · iexact Hm
    isplitl [Hw]; · iexact Hw
    isplitl [HT]; · iexact HT
    iexact Hg
  isplitl [Hi0 Hi1 Ho0 Ho1]
  · isplitl [Hi0]; · iexact Hi0
    isplitl [Hi1]; · iexact Hi1
    isplitl [Ho0]; · iexact Ho0
    iexact Ho1
  isplitl [Hd]; · iexact Hd
  isplitl [Hx]; · iexact Hx
  iexact HD

end Ring

end Cert.Proof
-- ==== Proof.Deal.lean ====
/-
  Dealing one SparseCore call's buffers over its tasks: the index and output arrays by blocks of 128 rows, the table by
  read shares, and a task's scratch and semaphores taken out of the subcore's own.
-/
module

public import proofs.«01_k».proof.Proof.Ends
public import Idealize.ShloMosaic.Lib.ShareLeaves
public import Idealize.ShloMosaic.Lib.Ring

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx ownCells mem_ownCells ownRefs ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves
open Idealize.ShloMosaic.Tactic

variable {F : FTy → Type} [FloatOps F]

local notation "𝕄" => MM F

/-! ## Numbers below a product, dealt in rows -/

theorem bigSep_range_add (Φ : ℕ → sProp 𝕄) (a b : ℕ) :
    bigSep (Finset.range (a + b)) Φ = iprop(bigSep (Finset.range a) Φ ∗ bigSep (Finset.range b) fun j => Φ (a + j)) := by
  rw [show Finset.range (a + b) = Finset.range a ∪ (Finset.range b).map (addLeftEmbedding a) from Finset.range_add _ _,
    BI.bigSep_union (Finset.disjoint_range_addLeftEmbedding _ _), bigSep_map]
  rfl

theorem bigSep_range_mul (Φ : ℕ → sProp 𝕄) (a b : ℕ) :
    bigSep (Finset.range (a * b)) Φ = bigSep (Finset.range a) fun i => bigSep (Finset.range b) fun j => Φ (i * b + j) := by
  induction a with
  | zero => rw [Nat.zero_mul, Finset.range_zero, bigSep_empty, bigSep_empty]
  | succ a ih => rw [Nat.succ_mul, bigSep_range_add, ih, bigSep_range_succ a]; exact BI.Entails.antisymm BI.sep_comm BI.sep_comm

/-- A family over the numbers below 32, dealt to two cores of sixteen subcores. -/
theorem bigSep_tasks (Φ : ℕ → sProp 𝕄) :
    bigSep (Finset.range (2 * 16)) Φ = bigSep Finset.univ fun a : Fin 2 => bigSep Finset.univ fun b : Fin 16 => Φ (b.val + 16 * a.val) := by
  rw [bigSep_range_mul]
  refine (Ring.bigSep_fin_eq_range 2 _ _ fun a ha => ?_).symm
  refine (Ring.bigSep_fin_eq_range 16 _ _ fun b hb => congrArg Φ ?_).symm
  show a * 16 + b = b + 16 * a
  omega

/-- A family over the numbers below `32 n`, dealt to the same, `n` each. -/
theorem bigSep_deal (Φ : ℕ → sProp 𝕄) (n : ℕ) :
    bigSep (Finset.range (2 * 16 * n)) Φ
      = bigSep Finset.univ fun a : Fin 2 => bigSep Finset.univ fun b : Fin 16 => bigSep (Finset.range n) fun j => Φ ((b.val + 16 * a.val) * n + j) := by
  rw [bigSep_range_mul, bigSep_tasks]

/-- Task `t`'s share of the table. -/
def shareOf (t : ℕ) : PosShare TreeShare := if h : t < 2 ^ 5 then leaf 5 fullShare ⟨t, h⟩ else fullShare

/-- A buffer's read shares, dealt to the tasks. -/
theorem pointsTo_deal {ℓ : Loc nD τ sig} (f : Buf (Elt F) ℓ) (I : Finset (Idx ℓ)) :
    (ℓ ↦[I]{fullShare} f : sProp 𝕄)
      = bigSep Finset.univ fun a : Fin 2 => bigSep Finset.univ fun b : Fin 16 => ℓ ↦[I]{shareOf (b.val + 16 * a.val)} f := by
  rw [pointsTo_leaves I f 5 fullShare, ← bigSep_tasks fun t => ℓ ↦[I]{shareOf t} f]
  exact Ring.bigSep_fin_eq_range (2 ^ 5) _ _ fun t h => by unfold shareOf; rw [dif_pos h]

/-! ## Blocks of a view -/

/-- The part of a view's buffer under the `i`-th rectangle. -/
abbrev cutSet {κ : Kind} {sp : Space} {s : Shape} {e : EltTy} (v : View sig κ sp s e) (r : ℕ → Rect s) (i : ℕ) : Finset v.ty.Idx := (v.slice (r i)).set

/-- Rectangles that cut a shape into disjoint parts cut any view of that shape. -/
theorem view_cut {κ : Kind} {sp : Space} {s : Shape} {e : EltTy} (v : View sig κ sp s e) {n : ℕ} (r : ℕ → Rect s)
    (hdis : ∀ i < n, ∀ j < n, i ≠ j → Disjoint (r i).set (r j).set) (hcov : ∀ x : s.Idx, ∃ i < n, x ∈ (r i).set) (hv : v.set = Finset.univ) :
    (∀ i ∈ Finset.range n, ∀ j ∈ Finset.range n, i ≠ j → Disjoint (cutSet v r i) (cutSet v r j))
      ∧ (Finset.range n).biUnion (cutSet v r) = Finset.univ := by
  constructor
  · intro i hi j hj hij
    rw [cutSet, cutSet, View.set_slice, View.set_slice]
    exact (Finset.disjoint_map v.emb).mpr (hdis i (Finset.mem_range.mp hi) j (Finset.mem_range.mp hj) hij)
  · rw [← hv]
    refine Finset.Subset.antisymm (fun x hx => ?_) fun x hx => ?_
    · obtain ⟨i, -, hi⟩ := Finset.mem_biUnion.mp hx
      exact View.set_slice_subset v (r i) hi
    · obtain ⟨y, -, rfl⟩ := Finset.mem_map.mp hx
      obtain ⟨i, hi, hy⟩ := hcov y
      exact Finset.mem_biUnion.mpr ⟨i, Finset.mem_range.mpr hi, by rw [cutSet, View.set_slice]; exact Finset.mem_map_of_mem _ hy⟩

namespace Ring

variable (R : Ring) (d : Dev nD) (cc : Fin τ.nSC) (jj : Fin τ.nSub)
variable (q : PosShare TreeShare) (fT : Buf (Elt F) (R.tab.view.loc (V d cc jj))) (fI : Buf (Elt F) (R.idx.view.loc (V d cc jj)))
  (G : Buf (Elt F) (R.out.view.loc (V d cc jj))) (O : CellTallies nD τ sig (HIx 2)) (W : Waits sig (HIx 2))

/-- The parts of the index and output arrays and of the scratch buffers that the blocks and slots are. -/
abbrev idxSet (b : ℕ) : Finset R.idx.view.ty.Idx := (R.idxBlk b).view.set
abbrev outSet (b : ℕ) : Finset R.out.view.ty.Idx := (R.outBlk b).view.set
abbrev ibSet (t : ℕ) : Finset R.ib.view.ty.Idx := (R.ibSlot t).view.set
abbrev obSet (t : ℕ) : Finset R.ob.view.ty.Idx := (R.obSlot t).view.set

theorem idx_cut (h : R.idx.view.set = Finset.univ) :
    (∀ i ∈ Finset.range R.M, ∀ j ∈ Finset.range R.M, i ≠ j → Disjoint (R.idxSet i) (R.idxSet j))
      ∧ (Finset.range R.M).biUnion R.idxSet = Finset.univ := by
  refine view_cut R.idx.view (fun b => Rect.unit (s := ⟨2, ![1, R.n]⟩) (R.ioff b) S1x128.size (R.inbI b)) ?_ ?_ h
  · intro i hi j hj hij
    refine Finset.disjoint_left.mpr fun x hx hy => hij ?_
    have h1 := Rect.mem_set_unit.mp hx 1
    have h2 := Rect.mem_set_unit.mp hy 1
    replace h1 : 128 * (i % R.M) ≤ (x 1).val ∧ (x 1).val < 128 * (i % R.M) + 128 := h1
    replace h2 : 128 * (j % R.M) ≤ (x 1).val ∧ (x 1).val < 128 * (j % R.M) + 128 := h2
    rw [Nat.mod_eq_of_lt hi] at h1
    rw [Nat.mod_eq_of_lt hj] at h2
    omega
  · intro x
    have hx : (x 1).val < R.n := (x 1).isLt
    have hb : (x 1).val / 128 < R.M := by have := R.hn; omega
    refine ⟨(x 1).val / 128, hb, Rect.mem_set_unit.mpr fun a => ?_⟩
    match a with
    | 0 => exact ⟨Nat.zero_le _, by show (x 0).val < 0 + 1; have : (x 0).val < 1 := (x 0).isLt; omega⟩
    | 1 =>
      show 128 * ((x 1).val / 128 % R.M) ≤ (x 1).val ∧ (x 1).val < 128 * ((x 1).val / 128 % R.M) + 128
      rw [Nat.mod_eq_of_lt hb]; omega

theorem out_cut (h : R.out.view.set = Finset.univ) :
    (∀ i ∈ Finset.range R.M, ∀ j ∈ Finset.range R.M, i ≠ j → Disjoint (R.outSet i) (R.outSet j))
      ∧ (Finset.range R.M).biUnion R.outSet = Finset.univ := by
  refine view_cut R.out.view (fun b => Rect.unit (s := ⟨2, ![R.n, 16]⟩) (R.ooff b) S128x16.size (R.inbO b)) ?_ ?_ h
  · intro i hi j hj hij
    refine Finset.disjoint_left.mpr fun x hx hy => hij ?_
    have h1 := Rect.mem_set_unit.mp hx 0
    have h2 := Rect.mem_set_unit.mp hy 0
    replace h1 : 128 * (i % R.M) ≤ (x 0).val ∧ (x 0).val < 128 * (i % R.M) + 128 := h1
    replace h2 : 128 * (j % R.M) ≤ (x 0).val ∧ (x 0).val < 128 * (j % R.M) + 128 := h2
    rw [Nat.mod_eq_of_lt hi] at h1
    rw [Nat.mod_eq_of_lt hj] at h2
    omega
  · intro x
    have hx : (x 0).val < R.n := (x 0).isLt
    have hb : (x 0).val / 128 < R.M := by have := R.hn; omega
    refine ⟨(x 0).val / 128, hb, Rect.mem_set_unit.mpr fun a => ?_⟩
    match a with
    | 0 =>
      show 128 * ((x 0).val / 128 % R.M) ≤ (x 0).val ∧ (x 0).val < 128 * ((x 0).val / 128 % R.M) + 128
      rw [Nat.mod_eq_of_lt hb]; omega
    | 1 => exact ⟨Nat.zero_le _, by show (x 1).val < 0 + 16; have : (x 1).val < 16 := (x 1).isLt; omega⟩

/-- The index array is its blocks. -/
theorem idx_blocks (h : R.idx.view.set = Finset.univ) :
    (R.idx.view.loc (V d cc jj) ↦{fullShare} fI : sProp 𝕄) = bigSep (Finset.range R.M) fun b => R.idxPts d cc jj fI b := by
  have hc := R.idx_cut h
  rw [← pointsTo_biUnion (ℓ := R.idx.view.loc (V d cc jj)) (Finset.range R.M) R.idxSet hc.1, hc.2]

/-- The output array is its blocks. -/
theorem out_blocks (h : R.out.view.set = Finset.univ) :
    (R.out.view.loc (V d cc jj) ↦{fullShare} G : sProp 𝕄) = bigSep (Finset.range R.M) fun b => R.outDone d cc jj G b := by
  have hc := R.out_cut h
  rw [← pointsTo_biUnion (ℓ := R.out.view.loc (V d cc jj)) (Finset.range R.M) R.outSet hc.1, hc.2]

/-! ## A task's scratch -/

/-- A buffer cut in two, its parts at any contents. -/
theorem two_join {ℓ : Loc nD τ sig} (I : ℕ → Finset (Idx ℓ))
    (h : ∀ i ∈ Finset.range 2, ∀ j ∈ Finset.range 2, i ≠ j → Disjoint (I i) (I j)) (hc : (Finset.range 2).biUnion I = Finset.univ) :
    iprop((∃ f : Buf (Elt F) ℓ, ℓ ↦[I 0]{fullShare} f) ∗ ∃ f : Buf (Elt F) ℓ, ℓ ↦[I 1]{fullShare} f) ⊢ (iprop(∃ f : Buf (Elt F) ℓ, ℓ ↦{fullShare} f) : sProp 𝕄) := by
  iintro ⟨⟨%f, H0⟩, %g, H1⟩
  ihave H := (pointsTo_biUnion_join (ℓ := ℓ) (q := fullShare) (Val := Elt F) (Finset.range 2) I (fun t => if t = 0 then f else g) f h) $$ [H0 H1]
  · rw [bigSep_range_succ 1, bigSep_range_succ 0, Finset.range_zero, bigSep_empty]
    isplitl [H1]; · iexact H1
    isplitl [H0]; · iexact H0
    iempintro
  icases H with ⟨%k, -, H⟩
  rw [hc]
  iexists k; iexact H

theorem two_split {ℓ : Loc nD τ sig} (I : ℕ → Finset (Idx ℓ))
    (h : ∀ i ∈ Finset.range 2, ∀ j ∈ Finset.range 2, i ≠ j → Disjoint (I i) (I j)) (hc : (Finset.range 2).biUnion I = Finset.univ) :
    (iprop(∃ f : Buf (Elt F) ℓ, ℓ ↦{fullShare} f) : sProp 𝕄) ⊢ iprop((∃ f : Buf (Elt F) ℓ, ℓ ↦[I 0]{fullShare} f) ∗ ∃ f : Buf (Elt F) ℓ, ℓ ↦[I 1]{fullShare} f) := by
  iintro ⟨%f, H⟩
  ihave H' := (Entails.of_eq (show (ℓ ↦{fullShare} f : sProp 𝕄) = iprop((ℓ ↦[I 1]{fullShare} f) ∗ (ℓ ↦[I 0]{fullShare} f) ∗ emp) by
    rw [← hc, pointsTo_biUnion (ℓ := ℓ) (Finset.range 2) I h, bigSep_range_succ 1, bigSep_range_succ 0, Finset.range_zero, bigSep_empty]; rfl)) $$ H
  icases H' with ⟨H1, H0, -⟩
  isplitl [H0]
  · iexists f; iexact H0
  · iexists f; iexact H1

theorem ib_cut (h : R.ib.view.set = Finset.univ) :
    (∀ i ∈ Finset.range 2, ∀ j ∈ Finset.range 2, i ≠ j → Disjoint (R.ibSet i) (R.ibSet j))
      ∧ (Finset.range 2).biUnion R.ibSet = Finset.univ := by
  have e : ∀ t, R.ibSet t = (R.ib.view.slice (Rect.unit (s := S2x1x128) (soff t) S1x1x128.size (inbIb t))).set :=
    fun t => View.set_reshape _ _
  have hc := view_cut R.ib.view (n := 2) (fun t => Rect.unit (s := S2x1x128) (soff t) S1x1x128.size (inbIb t)) (fun i hi j hj hij => by
    refine Finset.disjoint_left.mpr fun x hx hy => hij ?_
    have h1 := Rect.mem_set_unit.mp hx 0
    have h2 := Rect.mem_set_unit.mp hy 0
    replace h1 : i % 2 ≤ (x 0).val ∧ (x 0).val < i % 2 + 1 := h1
    replace h2 : j % 2 ≤ (x 0).val ∧ (x 0).val < j % 2 + 1 := h2
    omega) (fun x => ⟨(x 0).val, (x 0).isLt, Rect.mem_set_unit.mpr fun a => by
      have h0 : (x 0).val < 2 := (x 0).isLt
      match a with
      | 0 => show (x 0).val % 2 ≤ (x 0).val ∧ (x 0).val < (x 0).val % 2 + 1; omega
      | 1 => exact ⟨Nat.zero_le _, by show (x 1).val < 0 + 1; have : (x 1).val < 1 := (x 1).isLt; omega⟩
      | 2 => exact ⟨Nat.zero_le _, by show (x 2).val < 0 + 128; have : (x 2).val < 128 := (x 2).isLt; omega⟩⟩) h
  exact ⟨fun i hi j hj hij => by rw [e, e]; exact hc.1 i hi j hj hij, (Finset.biUnion_congr rfl fun t _ => e t).trans hc.2⟩

theorem ob_cut (h : R.ob.view.set = Finset.univ) :
    (∀ i ∈ Finset.range 2, ∀ j ∈ Finset.range 2, i ≠ j → Disjoint (R.obSet i) (R.obSet j))
      ∧ (Finset.range 2).biUnion R.obSet = Finset.univ := by
  have e : ∀ t, R.obSet t = (R.ob.view.slice (Rect.unit (s := S2x128x16) (soff t) S1x128x16.size (inbOb t))).set :=
    fun t => View.set_reshape _ _
  have hc := view_cut R.ob.view (n := 2) (fun t => Rect.unit (s := S2x128x16) (soff t) S1x128x16.size (inbOb t)) (fun i hi j hj hij => by
    refine Finset.disjoint_left.mpr fun x hx hy => hij ?_
    have h1 := Rect.mem_set_unit.mp hx 0
    have h2 := Rect.mem_set_unit.mp hy 0
    replace h1 : i % 2 ≤ (x 0).val ∧ (x 0).val < i % 2 + 1 := h1
    replace h2 : j % 2 ≤ (x 0).val ∧ (x 0).val < j % 2 + 1 := h2
    omega) (fun x => ⟨(x 0).val, (x 0).isLt, Rect.mem_set_unit.mpr fun a => by
      have h0 : (x 0).val < 2 := (x 0).isLt
      match a with
      | 0 => show (x 0).val % 2 ≤ (x 0).val ∧ (x 0).val < (x 0).val % 2 + 1; omega
      | 1 => exact ⟨Nat.zero_le _, by show (x 1).val < 0 + 128; have : (x 1).val < 128 := (x 1).isLt; omega⟩
      | 2 => exact ⟨Nat.zero_le _, by show (x 2).val < 0 + 16; have : (x 2).val < 16 := (x 2).isLt; omega⟩⟩) h
  exact ⟨fun i hi j hj hij => by rw [e, e]; exact hc.1 i hi j hj hij, (Finset.biUnion_congr rfl fun t _ => e t).trans hc.2⟩

/-- A task's scratch buffers are the subcore's own, and so are its five semaphores. -/
structure Scratch : Prop where
  ib : R.ib.view.set = Finset.univ
  ob : R.ob.view.set = Finset.univ
  ibOwn : ∀ (c : Fin τ.nSC) (i : Fin τ.nSub), ((Proc.scVector c i).devRef R.ib.view.ref : DevRef τ sig).owner = .proc (.scVector c i)
  obOwn : ∀ (c : Fin τ.nSC) (i : Fin τ.nSub), ((Proc.scVector c i).devRef R.ob.view.ref : DevRef τ sig).owner = .proc (.scVector c i)
  ne : R.ob.view.ref ≠ R.ib.view.ref
  isScoped : ∀ s ∈ [R.isem 0, R.isem 1, R.osem 0, R.osem 1, R.gsem], (SemLoc.dma s : SemLoc sig).isScoped .scVector = true
  nodup : [R.isem 0, R.isem 1, R.osem 0, R.osem 1, R.gsem].Nodup

/-- The subcore's own buffers: the two scratch buffers and the rest. -/
theorem bufs_split (hS : R.Scratch) :
    (ownBufs (V d cc jj) : sProp 𝕄)
      = iprop((∃ f : Buf (Elt F) (R.ib.view.loc (V d cc jj)), R.ib.view.loc (V d cc jj) ↦{fullShare} f)
          ∗ (∃ f : Buf (Elt F) (R.ob.view.loc (V d cc jj)), R.ob.view.loc (V d cc jj) ↦{fullShare} f)
          ∗ bigSep (((ownRefs (τ := τ) (.scVector cc jj)).erase ((Proc.scVector cc jj).devRef R.ib.view.ref)).erase ((Proc.scVector cc jj).devRef R.ob.view.ref))
              fun b => iprop(∃ f, ((d, b) : Loc nD τ sig) ↦{fullShare} f)) := by
  unfold SparseCore.Cfg.ownBufs
  refine (SparseCore.bigSep_erase' (SparseCore.Cfg.mem_ownRefs_of_owner (hS.ibOwn cc jj))).trans ?_
  rw [SparseCore.bigSep_erase' (Finset.mem_erase.mpr ⟨fun e => absurd (Proc.devRef_injective _ e) hS.ne, SparseCore.Cfg.mem_ownRefs_of_owner (hS.obOwn cc jj)⟩)]

/-- The subcore's own semaphores: the task's five and the rest. -/
theorem sems_split (hS : R.Scratch) :
    ∃ Rest : sProp 𝕄, (ownSems0 (V d cc jj) : sProp 𝕄)
      = iprop(semVal (V d cc jj, SemLoc.dma (R.isem 0)) 0 ∗ semVal (V d cc jj, SemLoc.dma (R.isem 1)) 0 ∗ semVal (V d cc jj, SemLoc.dma (R.osem 0)) 0
          ∗ semVal (V d cc jj, SemLoc.dma (R.osem 1)) 0 ∗ semVal (V d cc jj, SemLoc.dma R.gsem) 0 ∗ Rest) := by
  have hn := hS.nodup
  have hs := hS.isScoped
  generalize R.isem 0 = s0, R.isem 1 = s1, R.osem 0 = s2, R.osem 1 = s3, R.gsem = s4 at hn hs
  simp only [List.nodup_cons, List.mem_cons, List.not_mem_nil, _root_.or_false, not_or, not_false_eq_true, List.nodup_nil, not_false_eq_true, _root_.and_true] at hn
  have hmem : ∀ s ∈ [s0, s1, s2, s3, s4], ((V d cc jj, SemLoc.dma s) : GSem nD τ sig) ∈ ownCells (V d cc jj) :=
    fun s h => mem_ownCells.mpr ⟨rfl, hs s h⟩
  have hne : ∀ {x y : DmaSem sig}, ¬ x = y → ((V d cc jj, SemLoc.dma y) : GSem nD τ sig) ≠ (V d cc jj, SemLoc.dma x) := by
    intro x y h e
    exact h (SemLoc.dma.inj (Prod.mk.inj e).2).symm
  obtain ⟨⟨h01, h02, h03, h04⟩, ⟨h12, h13, h14⟩, ⟨h23, h24⟩, h34⟩ := hn
  refine ⟨?_, ?_⟩
  rotate_left
  · unfold SparseCore.Cfg.ownSems0
    rw [SparseCore.bigSep_erase' (hmem s0 (by simp)),
      SparseCore.bigSep_erase' (Finset.mem_erase.mpr ⟨hne h01, hmem s1 (by simp)⟩),
      SparseCore.bigSep_erase' (Finset.mem_erase.mpr ⟨hne h12, Finset.mem_erase.mpr ⟨hne h02, hmem s2 (by simp)⟩⟩),
      SparseCore.bigSep_erase' (Finset.mem_erase.mpr ⟨hne h23, Finset.mem_erase.mpr ⟨hne h13, Finset.mem_erase.mpr ⟨hne h03, hmem s3 (by simp)⟩⟩⟩),
      SparseCore.bigSep_erase' (Finset.mem_erase.mpr ⟨hne h34, Finset.mem_erase.mpr ⟨hne h24, Finset.mem_erase.mpr ⟨hne h14, Finset.mem_erase.mpr ⟨hne h04, hmem s4 (by simp)⟩⟩⟩⟩)]

/-- What a task is handed. -/
def GO : sProp 𝕄 := iprop(R.tabPts d cc jj q fT ∗ R.idxFrom d cc jj fI 0 R.NB ∗ R.todo (F := F) d cc jj 0)
/-- What a task hands back. -/
def TD : sProp 𝕄 := iprop(R.tabPts d cc jj q fT ∗ R.idxFrom d cc jj fI 0 R.NB ∗ R.done d cc jj G R.NB)

/-- A task's run from what its subcore holds. -/
theorem task (hS : R.Scratch) (hO : ∀ g, O g none = 0) {α : Type} {p : Prog (TpuEff nD τ sig (Elt F) Λ₀ (.scVector cc jj)) α}
    (hbody : R.START d cc jj q fT fI O W ⊢ wp frame (wpE (defs₀ (F := F)) 𝒱₀ (V d cc jj) none) Set.univ p (fun _ => R.FINISH d cc jj q fT fI G O W)) :
    iprop(levAts (K (F := F)).L (K (F := F)).lev ∗ emp ∗ R.GO d cc jj q fT fI ∗ scopedBufs (V d cc jj) ∗ scopedSems0 (V d cc jj) ∗ owes (V d cc jj) O W)
      ⊢ wp frame (wpE (defs₀ (F := F)) 𝒱₀ (V d cc jj) none) Set.univ p
          fun _ => iprop(R.TD d cc jj q fT fI G ∗ scopedBufs (V d cc jj) ∗ scopedSems0 (V d cc jj) ∗ owesUp d cc jj O W) := by
  obtain ⟨Rest, hsem⟩ := R.sems_split (F := F) d cc jj hS
  have hi := R.ib_cut hS.ib
  have ho := R.ob_cut hS.ob
  rw [(K (F := F)).scopedBufs_V facts d cc jj, SparseCore.Cfg.scopedSems0_V (Val := Elt F) d cc jj, hsem, R.bufs_split d cc jj hS]
  unfold GO TD
  iintro ⟨#Hlv, -, ⟨HT, Hx, Ht⟩, ⟨Hib, Hob, Hbufs⟩, ⟨S0, S1, S2, S3, S4, Hsems⟩, HO⟩
  ihave Hmw := (show levAts (K (F := F)).L (K (F := F)).lev ⊢ Transfers.MayWaits (V d cc jj) (none : HIx 2) O from
    (K (F := F)).mayWaits_none (thr := V d cc jj) hO) $$ Hlv
  ihave Hib' := (two_split (F := F) (ℓ := R.ib.view.loc (V d cc jj)) R.ibSet hi.1 hi.2) $$ Hib
  ihave Hob' := (two_split (F := F) (ℓ := R.ob.view.loc (V d cc jj)) R.obSet ho.1 ho.2) $$ Hob
  icases Hib' with ⟨I0, I1⟩
  icases Hob' with ⟨O0, O1⟩
  iapply (wp_wand frame (wpE (defs₀ (F := F)) 𝒱₀ (V d cc jj) none) Set.univ (p := p)) $$ [Hmw HT Hx Ht I0 I1 O0 O1 S0 S1 S2 S3 S4 HO]
  · iapply hbody
    unfold START base slots
    isplitl [Hmw HO HT S4]
    · isplitl [Hmw]; · iexact Hmw
      isplitl [HO]
      · iexists W
        isplitr; · ipureintro; exact fun p hp => .inl hp
        iexact HO
      isplitl [HT]; · iexact HT
      iexact S4
    isplitl [I0 I1 O0 O1 S0 S1 S2 S3]
    · isplitl [S0 I0]
      · isplitl [S0]; · iexact S0
        iexact I0
      isplitl [S1 I1]
      · isplitl [S1]; · iexact S1
        iexact I1
      isplitl [S2 O0]
      · isplitl [S2]; · iexact S2
        iexact O0
      isplitl [S3]; · iexact S3
      iexact O1
    isplitl [Hx]; · iexact Hx
    iexact Ht
  iintro %u HF
  unfold FINISH base slots
  icases HF with ⟨⟨-, HO, HT, S4⟩, ⟨⟨S0, I0⟩, ⟨S1, I1⟩, ⟨S2, O0⟩, S3, O1⟩, Hx, Hd⟩
  isplitl [HT Hx Hd]
  · isplitl [HT]; · iexact HT
    isplitl [Hx]; · iexact Hx
    iexact Hd
  isplitl [I0 I1 O0 O1 Hbufs]
  · isplitl [I0 I1]
    · iapply (two_join (F := F) (ℓ := R.ib.view.loc (V d cc jj)) R.ibSet hi.1 hi.2)
      isplitl [I0]; · iexact I0
      iexact I1
    isplitl [O0 O1]
    · iapply (two_join (F := F) (ℓ := R.ob.view.loc (V d cc jj)) R.obSet ho.1 ho.2)
      isplitl [O0]; · iexact O0
      iexact O1
    iexact Hbufs
  isplitl [S0 S1 S2 S3 S4 Hsems]
  · isplitl [S0]; · iexact S0
    isplitl [S1]; · iexact S1
    isplitl [S2]; · iexact S2
    isplitl [S3]; · iexact S3
    isplitl [S4]; · iexact S4
    iexact Hsems
  iexact HO

end Ring

end Cert.Proof

end
-- ==== Proof.Offs2.lean ====
/-
  The first SparseCore call's address arithmetic in closed form.
-/
module

public import proofs.«01_k».proof.Proof.Ring

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Grid coordinates from a core and a subcore. -/
def mk2 (a : Fin 2) (b : Fin 16) : grid2.Coords := fun x => match x with
  | 0 => a
  | 1 => b
theorem eq_mk2 (i : grid2.Coords) : i = mk2 (i 0) (i 1) := by
  funext x; match x with
  | 0 => rfl
  | 1 => rfl

namespace Tile2

/-- The first block of a task. -/
def base (a : Fin 2) (b : Fin 16) : ℕ := (b.val + 16 * a.val) * 56
abbrev w (n : ℕ) : BitVec 32 := BitVec.ofNat 32 n

/-- The words a trip carries. -/
def carry (t : ℕ) : BitVec 32 × BitVec 32 × BitVec 32 × BitVec 32 × BitVec 32 :=
  (w (min (t + 1) 56), w t, w t, w (t - 1), w (if t = 56 then 0 else t))

theorem cond1 : ∀ (a : Fin 2) (b : Fin 16) (t : Fin k2_t1_loop.trips), k2_cond1 (mk2 a b) t (carry t.val).2.2.2.2 = 1#1 ↔ t.val + 1 < 56 := by decide +kernel
theorem cond2 : ∀ (a : Fin 2) (b : Fin 16) (t : Fin k2_t1_loop.trips), k2_cond2 (mk2 a b) t (carry t.val).2.2.2.2 = 1#1 := by decide +kernel
theorem cond5 : ∀ (a : Fin 2) (b : Fin 16) (t : Fin k2_t1_loop.trips), k2_cond5 (mk2 a b) t (carry t.val).2.2.2.2 = 1#1 := by decide +kernel
theorem cond7 : ∀ (a : Fin 2) (b : Fin 16) (t : Fin k2_t1_loop.trips), k2_cond7 (mk2 a b) t (carry t.val).2.2.2.2 = 1#1 ↔ t.val ≠ 0 := by decide +kernel
theorem chk1 : ∀ (a : Fin 2) (b : Fin 16) (t : Fin k2_t1_loop.trips), k2_chk1 (mk2 a b) t (carry t.val).1 (carry t.val).2.1 (carry t.val).2.2.1
    (carry t.val).2.2.2.1 (carry t.val).2.2.2.2 := by decide +kernel
theorem chk2 : ∀ (t : Fin k2_t1_loop.trips), k2_chk2 (carry t.val).2.2.1 := by decide +kernel
theorem chk3 : ∀ (t : Fin k2_t1_loop.trips), k2_chk3 (carry t.val).2.1 := by decide +kernel
theorem off2 : ∀ (a : Fin 2) (b : Fin 16), k2_off2 (mk2 a b) = ![0, 128 * ((base a b + 0) % 1792)] := by decide +kernel
theorem off5 : ∀ (a : Fin 2) (b : Fin 16) (t : Fin k2_t1_loop.trips), t.val + 1 < 56 →
    k2_off5 (mk2 a b) (carry t.val).2.2.2.2 = ![0, 128 * ((base a b + (t.val + 1)) % 1792)] := by decide +kernel
theorem off13 : ∀ (a : Fin 2) (b : Fin 16) (t : Fin k2_t1_loop.trips),
    k2_off13 (mk2 a b) (carry t.val).2.2.2.2 = ![128 * ((base a b + t.val) % 1792), 0] := by decide +kernel
theorem off16 : ∀ (a : Fin 2) (b : Fin 16) (t : Fin k2_t1_loop.trips), t.val ≠ 0 →
    k2_off16 (mk2 a b) (carry t.val).2.2.2.2 = ![128 * ((base a b + (t.val - 1)) % 1792), 0] := by decide +kernel
theorem off19 : ∀ (a : Fin 2) (b : Fin 16), k2_off19 (mk2 a b) (carry 56).2.2.2.2 = ![128 * ((base a b + 55) % 1792), 0] := by decide +kernel
theorem off4 : ∀ t : Fin k2_t1_loop.trips, k2_off4 (carry t.val).1 = Ring.soff (t.val + 1) := by decide +kernel
theorem off6 : ∀ t : Fin k2_t1_loop.trips, k2_off6 (carry t.val).1 = Ring.qoff (t.val + 1) := by decide +kernel
theorem off7 : ∀ t : Fin k2_t1_loop.trips, k2_off7 (carry t.val).2.1 = Ring.soff t.val := by decide +kernel
theorem off9 : ∀ t : Fin k2_t1_loop.trips, k2_off9 (carry t.val).2.1 = Ring.qoff t.val := by decide +kernel
theorem off10 : ∀ t : Fin k2_t1_loop.trips, k2_off10 (carry t.val).2.2.1 = Ring.soff t.val := by decide +kernel
theorem off11 : ∀ t : Fin k2_t1_loop.trips, k2_off11 (carry t.val).2.1 = Ring.soff t.val := by decide +kernel
theorem off12 : ∀ t : Fin k2_t1_loop.trips, k2_off12 (carry t.val).2.2.1 = Ring.soff t.val := by decide +kernel
theorem off14 : ∀ t : Fin k2_t1_loop.trips, k2_off14 (carry t.val).2.2.1 = Ring.qoff t.val := by decide +kernel
theorem off17 : ∀ t : Fin k2_t1_loop.trips, t.val ≠ 0 → k2_off17 (carry t.val).2.2.2.1 = Ring.qoff (t.val + 1) := by decide +kernel

end Tile2

end Cert.Proof

end
-- ==== Proof.Tile2.lean ====
/-
  The first SparseCore call's task: its body run over the ring.
-/
module

public import proofs.«01_k».proof.Proof.Trip
public import proofs.«01_k».proof.Proof.Offs2

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

namespace Tile2

variable (a : Fin 2) (b : Fin 16)
variable (arg2 : Memref sig .scVector .hbm S1400000x16 .f32) (harg2 : arg2.IsWhole) (arg3 : Memref sig .scVector .hbm S1x229376 .i32) (harg3 : arg3.IsWhole)
  (arg4 : Memref sig .scVector .hbm S229376x16 .f32) (harg4 : arg4.IsWhole) (al : Memref sig .scVector .vmem S2x1x128 .i32) (hal : al.IsWhole) (v5 : DmaSems sig S2)
  (al0 : Memref sig .scVector .vmem S2x128x16 .f32) (hal0 : al0.IsWhole) (v6 : DmaSems sig S2) (v144 : DmaSems sig S_)

/-- The task's operands as a ring. -/
abbrev R : Ring where
  rows := 1400000
  n := 229376
  M := 1792
  hn := rfl
  hM := by decide
  tab := arg2
  idx := arg3
  out := arg4
  ib := al
  isems := v5
  ob := al0
  osems := v6
  gsem := v144.sem
  b0 := base a b
  NB := 56

/-- The task's core and subcore as the machine numbers them. -/
abbrev cV (a : Fin 2) (b : Fin 16) : Fin τ.nSC := ((mk2 a b) 0).castLE hcore2
abbrev jV (a : Fin 2) (b : Fin 16) : Fin τ.nSub := ((mk2 a b) 1).castLE hsub2

variable (d : Dev nD) (q : PosShare TreeShare) (fT : Buf (Elt F) (arg2.view.loc (V d (cV a b) (jV a b)))) (fI : Buf (Elt F) (arg3.view.loc (V d (cV a b) (jV a b))))
  (G : Buf (Elt F) (arg4.view.loc (V d (cV a b) (jV a b)))) (O : CellTallies nD τ sig (HIx 2)) (W : Waits sig (HIx 2))

set_option maxHeartbeats 4000000 in
/-- One trip of the loop. -/
theorem trip (hO : ∀ g, O g none = 0) (hG : (R a b arg2 arg3 arg4 al v5 al0 v6 v144).Goal d (cV a b) (jV a b) fT fI G) (hI : (R a b arg2 arg3 arg4 al v5 al0 v6 v144).InRange d (cV a b) (jV a b) fI) (t : Fin k2_t1_loop.trips) :
    (R a b arg2 arg3 arg4 al v5 al0 v6 v144).INV d (cV a b) (jV a b) q fT fI G O W t.val ⊢ wp frame (wpE (defs₀ (F := F)) 𝒱₀ (V d (cV a b) (jV a b)) none) Set.univ
      (k2_t1_body (F := F) (mk2 a b) arg2 harg2 arg3 harg3 arg4 harg4 al hal v5 al0 hal0 v6 v144 (w (base a b)) t (carry t.val))
      (fun x => iprop(⌜x = carry (t.val + 1)⌝ ∗ (R a b arg2 arg3 arg4 al v5 al0 v6 v144).INV d (cV a b) (jV a b) q fT fI G O W (t.val + 1))) := by
  have ht : t.val < 56 := t.isLt
  have a1 := cond1 a b t
  have a2 := cond2 a b t
  have a5 := cond5 a b t
  have a7 := cond7 a b t
  have b1 := chk1 a b t
  have b2 := chk2 t
  have b3 := chk3 t
  have o4 := off4 t
  have o5 := off5 a b t
  have o6 := off6 t
  have o7 := off7 t
  have o9 := off9 t
  have o10 := off10 t
  have o11 := off11 t
  have o12 := off12 t
  have o13 := off13 a b t
  have o14 := off14 t
  have o16 := off16 a b t
  have o17 := off17 t
  rw [show carry t.val = ((carry t.val).1, (carry t.val).2.1, (carry t.val).2.2.1, (carry t.val).2.2.2.1, (carry t.val).2.2.2.2) from rfl]
  generalize e6 : (carry t.val).1 = c6 at *
  generalize e7 : (carry t.val).2.1 = c7 at *
  generalize e8 : (carry t.val).2.2.1 = c8 at *
  generalize e9 : (carry t.val).2.2.2.1 = c9 at *
  generalize e10 : (carry t.val).2.2.2.2 = c10 at *
  generalize e4 : w (base a b) = v4
  unfold k2_t1_body
  simp only [k2_part1_eq_skeleton, k2_part2_eq_skeleton]
  unfold k2_part1_skel k2_part2_skel
  simp only [Prog.lift, Prog.bind_op, Prog.bind_ret, Prog.pure_eq_ret, Prog.bind_assoc, bind_dite, bind_dite', ite_self, SparseCore.waitIndirectGather]
  iintro HI
  iapply (Ring.step_assume d (cV a b) (jV a b) b3)
  iapply (Ring.step_assume d (cV a b) (jV a b) b2)
  iapply (Ring.step_assume d (cV a b) (jV a b) b1)
  iapply ((R a b arg2 arg3 arg4 al v5 al0 v6 v144).phase1 d (cV a b) (jV a b) q fT fI G O W t.val ht a1 (fun h => by exact slice_off _ (o5 (a1.mp h)))
    (fun h => by exact congrArg (fun m => Memref.squeeze m S1x128 squeezes_S1x1x128_S1x128) (slice_off _ o4)) (fun h => by exact sem_off _ o6)) $$ HI
  iintro HI
  iapply ((R a b arg2 arg3 arg4 al v5 al0 v6 v144).phase2 d (cV a b) (jV a b) q fT fI G O W hO t.val a2
    (fun h => by exact congrArg (fun m => Memref.squeeze m S1x128 squeezes_S1x1x128_S1x128) (slice_off _ o7)) (fun h => by exact sem_off _ o9)) $$ HI
  iintro HI
  iapply ((R a b arg2 arg3 arg4 al v5 al0 v6 v144).phase3 d (cV a b) (jV a b) q fT fI G O W hO hG hI t.val (by exact rfl)
    (by exact congrArg (fun m => Memref.squeeze m S128x16 squeezes_S1x128x16_S128x16) (slice_off _ o10))
    (by exact congrArg (fun m => ((Memref.squeeze m S1x128 squeezes_S1x1x128_S1x128).slice (Rect.unit (s := S1x128) ![0, 0] S1x128.size inb_S1x128_S1x128_0_0)
      (fun _ => rfl)).squeeze S128 squeezes_S1x128_S128) (slice_off _ o11)) (by exact rfl)
    (by exact congrArg (fun m => Memref.squeeze m S128x16 squeezes_S1x128x16_S128x16) (slice_off _ o10))) $$ HI
  iintro HI
  iapply ((R a b arg2 arg3 arg4 al v5 al0 v6 v144).phase4 d (cV a b) (jV a b) q fT fI G O W t.val ht a5
    (fun h => by exact congrArg (fun m => Memref.squeeze m S128x16 squeezes_S1x128x16_S128x16) (slice_off _ o12)) (fun h => by exact slice_off _ o13) (fun h => by exact sem_off _ o14)) $$ HI
  iintro HI
  iapply ((R a b arg2 arg3 arg4 al v5 al0 v6 v144).phase5 d (cV a b) (jV a b) q fT fI G O W hO t.val a7 (fun h => by exact slice_off _ (o16 (a7.mp h))) (fun h => by exact sem_off _ (o17 (a7.mp h)))) $$ HI
  iintro HI
  unfold Ring.tileWp
  rw [wp_ret]
  imodintro
  isplitr
  · ipureintro
    subst e6 e7 e8 e9 e10 e4
    clear hG hI b1 b2 b3 a1 a2 a5 a7 o4 o5 o6 o7 o9 o10 o11 o12 o13 o14 o16 o17 ht
    clear trip G fT fI
    revert a b t
    decide +kernel
  · iexact HI

end Tile2

end Cert.Proof

end
-- ==== Proof.Body2.lean ====
/-
  The first SparseCore call's task, from start to finish.
-/
module

public import proofs.«01_k».proof.Proof.Ends
public import proofs.«01_k».proof.Proof.Tile2

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

namespace Tile2

theorem off1 : k2_off1 = Ring.soff 0 := by decide +kernel
theorem off3 : k2_off3 = Ring.qoff 0 := by decide +kernel
theorem off20 : k2_off20 (carry 56).2.2.2.1 = Ring.qoff 55 := by decide +kernel
theorem chk4 : k2_chk4 (carry 56).2.2.2.1 := by decide +kernel
theorem chk5 : ∀ (a : Fin 2) (b : Fin 16), k2_chk5 (mk2 a b) (carry 56).2.2.2.2 := by decide +kernel
theorem carry_zero : ((Scalar.addi 0#32 1#32, 0#32, 0#32, 0#32, 0#32) : BitVec 32 × BitVec 32 × BitVec 32 × BitVec 32 × BitVec 32) = carry 0 := by decide +kernel
theorem base_word : ∀ (a : Fin 2) (b : Fin 16), Scalar.muli (Scalar.addi (Scalar.addi 0#32 (Scalar.muli (BitVec.ofNat 32 ((mk2 a b) 1).val) 1#32))
    (Scalar.muli (BitVec.ofNat 32 ((mk2 a b) 0).val) 16#32)) 56#32 = w (base a b) := by decide +kernel
theorem trips_eq : k2_t1_loop.trips = 56 := rfl

variable (a : Fin 2) (b : Fin 16)
variable (arg2 : Memref sig .scVector .hbm S1400000x16 .f32) (harg2 : arg2.IsWhole) (arg3 : Memref sig .scVector .hbm S1x229376 .i32) (harg3 : arg3.IsWhole)
  (arg4 : Memref sig .scVector .hbm S229376x16 .f32) (harg4 : arg4.IsWhole) (al : Memref sig .scVector .vmem S2x1x128 .i32) (hal : al.IsWhole) (v5 : DmaSems sig S2)
  (al0 : Memref sig .scVector .vmem S2x128x16 .f32) (hal0 : al0.IsWhole) (v6 : DmaSems sig S2) (v144 : DmaSems sig S_)

variable (d : Dev nD) (q : PosShare TreeShare) (fT : Buf (Elt F) (arg2.view.loc (V d (cV a b) (jV a b)))) (fI : Buf (Elt F) (arg3.view.loc (V d (cV a b) (jV a b))))
  (G : Buf (Elt F) (arg4.view.loc (V d (cV a b) (jV a b)))) (O : CellTallies nD τ sig (HIx 2)) (W : Waits sig (HIx 2))

set_option maxHeartbeats 4000000 in
/-- The task's whole body: from its operands at rest to its output blocks at the gathered rows. -/
theorem body (hO : ∀ g, O g none = 0) (hG : (R a b arg2 arg3 arg4 al v5 al0 v6 v144).Goal d (cV a b) (jV a b) fT fI G) (hI : (R a b arg2 arg3 arg4 al v5 al0 v6 v144).InRange d (cV a b) (jV a b) fI) :
    (R a b arg2 arg3 arg4 al v5 al0 v6 v144).START d (cV a b) (jV a b) q fT fI O W ⊢ wp frame (wpE (defs₀ (F := F)) 𝒱₀ (V d (cV a b) (jV a b)) none) Set.univ
      (cc2_gather_kernel (F := F) (mk2 a b) arg2 harg2 arg3 harg3 arg4 harg4 al hal v5 al0 hal0 v6 v144)
      (fun _ => (R a b arg2 arg3 arg4 al v5 al0 v6 v144).FINISH d (cV a b) (jV a b) q fT fI G O W) := by
  have o1 := off1
  have o2 := off2 a b
  have o3 := off3
  have o19 := off19 a b
  have o20 := off20
  have c4 := chk4
  have c5 := chk5 a b
  rw [cc2_gather_kernel_eq_skeleton]
  unfold cc2_gather_kernel_skel
  rw [k2_part3_eq_skeleton, k2_part4_eq_skeleton]
  unfold k2_part3_skel k2_part4_skel
  dsimp only
  rw [base_word, carry_zero]
  simp only [Prog.lift, Prog.bind_op, Prog.bind_ret, Prog.pure_eq_ret, Prog.bind_assoc]
  iintro HS
  iapply ((R a b arg2 arg3 arg4 al v5 al0 v6 v144).fill d (cV a b) (jV a b) q fT fI G O W (by exact (by decide : 0 < 56)) (by exact slice_off _ o2)
    (by exact congrArg (fun m => Memref.squeeze m S1x128 squeezes_S1x1x128_S1x128) (slice_off _ o1)) (by exact sem_off _ o3)) $$ HS
  iintro HI
  unfold Ring.tileWp
  iapply (Scf.wp_for_bind (I := fun t (acc : BitVec 32 × BitVec 32 × BitVec 32 × BitVec 32 × BitVec 32) =>
    iprop(⌜acc = carry t⌝ ∗ (R a b arg2 arg3 arg4 al v5 al0 v6 v144).INV d (cV a b) (jV a b) q fT fI G O W t)) (hbody := fun t acc => by
      iintro ⟨%e, HI⟩
      subst e
      iapply (trip a b arg2 harg2 arg3 harg3 arg4 harg4 al hal v5 al0 hal0 v6 v144 d q fT fI G O W hO hG hI t) $$ HI)) $$ [HI]
  · isplitr; · ipureintro; rfl
    iexact HI
  iintro %acc ⟨%e, HI⟩
  replace e : acc = carry 56 := e
  subst e
  rw [show Scf.trips k2_t1_loop.lb k2_t1_loop.ub k2_t1_loop.st = 2 * 27 + 2 from rfl]
  iapply (Ring.step_assume d (cV a b) (jV a b) c5)
  iapply (Ring.step_assume d (cV a b) (jV a b) c4)
  iapply ((R a b arg2 arg3 arg4 al v5 al0 v6 v144).drain d (cV a b) (jV a b) q fT fI G O W hO 27 rfl (by exact slice_off _ o19) (by exact sem_off _ o20)) $$ HI
  iintro HF
  unfold Ring.tileWp
  rw [wp_ret]
  imodintro
  iexact HF

end Tile2

end Cert.Proof
-- ==== Proof.Offs3.lean ====
/-
  The second SparseCore call's address arithmetic in closed form.
-/
module

public import proofs.«01_k».proof.Proof.Ring

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Grid coordinates from a core and a subcore. -/
def mk3 (a : Fin 2) (b : Fin 16) : grid3.Coords := fun x => match x with
  | 0 => a
  | 1 => b
theorem eq_mk3 (i : grid3.Coords) : i = mk3 (i 0) (i 1) := by
  funext x; match x with
  | 0 => rfl
  | 1 => rfl

namespace Tile3

/-- The first block of a task. -/
def base (a : Fin 2) (b : Fin 16) : ℕ := (b.val + 16 * a.val) * 48
abbrev w (n : ℕ) : BitVec 32 := BitVec.ofNat 32 n

/-- The words a trip carries. -/
def carry (t : ℕ) : BitVec 32 × BitVec 32 × BitVec 32 × BitVec 32 × BitVec 32 :=
  (w (min (t + 1) 48), w t, w t, w (t - 1), w (if t = 48 then 0 else t))

theorem cond1 : ∀ (a : Fin 2) (b : Fin 16) (t : Fin k3_t1_loop.trips), k3_cond1 (mk3 a b) t (carry t.val).2.2.2.2 = 1#1 ↔ t.val + 1 < 48 := by decide +kernel
theorem cond2 : ∀ (a : Fin 2) (b : Fin 16) (t : Fin k3_t1_loop.trips), k3_cond2 (mk3 a b) t (carry t.val).2.2.2.2 = 1#1 := by decide +kernel
theorem cond5 : ∀ (a : Fin 2) (b : Fin 16) (t : Fin k3_t1_loop.trips), k3_cond5 (mk3 a b) t (carry t.val).2.2.2.2 = 1#1 := by decide +kernel
theorem cond7 : ∀ (a : Fin 2) (b : Fin 16) (t : Fin k3_t1_loop.trips), k3_cond7 (mk3 a b) t (carry t.val).2.2.2.2 = 1#1 ↔ t.val ≠ 0 := by decide +kernel
theorem chk1 : ∀ (a : Fin 2) (b : Fin 16) (t : Fin k3_t1_loop.trips), k3_chk1 (mk3 a b) t (carry t.val).1 (carry t.val).2.1 (carry t.val).2.2.1
    (carry t.val).2.2.2.1 (carry t.val).2.2.2.2 := by decide +kernel
theorem chk2 : ∀ (t : Fin k3_t1_loop.trips), k3_chk2 (carry t.val).2.2.1 := by decide +kernel
theorem chk3 : ∀ (t : Fin k3_t1_loop.trips), k3_chk3 (carry t.val).2.1 := by decide +kernel
theorem off2 : ∀ (a : Fin 2) (b : Fin 16), k3_off2 (mk3 a b) = ![0, 128 * ((base a b + 0) % 1536)] := by decide +kernel
theorem off5 : ∀ (a : Fin 2) (b : Fin 16) (t : Fin k3_t1_loop.trips), t.val + 1 < 48 →
    k3_off5 (mk3 a b) (carry t.val).2.2.2.2 = ![0, 128 * ((base a b + (t.val + 1)) % 1536)] := by decide +kernel
theorem off13 : ∀ (a : Fin 2) (b : Fin 16) (t : Fin k3_t1_loop.trips),
    k3_off13 (mk3 a b) (carry t.val).2.2.2.2 = ![128 * ((base a b + t.val) % 1536), 0] := by decide +kernel
theorem off16 : ∀ (a : Fin 2) (b : Fin 16) (t : Fin k3_t1_loop.trips), t.val ≠ 0 →
    k3_off16 (mk3 a b) (carry t.val).2.2.2.2 = ![128 * ((base a b + (t.val - 1)) % 1536), 0] := by decide +kernel
theorem off19 : ∀ (a : Fin 2) (b : Fin 16), k3_off19 (mk3 a b) (carry 48).2.2.2.2 = ![128 * ((base a b + 47) % 1536), 0] := by decide +kernel
theorem off4 : ∀ t : Fin k3_t1_loop.trips, k3_off4 (carry t.val).1 = Ring.soff (t.val + 1) := by decide +kernel
theorem off6 : ∀ t : Fin k3_t1_loop.trips, k3_off6 (carry t.val).1 = Ring.qoff (t.val + 1) := by decide +kernel
theorem off7 : ∀ t : Fin k3_t1_loop.trips, k3_off7 (carry t.val).2.1 = Ring.soff t.val := by decide +kernel
theorem off9 : ∀ t : Fin k3_t1_loop.trips, k3_off9 (carry t.val).2.1 = Ring.qoff t.val := by decide +kernel
theorem off10 : ∀ t : Fin k3_t1_loop.trips, k3_off10 (carry t.val).2.2.1 = Ring.soff t.val := by decide +kernel
theorem off11 : ∀ t : Fin k3_t1_loop.trips, k3_off11 (carry t.val).2.1 = Ring.soff t.val := by decide +kernel
theorem off12 : ∀ t : Fin k3_t1_loop.trips, k3_off12 (carry t.val).2.2.1 = Ring.soff t.val := by decide +kernel
theorem off14 : ∀ t : Fin k3_t1_loop.trips, k3_off14 (carry t.val).2.2.1 = Ring.qoff t.val := by decide +kernel
theorem off17 : ∀ t : Fin k3_t1_loop.trips, t.val ≠ 0 → k3_off17 (carry t.val).2.2.2.1 = Ring.qoff (t.val + 1) := by decide +kernel

end Tile3

end Cert.Proof

end
-- ==== Proof.Tile3.lean ====
/-
  The second SparseCore call's task: its body run over the ring.
-/
module

public import proofs.«01_k».proof.Proof.Trip
public import proofs.«01_k».proof.Proof.Offs3

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

namespace Tile3

variable (a : Fin 2) (b : Fin 16)
variable (arg2 : Memref sig .scVector .hbm S1200000x16 .f32) (harg2 : arg2.IsWhole) (arg3 : Memref sig .scVector .hbm S1x196608 .i32) (harg3 : arg3.IsWhole)
  (arg4 : Memref sig .scVector .hbm S196608x16 .f32) (harg4 : arg4.IsWhole) (al : Memref sig .scVector .vmem S2x1x128 .i32) (hal : al.IsWhole) (v5 : DmaSems sig S2)
  (al0 : Memref sig .scVector .vmem S2x128x16 .f32) (hal0 : al0.IsWhole) (v6 : DmaSems sig S2) (v144 : DmaSems sig S_)

/-- The task's operands as a ring. -/
abbrev R : Ring where
  rows := 1200000
  n := 196608
  M := 1536
  hn := rfl
  hM := by decide
  tab := arg2
  idx := arg3
  out := arg4
  ib := al
  isems := v5
  ob := al0
  osems := v6
  gsem := v144.sem
  b0 := base a b
  NB := 48

/-- The task's core and subcore as the machine numbers them. -/
abbrev cV (a : Fin 2) (b : Fin 16) : Fin τ.nSC := ((mk3 a b) 0).castLE hcore3
abbrev jV (a : Fin 2) (b : Fin 16) : Fin τ.nSub := ((mk3 a b) 1).castLE hsub3

variable (d : Dev nD) (q : PosShare TreeShare) (fT : Buf (Elt F) (arg2.view.loc (V d (cV a b) (jV a b)))) (fI : Buf (Elt F) (arg3.view.loc (V d (cV a b) (jV a b))))
  (G : Buf (Elt F) (arg4.view.loc (V d (cV a b) (jV a b)))) (O : CellTallies nD τ sig (HIx 2)) (W : Waits sig (HIx 2))

set_option maxHeartbeats 4000000 in
/-- One trip of the loop. -/
theorem trip (hO : ∀ g, O g none = 0) (hG : (R a b arg2 arg3 arg4 al v5 al0 v6 v144).Goal d (cV a b) (jV a b) fT fI G) (hI : (R a b arg2 arg3 arg4 al v5 al0 v6 v144).InRange d (cV a b) (jV a b) fI) (t : Fin k3_t1_loop.trips) :
    (R a b arg2 arg3 arg4 al v5 al0 v6 v144).INV d (cV a b) (jV a b) q fT fI G O W t.val ⊢ wp frame (wpE (defs₀ (F := F)) 𝒱₀ (V d (cV a b) (jV a b)) none) Set.univ
      (k3_t1_body (F := F) (mk3 a b) arg2 harg2 arg3 harg3 arg4 harg4 al hal v5 al0 hal0 v6 v144 (w (base a b)) t (carry t.val))
      (fun x => iprop(⌜x = carry (t.val + 1)⌝ ∗ (R a b arg2 arg3 arg4 al v5 al0 v6 v144).INV d (cV a b) (jV a b) q fT fI G O W (t.val + 1))) := by
  have ht : t.val < 48 := t.isLt
  have a1 := cond1 a b t
  have a2 := cond2 a b t
  have a5 := cond5 a b t
  have a7 := cond7 a b t
  have b1 := chk1 a b t
  have b2 := chk2 t
  have b3 := chk3 t
  have o4 := off4 t
  have o5 := off5 a b t
  have o6 := off6 t
  have o7 := off7 t
  have o9 := off9 t
  have o10 := off10 t
  have o11 := off11 t
  have o12 := off12 t
  have o13 := off13 a b t
  have o14 := off14 t
  have o16 := off16 a b t
  have o17 := off17 t
  rw [show carry t.val = ((carry t.val).1, (carry t.val).2.1, (carry t.val).2.2.1, (carry t.val).2.2.2.1, (carry t.val).2.2.2.2) from rfl]
  generalize e6 : (carry t.val).1 = c6 at *
  generalize e7 : (carry t.val).2.1 = c7 at *
  generalize e8 : (carry t.val).2.2.1 = c8 at *
  generalize e9 : (carry t.val).2.2.2.1 = c9 at *
  generalize e10 : (carry t.val).2.2.2.2 = c10 at *
  generalize e4 : w (base a b) = v4
  unfold k3_t1_body
  simp only [k3_part1_eq_skeleton, k3_part2_eq_skeleton]
  unfold k3_part1_skel k3_part2_skel
  simp only [Prog.lift, Prog.bind_op, Prog.bind_ret, Prog.pure_eq_ret, Prog.bind_assoc, bind_dite, bind_dite', ite_self, SparseCore.waitIndirectGather]
  iintro HI
  iapply (Ring.step_assume d (cV a b) (jV a b) b3)
  iapply (Ring.step_assume d (cV a b) (jV a b) b2)
  iapply (Ring.step_assume d (cV a b) (jV a b) b1)
  iapply ((R a b arg2 arg3 arg4 al v5 al0 v6 v144).phase1 d (cV a b) (jV a b) q fT fI G O W t.val ht a1 (fun h => by exact slice_off _ (o5 (a1.mp h)))
    (fun h => by exact congrArg (fun m => Memref.squeeze m S1x128 squeezes_S1x1x128_S1x128) (slice_off _ o4)) (fun h => by exact sem_off _ o6)) $$ HI
  iintro HI
  iapply ((R a b arg2 arg3 arg4 al v5 al0 v6 v144).phase2 d (cV a b) (jV a b) q fT fI G O W hO t.val a2
    (fun h => by exact congrArg (fun m => Memref.squeeze m S1x128 squeezes_S1x1x128_S1x128) (slice_off _ o7)) (fun h => by exact sem_off _ o9)) $$ HI
  iintro HI
  iapply ((R a b arg2 arg3 arg4 al v5 al0 v6 v144).phase3 d (cV a b) (jV a b) q fT fI G O W hO hG hI t.val (by exact rfl)
    (by exact congrArg (fun m => Memref.squeeze m S128x16 squeezes_S1x128x16_S128x16) (slice_off _ o10))
    (by exact congrArg (fun m => ((Memref.squeeze m S1x128 squeezes_S1x1x128_S1x128).slice (Rect.unit (s := S1x128) ![0, 0] S1x128.size inb_S1x128_S1x128_0_0)
      (fun _ => rfl)).squeeze S128 squeezes_S1x128_S128) (slice_off _ o11)) (by exact rfl)
    (by exact congrArg (fun m => Memref.squeeze m S128x16 squeezes_S1x128x16_S128x16) (slice_off _ o10))) $$ HI
  iintro HI
  iapply ((R a b arg2 arg3 arg4 al v5 al0 v6 v144).phase4 d (cV a b) (jV a b) q fT fI G O W t.val ht a5
    (fun h => by exact congrArg (fun m => Memref.squeeze m S128x16 squeezes_S1x128x16_S128x16) (slice_off _ o12)) (fun h => by exact slice_off _ o13) (fun h => by exact sem_off _ o14)) $$ HI
  iintro HI
  iapply ((R a b arg2 arg3 arg4 al v5 al0 v6 v144).phase5 d (cV a b) (jV a b) q fT fI G O W hO t.val a7 (fun h => by exact slice_off _ (o16 (a7.mp h))) (fun h => by exact sem_off _ (o17 (a7.mp h)))) $$ HI
  iintro HI
  unfold Ring.tileWp
  rw [wp_ret]
  imodintro
  isplitr
  · ipureintro
    subst e6 e7 e8 e9 e10 e4
    clear hG hI b1 b2 b3 a1 a2 a5 a7 o4 o5 o6 o7 o9 o10 o11 o12 o13 o14 o16 o17 ht
    clear trip G fT fI
    revert a b t
    decide +kernel
  · iexact HI

end Tile3

end Cert.Proof

end
-- ==== Proof.Body3.lean ====
/-
  The second SparseCore call's task, from start to finish.
-/
module

public import proofs.«01_k».proof.Proof.Ends
public import proofs.«01_k».proof.Proof.Tile3

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

namespace Tile3

theorem off1 : k3_off1 = Ring.soff 0 := by decide +kernel
theorem off3 : k3_off3 = Ring.qoff 0 := by decide +kernel
theorem off20 : k3_off20 (carry 48).2.2.2.1 = Ring.qoff 47 := by decide +kernel
theorem chk4 : k3_chk4 (carry 48).2.2.2.1 := by decide +kernel
theorem chk5 : ∀ (a : Fin 2) (b : Fin 16), k3_chk5 (mk3 a b) (carry 48).2.2.2.2 := by decide +kernel
theorem carry_zero : ((Scalar.addi 0#32 1#32, 0#32, 0#32, 0#32, 0#32) : BitVec 32 × BitVec 32 × BitVec 32 × BitVec 32 × BitVec 32) = carry 0 := by decide +kernel
theorem base_word : ∀ (a : Fin 2) (b : Fin 16), Scalar.muli (Scalar.addi (Scalar.addi 0#32 (Scalar.muli (BitVec.ofNat 32 ((mk3 a b) 1).val) 1#32))
    (Scalar.muli (BitVec.ofNat 32 ((mk3 a b) 0).val) 16#32)) 48#32 = w (base a b) := by decide +kernel
theorem trips_eq : k3_t1_loop.trips = 48 := rfl

variable (a : Fin 2) (b : Fin 16)
variable (arg2 : Memref sig .scVector .hbm S1200000x16 .f32) (harg2 : arg2.IsWhole) (arg3 : Memref sig .scVector .hbm S1x196608 .i32) (harg3 : arg3.IsWhole)
  (arg4 : Memref sig .scVector .hbm S196608x16 .f32) (harg4 : arg4.IsWhole) (al : Memref sig .scVector .vmem S2x1x128 .i32) (hal : al.IsWhole) (v5 : DmaSems sig S2)
  (al0 : Memref sig .scVector .vmem S2x128x16 .f32) (hal0 : al0.IsWhole) (v6 : DmaSems sig S2) (v144 : DmaSems sig S_)

variable (d : Dev nD) (q : PosShare TreeShare) (fT : Buf (Elt F) (arg2.view.loc (V d (cV a b) (jV a b)))) (fI : Buf (Elt F) (arg3.view.loc (V d (cV a b) (jV a b))))
  (G : Buf (Elt F) (arg4.view.loc (V d (cV a b) (jV a b)))) (O : CellTallies nD τ sig (HIx 2)) (W : Waits sig (HIx 2))

set_option maxHeartbeats 4000000 in
/-- The task's whole body: from its operands at rest to its output blocks at the gathered rows. -/
theorem body (hO : ∀ g, O g none = 0) (hG : (R a b arg2 arg3 arg4 al v5 al0 v6 v144).Goal d (cV a b) (jV a b) fT fI G) (hI : (R a b arg2 arg3 arg4 al v5 al0 v6 v144).InRange d (cV a b) (jV a b) fI) :
    (R a b arg2 arg3 arg4 al v5 al0 v6 v144).START d (cV a b) (jV a b) q fT fI O W ⊢ wp frame (wpE (defs₀ (F := F)) 𝒱₀ (V d (cV a b) (jV a b)) none) Set.univ
      (cc3_gather_kernel (F := F) (mk3 a b) arg2 harg2 arg3 harg3 arg4 harg4 al hal v5 al0 hal0 v6 v144)
      (fun _ => (R a b arg2 arg3 arg4 al v5 al0 v6 v144).FINISH d (cV a b) (jV a b) q fT fI G O W) := by
  have o1 := off1
  have o2 := off2 a b
  have o3 := off3
  have o19 := off19 a b
  have o20 := off20
  have c4 := chk4
  have c5 := chk5 a b
  rw [cc3_gather_kernel_eq_skeleton]
  unfold cc3_gather_kernel_skel
  rw [k3_part3_eq_skeleton, k3_part4_eq_skeleton]
  unfold k3_part3_skel k3_part4_skel
  dsimp only
  rw [base_word, carry_zero]
  simp only [Prog.lift, Prog.bind_op, Prog.bind_ret, Prog.pure_eq_ret, Prog.bind_assoc]
  iintro HS
  iapply ((R a b arg2 arg3 arg4 al v5 al0 v6 v144).fill d (cV a b) (jV a b) q fT fI G O W (by exact (by decide : 0 < 48)) (by exact slice_off _ o2)
    (by exact congrArg (fun m => Memref.squeeze m S1x128 squeezes_S1x1x128_S1x128) (slice_off _ o1)) (by exact sem_off _ o3)) $$ HS
  iintro HI
  unfold Ring.tileWp
  iapply (Scf.wp_for_bind (I := fun t (acc : BitVec 32 × BitVec 32 × BitVec 32 × BitVec 32 × BitVec 32) =>
    iprop(⌜acc = carry t⌝ ∗ (R a b arg2 arg3 arg4 al v5 al0 v6 v144).INV d (cV a b) (jV a b) q fT fI G O W t)) (hbody := fun t acc => by
      iintro ⟨%e, HI⟩
      subst e
      iapply (trip a b arg2 harg2 arg3 harg3 arg4 harg4 al hal v5 al0 hal0 v6 v144 d q fT fI G O W hO hG hI t) $$ HI)) $$ [HI]
  · isplitr; · ipureintro; rfl
    iexact HI
  iintro %acc ⟨%e, HI⟩
  replace e : acc = carry 48 := e
  subst e
  rw [show Scf.trips k3_t1_loop.lb k3_t1_loop.ub k3_t1_loop.st = 2 * 23 + 2 from rfl]
  iapply (Ring.step_assume d (cV a b) (jV a b) c5)
  iapply (Ring.step_assume d (cV a b) (jV a b) c4)
  iapply ((R a b arg2 arg3 arg4 al v5 al0 v6 v144).drain d (cV a b) (jV a b) q fT fI G O W hO 23 rfl (by exact slice_off _ o19) (by exact sem_off _ o20)) $$ HI
  iintro HF
  unfold Ring.tileWp
  rw [wp_ret]
  imodintro
  iexact HF

end Tile3

end Cert.Proof
-- ==== Proof.Calls.lean ====
/-
  The two SparseCore calls as the launch sees them: what each task is handed and hands back, that it does so, and how the
  calls' arrays are dealt to the tasks and come back gathered.
-/
module

public import proofs.«01_k».proof.Proof.Deal
public import proofs.«01_k».proof.Proof.Body2
public import proofs.«01_k».proof.Proof.Body3

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The rows a flat table gives at a list of row numbers (each taken below the table's height). -/
def gath {rows n : ℕ} (hr : 0 < rows) (fT : FVec F (⟨2, ![rows, 16]⟩ : Shape) .f32) (fI : IVec (⟨2, ![1, n]⟩ : Shape) 32) :
    FVec F (⟨2, ![n, 16]⟩ : Shape) .f32 :=
  fun x => fT (ix2 ⟨(fI (ix2 0 (x 0))).toNat % rows, Nat.mod_lt _ hr⟩ (x 1))

/-- The first call's task on core `a`, subcore `b`; and the second's. -/
abbrev R2 (a : Fin 2) (b : Fin 16) : Ring :=
  Tile2.R a b (Memref.whole main_v31_scv) (Memref.whole main_v34_scv) (Memref.whole main_v35_scv) (Memref.whole cc2_scoped0) cc2_scoped1 (Memref.whole cc2_scoped2) cc2_scoped3 cc2_scoped4
abbrev R3 (a : Fin 2) (b : Fin 16) : Ring :=
  Tile3.R a b (Memref.whole main_v33_scv) (Memref.whole main_v36_scv) (Memref.whole main_v37_scv) (Memref.whole cc3_scoped0) cc3_scoped1 (Memref.whole cc3_scoped2) cc3_scoped3 cc3_scoped4

abbrev core' (a : Fin 2) : Fin τ.nSC := a.castLE hcore2
abbrev sub' (b : Fin 16) : Fin τ.nSub := b.castLE hsub2

theorem scratch2 (a : Fin 2) (b : Fin 16) : (R2 a b).Scratch where
  ib := View.set_whole _
  ob := View.set_whole _
  ibOwn _ _ := rfl
  obOwn _ _ := rfl
  ne := by show (cc2_scoped2 : Ref sig .scVector) ≠ cc2_scoped0; decide
  isScoped := by decide +kernel +revert
  nodup := by decide +kernel +revert
theorem scratch3 (a : Fin 2) (b : Fin 16) : (R3 a b).Scratch where
  ib := View.set_whole _
  ob := View.set_whole _
  ibOwn _ _ := rfl
  obOwn _ _ := rfl
  ne := by show (cc3_scoped2 : Ref sig .scVector) ≠ cc3_scoped0; decide
  isScoped := by decide +kernel +revert
  nodup := by decide +kernel +revert

/-- The arrays the calls work on, device by device. -/
structure Arrs (F : FTy → Type) where
  tA : Dev nD → FVec F S1400000x16 .f32
  iA : Dev nD → IVec S1x229376 32
  tB : Dev nD → FVec F S1200000x16 .f32
  iB : Dev nD → IVec S1x196608 32

namespace Arrs

variable (A : Arrs F)

def gA (d : Dev nD) : FVec F S229376x16 .f32 := gath (rows := 1400000) (n := 229376) (by decide) (A.tA d) (A.iA d)
def gB (d : Dev nD) : FVec F S196608x16 .f32 := gath (rows := 1200000) (n := 196608) (by decide) (A.tB d) (A.iB d)

/-- Every row number the calls look up names a row. -/
structure InRange : Prop where
  a : ∀ d (r : Fin 229376), (A.iA d (ix2 0 r)).toNat < 1400000
  b : ∀ d (r : Fin 196608), (A.iB d (ix2 0 r)).toNat < 1200000

def go2 (d : Dev nD) (a : Fin 2) (b : Fin 16) : sProp 𝕄 := (R2 a b).GO d (core' a) (sub' b) (shareOf (b.val + 16 * a.val)) (A.tA d) (A.iA d)
def td2 (d : Dev nD) (a : Fin 2) (b : Fin 16) : sProp 𝕄 := (R2 a b).TD d (core' a) (sub' b) (shareOf (b.val + 16 * a.val)) (A.tA d) (A.iA d) (A.gA d)
def go3 (d : Dev nD) (a : Fin 2) (b : Fin 16) : sProp 𝕄 := (R3 a b).GO d (core' a) (sub' b) (shareOf (b.val + 16 * a.val)) (A.tB d) (A.iB d)
def td3 (d : Dev nD) (a : Fin 2) (b : Fin 16) : sProp 𝕄 := (R3 a b).TD d (core' a) (sub' b) (shareOf (b.val + 16 * a.val)) (A.tB d) (A.iB d) (A.gB d)

instance go_storable (R : Ring) (d : Dev nD) (cc : Fin τ.nSC) (jj : Fin τ.nSub) (q : PosShare TreeShare) (fT : Buf (Elt F) (R.tab.view.loc (V d cc jj)))
    (fI : Buf (Elt F) (R.idx.view.loc (V d cc jj))) : BI.Storable (upEmb : UEmb _ 𝕄) (R.GO d cc jj q fT fI) := by
  unfold Ring.GO Ring.idxFrom Ring.todo; infer_instance
instance td_storable (R : Ring) (d : Dev nD) (cc : Fin τ.nSC) (jj : Fin τ.nSub) (q : PosShare TreeShare) (fT : Buf (Elt F) (R.tab.view.loc (V d cc jj)))
    (fI : Buf (Elt F) (R.idx.view.loc (V d cc jj))) (G : Buf (Elt F) (R.out.view.loc (V d cc jj))) : BI.Storable (upEmb : UEmb _ 𝕄) (R.TD d cc jj q fT fI G) := by
  unfold Ring.TD Ring.idxFrom Ring.done; infer_instance

instance go2_storable (d : Dev nD) (a : Fin 2) (b : Fin 16) : BI.Storable (upEmb : UEmb _ 𝕄) (A.go2 d a b) := go_storable _ _ _ _ _ _ _
instance go3_storable (d : Dev nD) (a : Fin 2) (b : Fin 16) : BI.Storable (upEmb : UEmb _ 𝕄) (A.go3 d a b) := go_storable _ _ _ _ _ _ _
instance td2_storable (d : Dev nD) (a : Fin 2) (b : Fin 16) : BI.Storable (upEmb : UEmb _ 𝕄) (A.td2 d a b) := td_storable _ _ _ _ _ _ _ _
instance td3_storable (d : Dev nD) (a : Fin 2) (b : Fin 16) : BI.Storable (upEmb : UEmb _ 𝕄) (A.td3 d a b) := td_storable _ _ _ _ _ _ _ _

/-- What the sequencer of core `a` is handed: its tasks' parts. -/
def st2 (d : Dev nD) (a : Fin 2) : sProp 𝕄 := bigSep Finset.univ fun b : Fin 16 => A.go2 d a b
instance st2_storable (d : Dev nD) (a : Fin 2) : BI.Storable (upEmb : UEmb _ 𝕄) (A.st2 d a) := by unfold st2; infer_instance
/-- What the sequencer of core `a` is handed: its tasks' parts. -/
def st3 (d : Dev nD) (a : Fin 2) : sProp 𝕄 := bigSep Finset.univ fun b : Fin 16 => A.go3 d a b
instance st3_storable (d : Dev nD) (a : Fin 2) : BI.Storable (upEmb : UEmb _ 𝕄) (A.st3 d a) := by unfold st3; infer_instance
/-- What the sequencer of core `a` hands back: its tasks' parts. -/
def dn2 (d : Dev nD) (a : Fin 2) : sProp 𝕄 := bigSep Finset.univ fun b : Fin 16 => A.td2 d a b
instance dn2_storable (d : Dev nD) (a : Fin 2) : BI.Storable (upEmb : UEmb _ 𝕄) (A.dn2 d a) := by unfold dn2; infer_instance
/-- What the sequencer of core `a` hands back: its tasks' parts. -/
def dn3 (d : Dev nD) (a : Fin 2) : sProp 𝕄 := bigSep Finset.univ fun b : Fin 16 => A.td3 d a b
instance dn3_storable (d : Dev nD) (a : Fin 2) : BI.Storable (upEmb : UEmb _ 𝕄) (A.dn3 d a) := by unfold dn3; infer_instance

/-- What the handshakes of the two calls carry. -/
def P : (K (F := F)).Pay (nD := nD) (Val := Elt F) (Name := ℕ) (U := UU) where
  st := fun q d c => match q with
    | 0 => A.st2 d c
    | 1 => A.st3 d c
  dn := fun q d c => match q with
    | 0 => A.dn2 d c
    | 1 => A.dn3 d c
  go := fun q d c i => match q with
    | 0 => A.go2 d c i
    | 1 => A.go3 d c i
  td := fun q d c i => match q with
    | 0 => A.td2 d c i
    | 1 => A.td3 d c i
  x := fun _ _ => iprop(emp)

instance P_storable : (P (F := F) A).IsStorable where
  st q d c := match q with
    | 0 => A.st2_storable d c
    | 1 => A.st3_storable d c
  dn q d c := match q with
    | 0 => A.dn2_storable d c
    | 1 => A.dn3_storable d c
  go q d c i := match q with
    | 0 => A.go2_storable d c i
    | 1 => A.go3_storable d c i
  td q d c i := match q with
    | 0 => A.td2_storable d c i
    | 1 => A.td3_storable d c i

theorem over_subs0 (Φ : Fin 16 → sProp 𝕄) : (bigSep Finset.univ fun i : Fin ((K (F := F)).nSub 0) => Φ (Fin.cast rfl i)) = bigSep Finset.univ Φ :=
  bigSep_congr fun _ _ => congrArg Φ (Fin.ext rfl)
theorem over_subs1 (Φ : Fin 16 → sProp 𝕄) : (bigSep Finset.univ fun i : Fin ((K (F := F)).nSub 1) => Φ (Fin.cast rfl i)) = bigSep Finset.univ Φ :=
  bigSep_congr fun _ _ => congrArg Φ (Fin.ext rfl)

theorem vecSplit (q : Fin 2) : (K (F := F)).VecSplit' A.P q := by
  intro d c
  match q with
  | 0 =>
    show A.st2 d c ⊢ |={Set.univ}=> iprop((bigSep Finset.univ fun i : Fin ((K (F := F)).nSub 0) => A.go2 d c (Fin.cast rfl i))
      ∗ ((bigSep Finset.univ fun i : Fin ((K (F := F)).nSub 0) => A.td2 d c (Fin.cast rfl i)) -∗ A.dn2 d c))
    rw [over_subs0 (fun i => A.go2 d c i), over_subs0 (fun i => A.td2 d c i)]
    unfold st2 dn2
    iintro H; imodintro
    isplitl [H]; · iexact H
    iintro H; iexact H
  | 1 =>
    show A.st3 d c ⊢ |={Set.univ}=> iprop((bigSep Finset.univ fun i : Fin ((K (F := F)).nSub 1) => A.go3 d c (Fin.cast rfl i))
      ∗ ((bigSep Finset.univ fun i : Fin ((K (F := F)).nSub 1) => A.td3 d c (Fin.cast rfl i)) -∗ A.dn3 d c))
    rw [over_subs1 (fun i => A.go3 d c i), over_subs1 (fun i => A.td3 d c i)]
    unfold st3 dn3
    iintro H; imodintro
    isplitl [H]; · iexact H
    iintro H; iexact H

theorem goal2 (d : Dev nD) (a : Fin 2) (b : Fin 16) (cc : Fin τ.nSC) (jj : Fin τ.nSub) : (R2 a b).Goal (F := F) d cc jj (A.tA d) (A.iA d) (A.gA d) := by
  intro r e k hk
  show A.gA d (ix2 r e) = A.tA d (ix2 k e)
  replace hk : (A.iA d (ix2 0 r)).toNat = k.val := hk
  refine congrArg (fun k => A.tA d (ix2 k e)) (Fin.ext ?_)
  exact (Nat.mod_eq_of_lt (by rw [show ((ix2 r e) 0 : Fin _) = r from rfl, hk]; exact k.isLt)).trans hk
theorem goal3 (d : Dev nD) (a : Fin 2) (b : Fin 16) (cc : Fin τ.nSC) (jj : Fin τ.nSub) : (R3 a b).Goal (F := F) d cc jj (A.tB d) (A.iB d) (A.gB d) := by
  intro r e k hk
  show A.gB d (ix2 r e) = A.tB d (ix2 k e)
  replace hk : (A.iB d (ix2 0 r)).toNat = k.val := hk
  refine congrArg (fun k => A.tB d (ix2 k e)) (Fin.ext ?_)
  exact (Nat.mod_eq_of_lt (by rw [show ((ix2 r e) 0 : Fin _) = r from rfl, hk]; exact k.isLt)).trans hk

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem defs₀_two (c : Fin τ.nSC) (s : Fin τ.nSub) :
    defs₀ (F := F) (.scVector c s) 2 ()
      = SparseCore.onTile hcore2 hsub2 (fun c s => cc2_gather_kernel (mk2 c s)
          (Memref.whole main_v31_scv) (Memref.isWhole_whole _) (Memref.whole main_v34_scv) (Memref.isWhole_whole _) (Memref.whole main_v35_scv) (Memref.isWhole_whole _)
          (Memref.whole cc2_scoped0) (Memref.isWhole_whole _) cc2_scoped1 (Memref.whole cc2_scoped2) (Memref.isWhole_whole _) cc2_scoped3 cc2_scoped4) ⟨⟩ c s := by
  have e : ∀ (a : Fin 2) (b : Fin 16), (fun | 0 => a | 1 => b | ⟨_ + 2, h⟩ => absurd h (Nat.not_lt.2 (Nat.le_add_left _ _)) : grid2.Coords) = mk2 a b := by
    intro a b; funext x; match x with | 0 => rfl | 1 => rfl
  simp only [← e]
  rfl

theorem defs₀_three (c : Fin τ.nSC) (s : Fin τ.nSub) :
    defs₀ (F := F) (.scVector c s) 3 ()
      = SparseCore.onTile hcore3 hsub3 (fun c s => cc3_gather_kernel (mk3 c s)
          (Memref.whole main_v33_scv) (Memref.isWhole_whole _) (Memref.whole main_v36_scv) (Memref.isWhole_whole _) (Memref.whole main_v37_scv) (Memref.isWhole_whole _)
          (Memref.whole cc3_scoped0) (Memref.isWhole_whole _) cc3_scoped1 (Memref.whole cc3_scoped2) (Memref.isWhole_whole _) cc3_scoped3 cc3_scoped4) ⟨⟩ c s := by
  have e : ∀ (a : Fin 2) (b : Fin 16), (fun | 0 => a | 1 => b | ⟨_ + 2, h⟩ => absurd h (Nat.not_lt.2 (Nat.le_add_left _ _)) : grid3.Coords) = mk3 a b := by
    intro a b; funext x; match x with | 0 => rfl | 1 => rfl
  simp only [← e]
  rfl

theorem tile2 (hR : A.InRange) (d : Dev nD) (a : Fin 2) (b : Fin 16) (O : CellTallies nD τ sig (HIx 2)) (W : Waits sig (HIx 2)) (hO : ∀ g, O g none = 0) :
    iprop(levAts (K (F := F)).L (K (F := F)).lev ∗ emp ∗ A.go2 d a b ∗ scopedBufs (V d (core' a) (sub' b)) ∗ scopedSems0 (V d (core' a) (sub' b))
        ∗ owes (V d (core' a) (sub' b)) O W)
      ⊢ wp frame (wpE (defs₀ (F := F)) 𝒱₀ (V d (core' a) (sub' b)) none) Set.univ (defs₀ (F := F) (.scVector (core' a) (sub' b)) 2 ())
          fun _ => iprop(A.td2 d a b ∗ scopedBufs (V d (core' a) (sub' b)) ∗ scopedSems0 (V d (core' a) (sub' b))
            ∗ ∃ W', ⌜∀ p ∈ W', p ∈ W ∨ p.2 = none ∨ p.2 = some 0⌝ ∗ owes (V d (core' a) (sub' b)) O W') := by
  rw [defs₀_two]
  have hci : (core' a).val < grid2.bound 0 ∧ (sub' b).val < grid2.bound 1 := ⟨a.isLt, b.isLt⟩
  simp only [SparseCore.onTile, hci, and_self, ↓reduceDIte]
  have hb := Tile2.body (F := F) a b (Memref.whole main_v31_scv) (Memref.isWhole_whole _) (Memref.whole main_v34_scv) (Memref.isWhole_whole _) (Memref.whole main_v35_scv) (Memref.isWhole_whole _) (Memref.whole cc2_scoped0) (Memref.isWhole_whole _) cc2_scoped1 (Memref.whole cc2_scoped2) (Memref.isWhole_whole _) cc2_scoped3 cc2_scoped4 d (shareOf (b.val + 16 * a.val)) (A.tA d) (A.iA d) (A.gA d) O W hO (A.goal2 d a b _ _) (fun r => hR.a d r)
  have ht := ((R2 a b).task d (core' a) (sub' b) (shareOf (b.val + 16 * a.val)) (A.tA d) (A.iA d) (A.gA d) O W (scratch2 a b) hO hb)
  refine BIBase.Entails.trans ht ?_
  exact wp_mono frame _ _ fun _ => obl_post

theorem tileObl2 (hR : A.InRange) : (K (F := F)).TileObl (D (F := F)) 𝒱 A.P v₀ 0 := by
  intro d c i O W hO _ _
  simp only [show A.P.ox = fun _ _ => 0 from rfl, add_zero]
  exact BIBase.Entails.trans (A.tile2 hR d c i O W hO) (Pipeline.wp_liftProg (D (F := F)) (Pipeline.defs_kernel pcfgs defs₀) 𝒱₀ _ Set.univ none _ _)

theorem tile3 (hR : A.InRange) (d : Dev nD) (a : Fin 2) (b : Fin 16) (O : CellTallies nD τ sig (HIx 2)) (W : Waits sig (HIx 2)) (hO : ∀ g, O g none = 0) :
    iprop(levAts (K (F := F)).L (K (F := F)).lev ∗ emp ∗ A.go3 d a b ∗ scopedBufs (V d (core' a) (sub' b)) ∗ scopedSems0 (V d (core' a) (sub' b))
        ∗ owes (V d (core' a) (sub' b)) O W)
      ⊢ wp frame (wpE (defs₀ (F := F)) 𝒱₀ (V d (core' a) (sub' b)) none) Set.univ (defs₀ (F := F) (.scVector (core' a) (sub' b)) 3 ())
          fun _ => iprop(A.td3 d a b ∗ scopedBufs (V d (core' a) (sub' b)) ∗ scopedSems0 (V d (core' a) (sub' b))
            ∗ ∃ W', ⌜∀ p ∈ W', p ∈ W ∨ p.2 = none ∨ p.2 = some 1⌝ ∗ owes (V d (core' a) (sub' b)) O W') := by
  rw [defs₀_three]
  have hci : (core' a).val < grid3.bound 0 ∧ (sub' b).val < grid3.bound 1 := ⟨a.isLt, b.isLt⟩
  simp only [SparseCore.onTile, hci, and_self, ↓reduceDIte]
  have hb := Tile3.body (F := F) a b (Memref.whole main_v33_scv) (Memref.isWhole_whole _) (Memref.whole main_v36_scv) (Memref.isWhole_whole _) (Memref.whole main_v37_scv) (Memref.isWhole_whole _) (Memref.whole cc3_scoped0) (Memref.isWhole_whole _) cc3_scoped1 (Memref.whole cc3_scoped2) (Memref.isWhole_whole _) cc3_scoped3 cc3_scoped4 d (shareOf (b.val + 16 * a.val)) (A.tB d) (A.iB d) (A.gB d) O W hO (A.goal3 d a b _ _) (fun r => hR.b d r)
  have ht := ((R3 a b).task d (core' a) (sub' b) (shareOf (b.val + 16 * a.val)) (A.tB d) (A.iB d) (A.gB d) O W (scratch3 a b) hO hb)
  refine BIBase.Entails.trans ht ?_
  exact wp_mono frame _ _ fun _ => obl_post

theorem tileObl3 (hR : A.InRange) : (K (F := F)).TileObl (D (F := F)) 𝒱 A.P v₀ 1 := by
  intro d c i O W hO _ _
  simp only [show A.P.ox = fun _ _ => 0 from rfl, add_zero]
  exact BIBase.Entails.trans (A.tile3 hR d c i O W hO) (Pipeline.wp_liftProg (D (F := F)) (Pipeline.defs_kernel pcfgs defs₀) 𝒱₀ _ Set.univ none _ _)

end Arrs

end Cert.Proof

end
-- ==== Proof.Shares.lean ====
/-
  Dealing the SparseCore calls' arrays to their tasks, and gathering them back.
-/
module

public import proofs.«01_k».proof.Proof.Calls

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

namespace Ring

theorem set_tabV (R : Ring) : (R.tabV.view.set : Finset R.tab.view.ty.Idx) = R.tab.view.set := by
  show (R.tab.view.slice (Rect.unit (s := ⟨2, ![R.rows, 16]⟩) ![0, 0] ![R.rows, 16] R.inbT)).set = _
  rw [View.set_slice, Rect.set_eq_univ_of_whole]
  · rfl
  · intro a; match a with
    | 0 => exact ⟨rfl, rfl, rfl⟩
    | 1 => exact ⟨rfl, rfl, rfl⟩

theorem outDone_todo (R : Ring) (d : Dev nD) (cc : Fin τ.nSC) (jj : Fin τ.nSub) (f : Buf (Elt F) (R.out.view.loc (V d cc jj))) (b : ℕ) :
    iprop(R.outDone d cc jj f b) ⊢ R.outTodo (F := F) d cc jj b := by
  iintro H
  iexists f; iexact H

theorem done_todo (R : Ring) (d : Dev nD) (cc : Fin τ.nSC) (jj : Fin τ.nSub) (f : Buf (Elt F) (R.out.view.loc (V d cc jj))) :
    R.done d cc jj f R.NB ⊢ R.todo (F := F) d cc jj 0 := by
  unfold todo done
  rw [← Finset.range_eq_Ico]
  exact bigSep_mono fun u _ => R.outDone_todo d cc jj f _

end Ring

namespace Arrs

variable (A : Arrs F)

theorem over_cores0 (Φ : Fin 2 → sProp 𝕄) : (bigSep Finset.univ fun i : Fin ((K (F := F)).nCore 0) => Φ i) = bigSep Finset.univ Φ := rfl
theorem over_cores1 (Φ : Fin 2 → sProp 𝕄) : (bigSep Finset.univ fun i : Fin ((K (F := F)).nCore 1) => Φ i) = bigSep Finset.univ Φ := rfl

theorem tabs2 (d : Dev nD) : ((SparseCore.T d).loc main_v31 ↦{fullShare} A.tA d : sProp 𝕄)
    = bigSep Finset.univ fun a : Fin 2 => bigSep Finset.univ fun b : Fin 16 => (R2 a b).tabPts d (core' a) (sub' b) (shareOf (b.val + 16 * a.val)) (A.tA d) := by
  rw [pointsTo_deal]
  refine bigSep_congr fun a _ => bigSep_congr fun b _ => ?_
  show _ = ((R2 a b).tab.view.loc (V d (core' a) (sub' b)) ↦[((R2 a b).tabV.view.set : Finset (R2 a b).tab.view.ty.Idx)]{shareOf (b.val + 16 * a.val)} A.tA d : sProp 𝕄)
  rw [Ring.set_tabV, show (R2 a b).tab.view.set = Finset.univ from View.set_whole _]

theorem idxs2 (d : Dev nD) : ((SparseCore.T d).loc main_v34 ↦{fullShare} A.iA d : sProp 𝕄)
    = bigSep Finset.univ fun a : Fin 2 => bigSep Finset.univ fun b : Fin 16 => (R2 a b).idxFrom d (core' a) (sub' b) (A.iA d) 0 (R2 a b).NB := by
  refine ((R2 0 0).idx_blocks d (core' 0) (sub' 0) (A.iA d) (View.set_whole _)).trans ?_
  show (bigSep (Finset.range (2 * 16 * 56)) fun b => (R2 0 0).idxPts d (core' 0) (sub' 0) (A.iA d) b) = _
  rw [bigSep_deal]
  refine bigSep_congr fun a _ => bigSep_congr fun b _ => ?_
  show _ = bigSep (Finset.Ico 0 56) fun u => (R2 a b).idxPts d (core' a) (sub' b) (A.iA d) ((b.val + 16 * a.val) * 56 + u)
  rw [← Finset.range_eq_Ico]

theorem outs2 (d : Dev nD) (G : FVec F _ .f32) : ((SparseCore.T d).loc main_v35 ↦{fullShare} G : sProp 𝕄)
    = bigSep Finset.univ fun a : Fin 2 => bigSep Finset.univ fun b : Fin 16 => (R2 a b).done d (core' a) (sub' b) G (R2 a b).NB := by
  refine ((R2 0 0).out_blocks d (core' 0) (sub' 0) G (View.set_whole _)).trans ?_
  show (bigSep (Finset.range (2 * 16 * 56)) fun b => (R2 0 0).outDone d (core' 0) (sub' 0) G b) = _
  rw [bigSep_deal]
  refine bigSep_congr fun a _ => bigSep_congr fun b _ => ?_
  rfl

theorem todo2 (d : Dev nD) (f : Buf (Elt F) ((SparseCore.T d).loc main_v35)) : iprop((SparseCore.T d).loc main_v35 ↦{fullShare} f)
    ⊢ (bigSep Finset.univ fun a : Fin 2 => bigSep Finset.univ fun b : Fin 16 => (R2 a b).todo (F := F) d (core' a) (sub' b) 0 : sProp 𝕄) :=
  BIBase.Entails.trans (Entails.of_eq (outs2 d f)) (bigSep_mono fun a _ => bigSep_mono fun b _ => (R2 a b).done_todo d (core' a) (sub' b) f)

/-- The call's arrays, dealt to its tasks. -/
theorem start2 (d : Dev nD) :
    iprop(((SparseCore.T d).loc main_v31 ↦{fullShare} A.tA d) ∗ ((SparseCore.T d).loc main_v34 ↦{fullShare} A.iA d) ∗ ∃ f : Buf (Elt F) ((SparseCore.T d).loc main_v35), (SparseCore.T d).loc main_v35 ↦{fullShare} f)
      ⊢ (bigSep Finset.univ fun c : Fin ((K (F := F)).nCore 0) => A.P.st 0 d c : sProp 𝕄) := by
  show _ ⊢ bigSep Finset.univ fun c : Fin ((K (F := F)).nCore 0) => A.st2 d c
  rw [over_cores0 (fun c => A.st2 d c)]
  unfold st2 go2 Ring.GO
  simp only [bigSep_sep']
  rw [← tabs2, ← idxs2]
  iintro ⟨H1, H2, %f, H3⟩
  isplitl [H1]; · iexact H1
  isplitl [H2]; · iexact H2
  iapply (todo2 d f) $$ H3

/-- The call's arrays, back from its tasks: the output gathered. -/
theorem finish2 (d : Dev nD) :
    (bigSep Finset.univ fun c : Fin ((K (F := F)).nCore 0) => A.P.dn 0 d c : sProp 𝕄)
      ⊢ iprop(((SparseCore.T d).loc main_v31 ↦{fullShare} A.tA d) ∗ ((SparseCore.T d).loc main_v34 ↦{fullShare} A.iA d) ∗ ((SparseCore.T d).loc main_v35 ↦{fullShare} A.gA d)) := by
  show (bigSep Finset.univ fun c : Fin ((K (F := F)).nCore 0) => A.dn2 d c) ⊢ _
  rw [over_cores0 (fun c => A.dn2 d c)]
  unfold dn2 td2 Ring.TD
  simp only [bigSep_sep']
  rw [← tabs2, ← idxs2, ← outs2]

theorem tabs3 (d : Dev nD) : ((SparseCore.T d).loc main_v33 ↦{fullShare} A.tB d : sProp 𝕄)
    = bigSep Finset.univ fun a : Fin 2 => bigSep Finset.univ fun b : Fin 16 => (R3 a b).tabPts d (core' a) (sub' b) (shareOf (b.val + 16 * a.val)) (A.tB d) := by
  rw [pointsTo_deal]
  refine bigSep_congr fun a _ => bigSep_congr fun b _ => ?_
  show _ = ((R3 a b).tab.view.loc (V d (core' a) (sub' b)) ↦[((R3 a b).tabV.view.set : Finset (R3 a b).tab.view.ty.Idx)]{shareOf (b.val + 16 * a.val)} A.tB d : sProp 𝕄)
  rw [Ring.set_tabV, show (R3 a b).tab.view.set = Finset.univ from View.set_whole _]

theorem idxs3 (d : Dev nD) : ((SparseCore.T d).loc main_v36 ↦{fullShare} A.iB d : sProp 𝕄)
    = bigSep Finset.univ fun a : Fin 2 => bigSep Finset.univ fun b : Fin 16 => (R3 a b).idxFrom d (core' a) (sub' b) (A.iB d) 0 (R3 a b).NB := by
  refine ((R3 0 0).idx_blocks d (core' 0) (sub' 0) (A.iB d) (View.set_whole _)).trans ?_
  show (bigSep (Finset.range (2 * 16 * 48)) fun b => (R3 0 0).idxPts d (core' 0) (sub' 0) (A.iB d) b) = _
  rw [bigSep_deal]
  refine bigSep_congr fun a _ => bigSep_congr fun b _ => ?_
  show _ = bigSep (Finset.Ico 0 48) fun u => (R3 a b).idxPts d (core' a) (sub' b) (A.iB d) ((b.val + 16 * a.val) * 48 + u)
  rw [← Finset.range_eq_Ico]

theorem outs3 (d : Dev nD) (G : FVec F _ .f32) : ((SparseCore.T d).loc main_v37 ↦{fullShare} G : sProp 𝕄)
    = bigSep Finset.univ fun a : Fin 2 => bigSep Finset.univ fun b : Fin 16 => (R3 a b).done d (core' a) (sub' b) G (R3 a b).NB := by
  refine ((R3 0 0).out_blocks d (core' 0) (sub' 0) G (View.set_whole _)).trans ?_
  show (bigSep (Finset.range (2 * 16 * 48)) fun b => (R3 0 0).outDone d (core' 0) (sub' 0) G b) = _
  rw [bigSep_deal]
  refine bigSep_congr fun a _ => bigSep_congr fun b _ => ?_
  rfl

theorem todo3 (d : Dev nD) (f : Buf (Elt F) ((SparseCore.T d).loc main_v37)) : iprop((SparseCore.T d).loc main_v37 ↦{fullShare} f)
    ⊢ (bigSep Finset.univ fun a : Fin 2 => bigSep Finset.univ fun b : Fin 16 => (R3 a b).todo (F := F) d (core' a) (sub' b) 0 : sProp 𝕄) :=
  BIBase.Entails.trans (Entails.of_eq (outs3 d f)) (bigSep_mono fun a _ => bigSep_mono fun b _ => (R3 a b).done_todo d (core' a) (sub' b) f)

/-- The call's arrays, dealt to its tasks. -/
theorem start3 (d : Dev nD) :
    iprop(((SparseCore.T d).loc main_v33 ↦{fullShare} A.tB d) ∗ ((SparseCore.T d).loc main_v36 ↦{fullShare} A.iB d) ∗ ∃ f : Buf (Elt F) ((SparseCore.T d).loc main_v37), (SparseCore.T d).loc main_v37 ↦{fullShare} f)
      ⊢ (bigSep Finset.univ fun c : Fin ((K (F := F)).nCore 1) => A.P.st 1 d c : sProp 𝕄) := by
  show _ ⊢ bigSep Finset.univ fun c : Fin ((K (F := F)).nCore 1) => A.st3 d c
  rw [over_cores1 (fun c => A.st3 d c)]
  unfold st3 go3 Ring.GO
  simp only [bigSep_sep']
  rw [← tabs3, ← idxs3]
  iintro ⟨H1, H2, %f, H3⟩
  isplitl [H1]; · iexact H1
  isplitl [H2]; · iexact H2
  iapply (todo3 d f) $$ H3

/-- The call's arrays, back from its tasks: the output gathered. -/
theorem finish3 (d : Dev nD) :
    (bigSep Finset.univ fun c : Fin ((K (F := F)).nCore 1) => A.P.dn 1 d c : sProp 𝕄)
      ⊢ iprop(((SparseCore.T d).loc main_v33 ↦{fullShare} A.tB d) ∗ ((SparseCore.T d).loc main_v36 ↦{fullShare} A.iB d) ∗ ((SparseCore.T d).loc main_v37 ↦{fullShare} A.gB d)) := by
  show (bigSep Finset.univ fun c : Fin ((K (F := F)).nCore 1) => A.dn3 d c) ⊢ _
  rw [over_cores1 (fun c => A.dn3 d c)]
  unfold dn3 td3 Ring.TD
  simp only [bigSep_sep']
  rw [← tabs3, ← idxs3, ← outs3]

end Arrs

end Cert.Proof

end
-- ==== Proof.Entry.lean ====
/-
  A TensorCore grid entered from @main between SparseCore calls: the core holds every unscoped buffer at a valuation, owes
  what the calls still to come ask of it, and its recorded waits stay below the calls still to come.  The grid leaves
  the buffers at the library's valuation after the region and the rest as it was.
-/
module

public import proofs.«01_k».proof.Proof.Common
public import Idealize.ShloMosaic.Lib.Pipeline.RegionArraysS
public import proofs.«01_k».proof.Proof.Gen.KernelIdeal.Points

@[expose] public section

set_option maxRecDepth 16384

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat PLaunchFacts BodyObligationLoose RegionSeg pin arrRef arrRefs afterRegion scopedRest ucRefs)

variable {F : FTy → Type} [FloatOps F]

local notation "𝕄" => MM F

/-- No grid prefetches a table. -/
abbrev adm : (p : Fin 3) → (pcfgs (F := F) p).Adm := fun p => (cfgs p).toPCfg_adm

/-- What the TensorCore owes before call `n`, and the waits it may have recorded by then. -/
abbrev owedAt (c : Dev nD) (n : ℕ) : CellTallies nD τ sig (HIx 2) := (K (F := F)).Otc c n
abbrev recAt (c : Dev nD) (n : ℕ) : Set (SemLoc sig × HIx 2) := {x | (K (F := F)).lev (T c, x.1) x.2 ≤ 8 * n}

/-- The core's dues before call `n`, its recorded waits below that call. -/
def dues (c : Dev nD) (n : ℕ) : sProp 𝕄 :=
  iprop(∃ W, ⌜(K (F := F)).WBelow (T c) W (8 * n)⌝ ∗ owes (T c) ((K (F := F)).Otc c n) W)

/-- A transfer's own index is owed to nobody. -/
theorem owedAt_none (c : Dev nD) (n : ℕ) (g : GSem nD τ sig) : (K (F := F)).Otc c n g none = 0 := by
  by_contra h
  have := (K (F := F)).lev_of_Otc_pos (Nat.pos_of_ne_zero h)
  rw [SparseCore.Cfg.lev_none] at this
  omega

section
variable (pdats : (p : Fin 3) → (c : Dev nD) → Dat τ (Elt F) (HIx 2) ℕ UU ℕ (pin (pcfgs (F := F)) adm p) c)
variable (p : Fin 3) (n : ℕ)

/-- The region of grid `p` entered before call `n`, from every unscoped buffer at `W`. -/
def entry (kit : PLaunchFacts (nD := nD) (τ := τ) (pcfgs (F := F)) p)
    (hbody : ∀ c, BodyObligationLoose (pdats p c) (defs₀ (F := F)) 𝒱₀ (none : HIx 2) Set.univ)
    (howed : ∀ c t, (pdats p c).owed t = (K (F := F)).Otc c n)
    (hrec : ∀ c t, (pdats p c).recorded t = recAt (F := F) c n)
    (hshare : ∀ c w, (pdats p c).share w = fullShare)
    (hΦ : ∀ c t, (pdats p c).Φ t = iprop(scopedRest (pin (pcfgs (F := F)) adm p).spec c ∗ ∃ r, prngReg c r))
    (W : Dev nD → Valuation τ sig (Elt F))
    (hW : ∀ c w, (pdats p c).arrAt w 0 = W c (Proc.devRef .tc (arrRef (pin (pcfgs (F := F)) adm p).spec w))) :
    RegionSeg (pcfgs (F := F)) adm pdats (none : HIx 2) defs₀ 𝒱₀ (K (F := F)).L (K (F := F)).lev p where
  win := kit.to₀.win
  block_pos := kit.block_pos
  stage_whole := kit.stage_whole
  K := PEmpty
  osem k := k.elim
  ho := Pipeline.OwnSemFacts.none _
  hbody := hbody
  hwaits c := Pipeline.cellsWaits_intro (pin (pcfgs (F := F)) adm) pdats (none : HIx 2) p c fun w s t => by
    rw [howed c t]
    exact (K (F := F)).mayWait_none _ (owedAt_none c n)
  pre c := iprop(StableHlo.held (T c) (arrRefs (pcfgs (F := F) p).spec) (W c) ∗ (∃ r, prngReg c r)
    ∗ StableHlo.held (T c) (ucRefs τ sig \ arrRefs (pcfgs (F := F) p).spec) (W c) ∗ dues c n)
  post c := iprop(StableHlo.held (T c) (arrRefs (pcfgs (F := F) p).spec) (afterRegion (pdats p c) (W c)) ∗ (∃ r, prngReg c r)
    ∗ StableHlo.held (T c) (ucRefs τ sig \ arrRefs (pcfgs (F := F) p).spec) (W c) ∗ dues c n)
  X c := iprop(∃ r, prngReg c r)
  Y c := iprop(∃ r, prngReg c r)
  Z c := StableHlo.held (T c) (ucRefs τ sig \ arrRefs (pcfgs (F := F) p).spec) (W c)
  hentry c := by
    rw [Pipeline.ownSems0_none, Pipeline.prefHeld_of_none _ rfl,
      ← Pipeline.arrays_held (pcfgs (F := F)) adm pdats p kit c (hshare c) ((pdats p c).arrAt · 0) (W c) (hW c)]
    unfold dues
    iintro ⟨⟨Ha, HX, HR, %Wd, %hWd, HO⟩, -, -⟩
    imodintro
    isplitl [Ha]; · iexact Ha
    isplitr; · iempintro
    isplitl [HO]
    · unfold Dat.owesAt Pipeline.owesWithin Dat.bound
      rw [howed c 0, hrec c]
      iexists Wd
      isplitr; · ipureintro; exact fun x hx => Or.inl (hWd x hx)
      iexact HO
    isplitl [HX]; · iexact HX
    iexact HR
  hin c := by
    rw [hΦ]
    iintro ⟨HX, -, Hr⟩
    isplitl [Hr]; · iexact Hr
    iexact HX
  hout c := by
    rw [hΦ, Pipeline.ownSems0_none]
    iintro ⟨Hr, HX⟩
    isplitl [HX]; · iexact HX
    isplitr; · iempintro
    iexact Hr
  hexit c := by
    rw [← Pipeline.arrays_held (pcfgs (F := F)) adm pdats p kit c (hshare c) ((pdats p c).arrAt · (pin (pcfgs (F := F)) adm p).N)
      (afterRegion (pdats p c) (W c)) (fun w => (Pipeline.afterRegion_arr (pdats p c) (W c) kit.win.arr_inj w).symm)]
    unfold dues
    iintro ⟨Ha, HO, HY, HR⟩
    imodintro
    isplitl [Ha]; · iexact Ha
    isplitl [HY]; · iexact HY
    isplitl [HR]; · iexact HR
    unfold Dat.owesAt Pipeline.owesWithin Dat.bound
    rw [howed c (Fin.last _), hrec c]
    icases HO with ⟨%Wd, %hWd, HO⟩
    iexists Wd
    isplitr
    · ipureintro
      intro x hx
      rcases hWd hx with h | ⟨w, s, rfl⟩
      · exact h
      · rw [SparseCore.Cfg.lev_none]; exact Nat.zero_le _
    iexact HO

/-- The TensorCore between two pieces of @main, before call `n`: every unscoped buffer at a valuation, its dues, its
    random register. -/
def between (c : Dev nD) (n : ℕ) (W : Valuation τ sig (Elt F)) : sProp 𝕄 :=
  iprop(boundary (T c) ∗ StableHlo.held (T c) (ucRefs τ sig) W ∗ dues c n ∗ ∃ r, prngReg c r)

/-- The ghost state grid `p` runs on, as the launch deals it. -/
def gridGhost (c : Dev nD) (p : Fin 3) : sProp 𝕄 :=
  iprop(Pipeline.cellsGhost (pin (pcfgs (F := F)) adm) EP p c ∗ Pipeline.toksInit (pin (pcfgs (F := F)) adm) EP p c)

/-- The grid's call as @main makes it, run: the buffers go to the valuation after the region. -/
theorem entry_wp (kit : PLaunchFacts (nD := nD) (τ := τ) (pcfgs (F := F)) p)
    (hbody : ∀ c, BodyObligationLoose (pdats p c) (defs₀ (F := F)) 𝒱₀ (none : HIx 2) Set.univ)
    (howed : ∀ c t, (pdats p c).owed t = (K (F := F)).Otc c n)
    (hrec : ∀ c t, (pdats p c).recorded t = recAt (F := F) c n)
    (hshare : ∀ c w, (pdats p c).share w = fullShare)
    (hΦ : ∀ c t, (pdats p c).Φ t = iprop(scopedRest (pin (pcfgs (F := F)) adm p).spec c ∗ ∃ r, prngReg c r))
    (W : Dev nD → Valuation τ sig (Elt F))
    (hW : ∀ c w, (pdats p c).arrAt w 0 = W c (Proc.devRef .tc (arrRef (pin (pcfgs (F := F)) adm p).spec w))) (c : Dev nD) :
    iprop(levAts (K (F := F)).L (K (F := F)).lev ∗ between c n (W c) ∗ gridGhost c p)
      ⊢ wp frame (wpE D 𝒱 (T c) none) Set.univ (.op (.customCall (Pipeline.entry p) ()) fun _ => .ret PUnit.unit)
        (fun _ => between (F := F) c n (afterRegion (pdats p c) (W c))) := by
  have hS : arrRefs (pcfgs (F := F) p).spec ⊆ ucRefs τ sig := Pipeline.arrRefs_sub_ucRefs _ kit.win.arr_unscoped
  have h := RegionSeg.wp (pcfgs (F := F)) adm pdats (none : HIx 2) (kit.cellOf_inj adm) EP (defs₀ (F := F)) 𝒱₀ _ _
    (entry pdats p n kit hbody howed hrec hshare hΦ W hW) c none (fun u hu => absurd hu (by simp)) (fun _ => .ret PUnit.unit)
      (fun _ => between (F := F) c n (afterRegion (pdats p c) (W c)))
  refine BIBase.Entails.trans ?_ h
  have hpost : iprop(boundary (T c) ∗ (entry pdats p n kit hbody howed hrec hshare hΦ W hW).post c)
      ⊢ between (F := F) c n (afterRegion (pdats p c) (W c)) := by
    show iprop(_ ∗ StableHlo.held (T c) (arrRefs (pcfgs (F := F) p).spec) (afterRegion (pdats p c) (W c)) ∗ (∃ r, prngReg c r)
      ∗ StableHlo.held (T c) (ucRefs τ sig \ arrRefs (pcfgs (F := F) p).spec) (W c) ∗ dues c n) ⊢ _
    unfold between
    rw [StableHlo.held_sub_split (T c) hS (afterRegion (pdats p c) (W c)),
      StableHlo.held_congr (T c) (V := afterRegion (pdats p c) (W c)) (V' := W c) (Pipeline.afterRegion_off (pdats p c) (W c) (ucRefs τ sig))]
    iintro ⟨Hb, Ha, Hr, Hu, Hd⟩
    isplitl [Hb]; · iexact Hb
    isplitl [Ha Hu]
    · isplitl [Ha]; · iexact Ha
      iexact Hu
    isplitl [Hd]; · iexact Hd
    iexact Hr
  have hpre : between (F := F) c n (W c) ⊢ iprop(boundary (T c) ∗ (entry pdats p n kit hbody howed hrec hshare hΦ W hW).pre c) := by
    show _ ⊢ iprop(_ ∗ StableHlo.held (T c) (arrRefs (pcfgs (F := F) p).spec) (W c) ∗ (∃ r, prngReg c r)
      ∗ StableHlo.held (T c) (ucRefs τ sig \ arrRefs (pcfgs (F := F) p).spec) (W c) ∗ dues c n)
    unfold between
    rw [StableHlo.held_sub_split (T c) hS (W c)]
    iintro ⟨Hb, ⟨Ha, Hu⟩, Hd, Hr⟩
    isplitl [Hb]; · iexact Hb
    isplitl [Ha]; · iexact Ha
    isplitl [Hr]; · iexact Hr
    isplitl [Hu]; · iexact Hu
    iexact Hd
  unfold gridGhost
  iintro ⟨Hlev, Hbt, Hg, Ht⟩
  ihave Hbt := hpre $$ Hbt
  icases Hbt with ⟨Hb, Hp⟩
  isplitr
  · iintro H
    rw [wp_ret]
    imodintro
    iapply hpost $$ H
  isplitl [Hb]; · iexact Hb
  isplitl [Hp]; · iexact Hp
  isplitl [Hlev]; · iexact Hlev
  isplitl [Hg]; · iexact Hg
  iexact Ht

/-- The same at the call's own place in @main. -/
theorem entry_main (kit : PLaunchFacts (nD := nD) (τ := τ) (pcfgs (F := F)) p)
    (hbody : ∀ c, BodyObligationLoose (pdats p c) (defs₀ (F := F)) 𝒱₀ (none : HIx 2) Set.univ)
    (howed : ∀ c t, (pdats p c).owed t = (K (F := F)).Otc c n)
    (hrec : ∀ c t, (pdats p c).recorded t = recAt (F := F) c n)
    (hshare : ∀ c w, (pdats p c).share w = fullShare)
    (hΦ : ∀ c t, (pdats p c).Φ t = iprop(scopedRest (pin (pcfgs (F := F)) adm p).spec c ∗ ∃ r, prngReg c r))
    (W : Dev nD → Valuation τ sig (Elt F))
    (hW : ∀ c w, (pdats p c).arrAt w 0 = W c (Proc.devRef .tc (arrRef (pin (pcfgs (F := F)) adm p).spec w))) (c : Dev nD) :
    iprop(levAts (K (F := F)).L (K (F := F)).lev ∗ between c n (W c) ∗ gridGhost c p)
      ⊢ wp frame (wpE ((K (F := F)).defs D) 𝒱 (T c) none) Set.univ (Prog.lift (.customCall (SparseCore.inner (Pipeline.entry p)) ()))
        (fun _ => between (F := F) c n (afterRegion (pdats p c) (W c))) :=
  (entry_wp pdats p n kit hbody howed hrec hshare hΦ W hW c).trans
    ((K (F := F)).wp_liftProg D 𝒱 (T c) Set.univ none (.op (.customCall (Pipeline.entry p) ()) fun _ => .ret PUnit.unit) _)

end

end Cert.Proof

end
-- ==== Proof.Format.lean ====
/-
  What the two table-formatting grids write, as one definite function of the block they read: two fields of the
  transposed tables, [2, 16, 100000], laid out as [25000, 128] so that reading the result as rows of 16 gives the
  rows of the tables in a permuted order.
-/
module

public import proofs.«01_k».proof.Proof.Common

@[expose] public section

set_option maxRecDepth 16384

noncomputable section

namespace Cert.Proof

open Cert.KernelIdeal Cert.KernelIdeal.Gen
open Idealize.ShloMosaic

/-- An index of a rank-three shape, from its coordinates. -/
def ix3 {a b c : ℕ} (i : Fin a) (j : Fin b) (k : Fin c) : (⟨3, ![a, b, c]⟩ : Shape).Idx :=
  Fin.cases i (Fin.cases j (Fin.cases k fun x => x.elim0))

/-- Every index of a rank-three shape is made of its coordinates. -/
theorem eq_ix3 {a b c : ℕ} (x : (⟨3, ![a, b, c]⟩ : Shape).Idx) : x = ix3 (x 0) (x 1) (x 2) := by
  funext k
  match k with
  | 0 => rfl
  | 1 => rfl
  | 2 => rfl

variable {α : Type}

/-- The lookup row that entry (row `w` of a field's half, lane `l`) of the formatted table comes from. -/
def fmtRow (w l : ℕ) : ℕ :=
  if w < 12288 then 4096 * (w / 512) + 512 * (l / 16) + w % 512 else 98304 + 8 * (w - 12288) + l / 16

theorem fmtRow_lt (w l : ℕ) (hw : w < 12500) (hl : l < 128) : fmtRow w l < 100000 := by
  unfold fmtRow; split <;> omega

/-- The formatted block of a block of two fields. -/
def fmt (x : S2x16x100000.Idx → α) : S1x25000x128.Idx → α := fun y =>
  x (ix3 (a := 2) (b := 16) (c := 100000) ⟨(y 1).val / 12500, by have : (y 1).val < 25000 := (y 1).isLt; omega⟩
    ⟨(y 2).val % 16, Nat.mod_lt _ (by decide)⟩
    ⟨fmtRow ((y 1).val % 12500) (y 2).val, fmtRow_lt _ _ (Nat.mod_lt _ (by decide)) (y 2).isLt⟩)

section
variable {F : FTy → Type} [FloatOps F]

/-- Dropping a leading axis of one keeps the row-major position. -/
theorem rm32 {a b : ℕ} (i : Fin a) (j : Fin b) :
    ((⟨3, ![1, a, b]⟩ : Shape).rowMajor (ix3 (a := 1) 0 i j)).val = ((⟨2, ![a, b]⟩ : Shape).rowMajor (ix2 i j)).val := by
  rw [Shape.rowMajor_val_three, Shape.rowMajor_val_two]
  show ((0 : Fin 1).val * a + i.val) * b + j.val = i.val * b + j.val
  rw [show (0 : Fin 1).val = 0 from rfl, Nat.zero_mul, Nat.zero_add]

/-- Sixteen dims of a run of 512 lookup rows within a run of 4096. -/
def runPiece (v : Vec F S1x16x4096 .f32) (hsl : ∀ q : Fin 8, S16x4096.Slices ![0, 512 * q.val] S16x512) (q : Fin 8) : Vec F S16x512 .f32 :=
  extractStridedSlice S16x512 ![0, 512 * q.val] (shapeCast S16x4096 v shapeCasts_S1x16x4096_S16x4096) (hsl q)

theorem runPiece_apply (v : Vec F S1x16x4096 .f32) (hsl : ∀ q : Fin 8, S16x4096.Slices ![0, 512 * q.val] S16x512) (q : Fin 8) (c : Fin 16) (r : Fin 512) :
    runPiece v hsl q (ix2 (a := 16) (b := 512) c r)
      = v (ix3 (a := 1) (b := 16) (c := 4096) 0 c ⟨512 * q.val + r.val, by have := r.isLt; have := q.isLt; omega⟩) := by
  unfold runPiece
  rw [extractStridedSlice_apply _ _ _ _ (ix2 (a := 16) (b := 4096) c ⟨512 * q.val + r.val, by have := r.isLt; have := q.isLt; omega⟩)
      (fun a => by match a with | 0 => exact (Nat.zero_add _).symm | 1 => rfl)]
  exact shapeCast_apply _ _ _ _ (rm32 _ _)

/-- A run of 4096 lookup rows of one field, formatted: eight runs of 512 side by side. -/
theorem pay_run (v : Vec F S1x16x4096 .f32) (r : Fin 512) (l : Fin 128) :
    k0_pay2 v (ix3 (a := 1) (b := 512) (c := 128) 0 r l)
      = v (ix3 (a := 1) (b := 16) (c := 4096) 0 ⟨l.val % 16, Nat.mod_lt _ (by decide)⟩
          ⟨512 * (l.val / 16) + r.val, by have := r.isLt; have := l.isLt; omega⟩) := by
  have hsl : ∀ q : Fin 8, S16x4096.Slices ![0, 512 * q.val] S16x512 := by decide
  unfold k0_pay2
  dsimp only
  rw [shapeCast_apply _ _ _ (ix2 (a := 512) (b := 128) r l) (rm32 _ _).symm]
  rw [transpose_apply _ _ _ _ (ix2 (a := 128) (b := 512) l r) (fun b => by match b with | 0 => rfl | 1 => rfl)]
  exact (concatenate_ofFn_apply (s₁ := S16x512) (t := S128x512) 0 (N := 8) (runPiece v hsl) concatenates_S16x512_S16x512_S16x512_S16x512_S16x512_S16x512_S16x512_S16x512_S128x512_d0
    rfl 16 rfl _ ⟨l.val / 16, by have := l.isLt; omega⟩ rfl
    (ix2 (a := 16) (b := 512) ⟨l.val % 16, Nat.mod_lt _ (by decide)⟩ r) rfl (fun b hb => by match b with | 0 => exact absurd rfl hb | 1 => rfl)).trans (runPiece_apply v hsl _ _ _)

/-- The last 1696 lookup rows of one field as 212 rows of eight. -/
def tailPiece (v : Vec F S1x16x1696 .f32) (hsl : ∀ q : Fin 8, S212x8x16.Slices ![0, q.val, 0] S212x1x16) (q : Fin 8) : Vec F S212x16 .f32 :=
  shapeCast S212x16 (extractStridedSlice S212x1x16 ![0, q.val, 0] (k0_pay5 v) (hsl q)) shapeCasts_S212x1x16_S212x16

theorem tailPiece_apply (v : Vec F S1x16x1696 .f32) (hsl : ∀ q : Fin 8, S212x8x16.Slices ![0, q.val, 0] S212x1x16) (q : Fin 8) (r : Fin 212) (c : Fin 16) :
    tailPiece v hsl q (ix2 (a := 212) (b := 16) r c)
      = v (ix3 (a := 1) (b := 16) (c := 1696) 0 c ⟨8 * r.val + q.val, by have := r.isLt; have := q.isLt; omega⟩) := by
  unfold tailPiece
  rw [shapeCast_apply _ _ _ (ix3 (a := 212) (b := 1) (c := 16) r 0 c) (by
    rw [Shape.rowMajor_val_three, Shape.rowMajor_val_two]
    show (r.val * 1 + 0) * 16 + c.val = r.val * 16 + c.val
    rw [Nat.mul_one, Nat.add_zero])]
  rw [extractStridedSlice_apply _ _ _ _ (ix3 (a := 212) (b := 8) (c := 16) r q c)
      (fun a => by match a with | 0 => exact (Nat.zero_add _).symm | 1 => rfl | 2 => exact (Nat.zero_add _).symm)]
  unfold k0_pay5
  dsimp only
  rw [shapeCast_apply _ _ _ (ix2 (a := 1696) (b := 16) ⟨8 * r.val + q.val, by have := r.isLt; have := q.isLt; omega⟩ c) (by
    rw [Shape.rowMajor_val_three, Shape.rowMajor_val_two]
    show (8 * r.val + q.val) * 16 + c.val = (r.val * 8 + q.val) * 16 + c.val
    rw [Nat.mul_comm 8])]
  rw [transpose_apply _ _ _ _ (ix2 (a := 16) (b := 1696) c ⟨8 * r.val + q.val, by have := r.isLt; have := q.isLt; omega⟩) (fun b => by match b with | 0 => rfl | 1 => rfl)]
  exact shapeCast_apply _ _ _ _ (rm32 _ _)

/-- The last 1696 lookup rows of one field, formatted: eight consecutive rows side by side. -/
theorem pay_tail (v : Vec F S1x16x1696 .f32) (r : Fin 212) (l : Fin 128) :
    k0_pay3 v (ix3 (a := 1) (b := 212) (c := 128) 0 r l)
      = v (ix3 (a := 1) (b := 16) (c := 1696) 0 ⟨l.val % 16, Nat.mod_lt _ (by decide)⟩
          ⟨8 * r.val + l.val / 16, by have := r.isLt; have := l.isLt; omega⟩) := by
  have hsl : ∀ q : Fin 8, S212x8x16.Slices ![0, q.val, 0] S212x1x16 := by decide
  unfold k0_pay3
  dsimp only
  rw [shapeCast_apply _ _ _ (ix2 (a := 212) (b := 128) r l) (rm32 _ _).symm]
  exact (concatenate_ofFn_apply (s₁ := S212x16) (t := S212x128) 1 (N := 8) (tailPiece v hsl) concatenates_S212x16_S212x16_S212x16_S212x16_S212x16_S212x16_S212x16_S212x16_S212x128_d1
    rfl 16 rfl _ ⟨l.val / 16, by have := l.isLt; omega⟩ rfl
    (ix2 (a := 212) (b := 16) r ⟨l.val % 16, Nat.mod_lt _ (by decide)⟩) rfl (fun b hb => by match b with | 0 => rfl | 1 => exact absurd rfl hb)).trans (tailPiece_apply v hsl _ _ _)

/-- The second field's run is formatted the same way. -/
theorem pay4_eq : k0_pay4 (F := F) = k0_pay2 := rfl

/-- The second field's tail is formatted the same way. -/
theorem pay1_eq (v : Vec F S1x16x1696 .f32) :
    k0_pay1 (k0_pay5 v) (k0_pay6 v) (k0_pay7 v) (k0_pay8 v) (k0_pay9 v) (k0_pay10 v) = k0_pay3 v := rfl

end

end Cert.Proof

end
-- ==== Proof.FormatBody.lean ====
/-
  The table-formatting kernel body, run: from the two staging buffers held whole it leaves the formatted block in the
  second.
-/
module

public import proofs.«01_k».proof.Proof.Format

@[expose] public section

set_option maxRecDepth 16384

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section
variable {α : Type}

/-- Rows below `b` of the formatted block are written. -/
def Upto (x : S2x16x100000.Idx → α) (g : S1x25000x128.Idx → α) (b : ℕ) : Prop := ∀ y, (y 1).val < b → g y = fmt x y

/-- Writing the `n` rows from `o` carries the written part from `o` to `o + n`. -/
theorem Upto.put {x : S2x16x100000.Idx → α} {g : S1x25000x128.Idx → α} {o n : ℕ} (h : Upto x g o) (hn : o + n ≤ 25000)
    (w : ((a : Fin S1x25000x128.rank) → Fin ((![1, n, 128] : Fin 3 → ℕ) a)) → α)
    (hw : ∀ (r : Fin n) (l : Fin 128), w (ix3 (a := 1) (b := n) (c := 128) 0 r l) = fmt x (ix3 (a := 1) (b := 25000) (c := 128) 0 ⟨o + r.val, by omega⟩ l)) :
    Upto x (VecWindow.put g ![0, o, 0] ![1, n, 128] w) (o + n) := by
  intro y hy
  unfold VecWindow.put
  split
  · rename_i hin
    have h1 := hin 1
    have h1a : o ≤ (y 1).val := h1.1
    have key := hw ⟨(y 1).val - o, by omega⟩ (y 2)
    have e1 : Rect.unitLocal (s := S1x25000x128) (off := ![0, o, 0]) (size := ![1, n, 128]) y hin = ix3 (a := 1) (b := n) (c := 128) 0 ⟨(y 1).val - o, by omega⟩ (y 2) := by
      funext a
      match a with
      | 0 => exact Subsingleton.elim (α := Fin 1) _ _
      | 1 => rfl
      | 2 => rfl
    rw [e1, key]
    congr 1
    funext a
    match a with
    | 0 => exact Subsingleton.elim (α := Fin 1) _ _
    | 1 => exact Fin.ext (by show o + ((y 1).val - o) = (y 1).val; omega)
    | 2 => rfl
  · rename_i hin
    refine h y ?_
    by_contra hge
    refine hin fun a => ?_
    match a with
    | 0 => exact ⟨Nat.zero_le _, by show (y 0).val < 0 + 1; have : (y 0).val < 1 := (y 0).isLt; omega⟩
    | 1 => exact ⟨by show o ≤ (y 1).val; omega, hy⟩
    | 2 => exact ⟨Nat.zero_le _, by show (y 2).val < 0 + 128; have : (y 2).val < 128 := (y 2).isLt; omega⟩

/-- All rows written is the formatted block. -/
theorem Upto.all {x : S2x16x100000.Idx → α} {g : S1x25000x128.Idx → α} (h : Upto x g 25000) : g = fmt x :=
  funext fun y => h y (y 1).isLt

end

variable {F : FTy → Type} [FloatOps F]

local notation "𝕄" => MM F

theorem off1_eq : ∀ t : Fin k0_t1_loop.trips, k0_off1 t = ![0, 0, 4096 * t.val] := by decide +kernel
theorem off2_eq : ∀ t : Fin k0_t1_loop.trips, k0_off2 t = ![0, 512 * t.val, 0] := by decide +kernel
theorem off3_eq : ∀ t : Fin k0_t2_loop.trips, k0_off3 t = ![1, 0, 4096 * t.val] := by decide +kernel
theorem off4_eq : ∀ t : Fin k0_t2_loop.trips, k0_off4 t = ![0, 12500 + 512 * t.val, 0] := by decide +kernel

/-- Field `h`'s run `t`, formatted, is the formatted block's rows from `12500 h + 512 t`. -/
theorem run_rows (x : Vec F S2x16x100000 .f32) (h t : ℕ) (hh : h < 2) (ht : t < 24) (inb : ∀ a, (![h, 0, 4096 * t] : Fin 3 → ℕ) a + S1x16x4096.size a ≤ S2x16x100000.size a)
    (r : Fin 512) (l : Fin 128) :
    k0_pay2 (VecWindow.window x ![h, 0, 4096 * t] S1x16x4096.size inb) (ix3 (a := 1) (b := 512) (c := 128) 0 r l)
      = fmt x (ix3 (a := 1) (b := 25000) (c := 128) 0 ⟨12500 * h + 512 * t + r.val, by have := r.isLt; omega⟩ l) := by
  have hr := r.isLt
  rw [pay_run]
  unfold VecWindow.window fmt
  congr 1
  funext a
  match a with
  | 0 => exact Fin.ext (by show h + 1 * 0 = (12500 * h + 512 * t + r.val) / 12500; omega)
  | 1 => exact Fin.ext (by show 0 + 1 * (l.val % 16) = l.val % 16; omega)
  | 2 =>
    refine Fin.ext ?_
    show 4096 * t + 1 * (512 * (l.val / 16) + r.val) = fmtRow ((12500 * h + 512 * t + r.val) % 12500) l.val
    rw [show (12500 * h + 512 * t + r.val) % 12500 = 512 * t + r.val by rw [Nat.add_assoc, Nat.mul_add_mod, Nat.mod_eq_of_lt (by omega)]]
    unfold fmtRow
    rw [if_pos (by omega), Nat.mul_add_div (by decide), Nat.mul_add_mod, Nat.div_eq_of_lt hr, Nat.mod_eq_of_lt hr]
    omega

/-- Field `h`'s tail, formatted, is the formatted block's rows from `12500 h + 12288`. -/
theorem tail_rows (x : Vec F S2x16x100000 .f32) (h : ℕ) (hh : h < 2) (inb : ∀ a, (![h, 0, 98304] : Fin 3 → ℕ) a + S1x16x1696.size a ≤ S2x16x100000.size a)
    (r : Fin 212) (l : Fin 128) :
    k0_pay3 (VecWindow.window x ![h, 0, 98304] S1x16x1696.size inb) (ix3 (a := 1) (b := 212) (c := 128) 0 r l)
      = fmt x (ix3 (a := 1) (b := 25000) (c := 128) 0 ⟨12500 * h + 12288 + r.val, by have := r.isLt; omega⟩ l) := by
  have hr := r.isLt
  rw [pay_tail]
  unfold VecWindow.window fmt
  congr 1
  funext a
  match a with
  | 0 => exact Fin.ext (by show h + 1 * 0 = (12500 * h + 12288 + r.val) / 12500; omega)
  | 1 => exact Fin.ext (by show 0 + 1 * (l.val % 16) = l.val % 16; omega)
  | 2 =>
    refine Fin.ext ?_
    show 98304 + 1 * (8 * r.val + l.val / 16) = fmtRow ((12500 * h + 12288 + r.val) % 12500) l.val
    rw [show (12500 * h + 12288 + r.val) % 12500 = 12288 + r.val by rw [Nat.add_assoc, Nat.mul_add_mod, Nat.mod_eq_of_lt (by omega)]]
    unfold fmtRow
    rw [if_neg (by omega)]
    omega

/-- The TensorCore's buffer under a memref, whole. -/
abbrev pt (c : Dev nD) {sp : Space} {Sh : Shape} {e : EltTy} (M : Memref sig .tc sp Sh e) (f : Buf (Elt F) (M.view.loc (c : Thread nD τ))) : sProp 𝕄 :=
  M.view.loc (c : Thread nD τ) ↦{fullShare} f

/-- Between stores: the block read, and the rows below `b` written. -/
def fmtInv (c : Dev nD) (arg1 : Memref sig .tc .vmem S2x16x100000 .f32) (arg2 : Memref sig .tc .vmem S1x25000x128 .f32)
    (f1 : Buf (Elt F) (arg1.view.loc (c : Thread nD τ))) (b : ℕ) : sProp 𝕄 :=
  iprop(pt c arg1 f1 ∗ ∃ g, ⌜Upto (arg1.view.read (Elt F) f1) (arg2.view.read (Elt F) g) b⌝ ∗ pt c arg2 g)

/-- A run of 4096 lookup rows stored over a written part carries it 512 rows on. -/
theorem store_run {c : Dev nD} (arg1 : Memref sig .tc .vmem S2x16x100000 .f32) (arg2 : Memref sig .tc .vmem S1x25000x128 .f32)
    (f1 : Buf (Elt F) (arg1.view.loc (c : Thread nD τ))) (g : Buf (Elt F) (arg2.view.loc (c : Thread nD τ))) (h t b : ℕ) (hh : h < 2) (ht : t < 24)
    {offi offo : Fin 3 → ℕ} (hi : offi = ![h, 0, 4096 * t]) (ho : offo = ![0, 12500 * h + 512 * t, 0])
    (inbi : ∀ a, offi a + S1x16x4096.size a ≤ S2x16x100000.size a) (inbo : ∀ a, offo a + S1x512x128.size a ≤ S1x25000x128.size a) {o : ℕ}
    (hg : Upto (arg1.view.read (Elt F) f1) (arg2.view.read (Elt F) g) o) (heo : o = 12500 * h + 512 * t) (heb : b = o + 512) :
    Upto (arg1.view.read (Elt F) f1) (arg2.view.read (Elt F) (arg2.view.writes (Elt F) g [⟨Rect.unit offo S1x512x128.size inbo,
      k0_pay2 (arg1.view.readAt (Elt F) (Rect.unit (s := S2x16x100000) offi S1x16x4096.size inbi).toLoadRect f1)⟩])) b := by
  subst hi ho heb heo
  rw [View.read_writes_cons_put arg2.view g inbo _ [] rfl, View.writes_nil, View.readAt_unit arg1.view f1 inbi rfl inbi]
  exact Upto.put hg (by omega) _ fun r l => run_rows _ h t hh ht inbi r l

/-- A field's tail stored over a written part carries it 212 rows on. -/
theorem store_tail {c : Dev nD} (arg1 : Memref sig .tc .vmem S2x16x100000 .f32) (arg2 : Memref sig .tc .vmem S1x25000x128 .f32)
    (f1 : Buf (Elt F) (arg1.view.loc (c : Thread nD τ))) (g : Buf (Elt F) (arg2.view.loc (c : Thread nD τ))) (h b : ℕ) (hh : h < 2)
    {offi offo : Fin 3 → ℕ} (hi : offi = ![h, 0, 98304]) (ho : offo = ![0, 12500 * h + 12288, 0])
    (inbi : ∀ a, offi a + S1x16x1696.size a ≤ S2x16x100000.size a) (inbo : ∀ a, offo a + S1x212x128.size a ≤ S1x25000x128.size a) {o : ℕ}
    (hg : Upto (arg1.view.read (Elt F) f1) (arg2.view.read (Elt F) g) o) (heo : o = 12500 * h + 12288) (heb : b = o + 212) :
    Upto (arg1.view.read (Elt F) f1) (arg2.view.read (Elt F) (arg2.view.writes (Elt F) g [⟨Rect.unit offo S1x212x128.size inbo,
      k0_pay3 (arg1.view.readAt (Elt F) (Rect.unit (s := S2x16x100000) offi S1x16x1696.size inbi).toLoadRect f1)⟩])) b := by
  subst hi ho heb heo
  rw [View.read_writes_cons_put arg2.view g inbo _ [] rfl, View.writes_nil, View.readAt_unit arg1.view f1 inbi rfl inbi]
  exact Upto.put hg (by omega) _ fun r l => tail_rows _ h hh inbi r l

section
variable (c : Dev nD) (i : grid0.Coords) (arg1 : Memref sig .tc .vmem S2x16x100000 .f32) (harg1 : arg1.IsWhole)
    (arg2 : Memref sig .tc .vmem S1x25000x128 .f32) (harg2 : arg2.IsWhole) (f1 : Buf (Elt F) (arg1.view.loc (c : Thread nD τ)))

/-- One run of 4096 lookup rows of the block's first field. -/
theorem t1_trip (t : Fin k0_t1_loop.trips) (u : Unit) :
    (fmtInv c arg1 arg2 f1 (512 * t.val) : sProp 𝕄) ⊢ wp frame (wpE (defs₀ (F := F)) 𝒱₀ (c : Thread nD τ) none) Set.univ (k0_t1_body i arg1 harg1 arg2 harg2 t u)
      fun _ => fmtInv c arg1 arg2 f1 (512 * (t.val + 1)) := by
  unfold fmtInv k0_t1_body
  iintro ⟨H1, %g, %hg, H2⟩
  sl_exec
  sl_step
  isplitl [H1]; · iexact H1
  iexists _
  isplitr; swap; · iexact H2
  ipureintro
  exact store_run arg1 arg2 f1 g 0 t.val _ (by decide) t.isLt (off1_eq t) ((off2_eq t).trans (by rw [Nat.mul_zero, Nat.zero_add])) _ _ hg (by omega) (by omega)

/-- One run of 4096 lookup rows of the block's second field. -/
theorem t2_trip (t : Fin k0_t2_loop.trips) (u : Unit) :
    (fmtInv c arg1 arg2 f1 (12500 + 512 * t.val) : sProp 𝕄) ⊢ wp frame (wpE (defs₀ (F := F)) 𝒱₀ (c : Thread nD τ) none) Set.univ (k0_t2_body i arg1 harg1 arg2 harg2 t u)
      fun _ => fmtInv c arg1 arg2 f1 (12500 + 512 * (t.val + 1)) := by
  unfold fmtInv k0_t2_body
  iintro ⟨H1, %g, %hg, H2⟩
  sl_exec
  sl_step
  isplitl [H1]; · iexact H1
  iexists _
  isplitr; swap; · iexact H2
  ipureintro
  rw [pay4_eq]
  exact store_run arg1 arg2 f1 g 1 t.val _ (by decide) t.isLt (off3_eq t) ((off4_eq t).trans (by rw [Nat.mul_one])) _ _ hg (by omega) (by omega)

/-- The whole body: the block read comes back, and the other holds the block formatted. -/
theorem format_body (f2 : Buf (Elt F) (arg2.view.loc (c : Thread nD τ))) :
    iprop(pt c arg1 f1 ∗ pt c arg2 f2) ⊢ wp frame (wpE (defs₀ (F := F)) 𝒱₀ (c : Thread nD τ) none) Set.univ (cc0__format_body i arg1 harg1 arg2 harg2)
      fun _ => iprop(pt c arg1 f1 ∗ ∃ g, ⌜arg2.view.read (Elt F) g = fmt (arg1.view.read (Elt F) f1)⌝ ∗ pt c arg2 g) := by
  rw [cc0__format_body_eq_skeleton]
  unfold cc0__format_body_skel
  rw [k0_part1_eq_skeleton]
  unfold k0_part1_skel
  iintro ⟨H1, H2⟩
  have h0 : Upto (arg1.view.read (Elt F) f1) (arg2.view.read (Elt F) f2) (512 * 0) := fun y hy => absurd hy (by omega)
  ihave HI := (show iprop(pt c arg1 f1 ∗ pt c arg2 f2) ⊢ fmtInv c arg1 arg2 f1 (512 * 0) from by
    unfold fmtInv
    iintro ⟨H1, H2⟩
    isplitl [H1]; · iexact H1
    iexists f2
    isplitr; · ipureintro; exact h0
    iexact H2) $$ [H1 H2]
  · isplitl [H1]; · iexact H1
    iexact H2
  simp only [bind_assoc, Prog.bind_assoc]
  iapply (Scf.wp_for_bind (I := fun t (_ : Unit) => fmtInv c arg1 arg2 f1 (512 * t)) (hbody := fun t u => t1_trip c i arg1 harg1 arg2 harg2 f1 t u)) $$ [HI]
  · iexact HI
  iintro %u1 HI
  unfold fmtInv
  icases HI with ⟨H1, %g, %hg, H2⟩
  sl_exec
  have hs1 := store_tail arg1 arg2 f1 g 0 (12500 + 512 * 0) (by decide) rfl rfl inb_S2x16x100000_S1x16x1696_0_0_98304 inb_S1x25000x128_S1x212x128_0_12288_0 hg rfl rfl
  iapply (Scf.wp_for_bind (I := fun t (_ : Unit) => fmtInv c arg1 arg2 f1 (12500 + 512 * t)) (hbody := fun t u => t2_trip c i arg1 harg1 arg2 harg2 f1 t u)) $$ [H1 H2]
  · unfold fmtInv
    isplitl [H1]; · iexact H1
    iexists _
    isplitr; swap; · iexact H2
    ipureintro
    exact hs1
  iintro %u2 HI
  unfold fmtInv
  icases HI with ⟨H1, %g', %hg', H2⟩
  sl_exec
  sl_step
  isplitl [H1]; · iexact H1
  iexists _
  isplitr; swap; · iexact H2
  ipureintro
  dsimp only
  rw [pay1_eq]
  exact (store_tail arg1 arg2 f1 g' 1 25000 (by decide) rfl rfl inb_S2x16x100000_S1x16x1696_1_0_98304 inb_S1x25000x128_S1x212x128_0_24788_0 hg' rfl rfl).all

include i in
/-- The second grid's body is the first's. -/
theorem format_body' (i' : grid1.Coords) (f2 : Buf (Elt F) (arg2.view.loc (c : Thread nD τ))) :
    iprop(pt c arg1 f1 ∗ pt c arg2 f2) ⊢ wp frame (wpE (defs₀ (F := F)) 𝒱₀ (c : Thread nD τ) none) Set.univ (cc1__format_body i' arg1 harg1 arg2 harg2)
      fun _ => iprop(pt c arg1 f1 ∗ ∃ g, ⌜arg2.view.read (Elt F) g = fmt (arg1.view.read (Elt F) f1)⌝ ∗ pt c arg2 g) :=
  format_body c i arg1 harg1 arg2 harg2 f1 f2

end

end Cert.Proof

end
-- ==== Proof.Grids.lean ====
/-
  The two formatting grids: what each leaves in its staging buffers, the body obligations, and the closed form of the
  formatted array.
-/
module

public import proofs.«01_k».proof.Proof.Entry
public import proofs.«01_k».proof.Proof.FormatBody

@[expose] public section

set_option maxRecDepth 16384

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat PLaunchFacts BodyObligation BodyObligationLoose RegionSeg pin arrRef arrRefs afterRegion scopedRest ucRefs)

variable {F : FTy → Type} [FloatOps F]

local notation "𝕄" => MM F

variable (W : Dev nD → Valuation τ sig (Elt F))

/-- The block of tables point `t` of the first grid stages. -/
abbrev stg0 (c : Dev nD) (t : Fin cfg0.N) : (cfg0.win 0).block.Idx → Elt F (cfg0.win 0).elt :=
  ((cfg0.win 0).blk t).view.read (Elt F) (W c (Proc.devRef .tc (arrRef spec0 0)))

/-- The first formatting grid, entered with the buffers at `W`. -/
def dat0 (c : Dev nD) : Dat τ (Elt F) (HIx 2) ℕ UU ℕ cfg0 c where
  A w := W c (Proc.devRef .tc (arrRef spec0 w))
  after w t := match w with
    | ⟨0, _⟩ => stg0 W c t
    | ⟨1, _⟩ => fmt (stg0 W c t)
  Φ _ := iprop(scopedRest spec0 c ∗ ∃ r, prngReg c r)
  q _ := fullShare
  owed _ := (K (F := F)).Otc c 0
  recorded _ := recAt (F := F) c 0

/-- The block of tables point `t` of the second grid stages. -/
abbrev stg1 (c : Dev nD) (t : Fin cfg1.N) : (cfg1.win 0).block.Idx → Elt F (cfg1.win 0).elt :=
  ((cfg1.win 0).blk t).view.read (Elt F) (W c (Proc.devRef .tc (arrRef spec1 0)))

/-- The second formatting grid, entered with the buffers at `W`. -/
def dat1 (c : Dev nD) : Dat τ (Elt F) (HIx 2) ℕ UU ℕ cfg1 c where
  A w := W c (Proc.devRef .tc (arrRef spec1 w))
  after w t := match w with
    | ⟨0, _⟩ => stg1 W c t
    | ⟨1, _⟩ => fmt (stg1 W c t)
  Φ _ := iprop(scopedRest spec1 c ∗ ∃ r, prngReg c r)
  q _ := fullShare
  owed _ := (K (F := F)).Otc c 0
  recorded _ := recAt (F := F) c 0

theorem before0 (c : Dev nD) (t : Fin cfg0.N) (d : (cfg0.win 0).block.Idx → Elt F (cfg0.win 0).elt) :
    (dat0 W c).before 0 t d = stg0 W c t := by
  unfold Dat.before; rw [if_pos (fetch0_0 t)]; rfl

theorem before1 (c : Dev nD) (t : Fin cfg1.N) (d : (cfg1.win 0).block.Idx → Elt F (cfg1.win 0).elt) :
    (dat1 W c).before 0 t d = stg1 W c t := by
  unfold Dat.before; rw [if_pos (fetch1_0 t)]; rfl

/-- A whole staging buffer owned at what it reads is a points-to of all of it, -/
theorem owns_open (c : Dev nD) {s : Shape} {e : EltTy} (M : Memref sig .tc .vmem s e) (h : M.IsWhole) (X : s.Idx → Elt F e) :
    (owns (c : Thread nD τ) M fullShare X : sProp 𝕄) ⊢ iprop(∃ f, ⌜M.view.read (Elt F) f = X⌝ ∗ pt c M f) := by
  unfold owns; rw [h.set_eq_univ]

/-- and conversely. -/
theorem owns_close (c : Dev nD) {s : Shape} {e : EltTy} (M : Memref sig .tc .vmem s e) (h : M.IsWhole) (X : s.Idx → Elt F e) :
    iprop(∃ f, ⌜M.view.read (Elt F) f = X⌝ ∗ pt c M f) ⊢ (owns (c : Thread nD τ) M fullShare X : sProp 𝕄) := by
  unfold owns; rw [h.set_eq_univ]

/-- The formatting body over its two buffers as the pipeline hands them. -/
theorem format_owns (c : Dev nD) (i : grid0.Coords) (arg1 : Memref sig .tc .vmem S2x16x100000 .f32) (harg1 : arg1.IsWhole)
    (arg2 : Memref sig .tc .vmem S1x25000x128 .f32) (harg2 : arg2.IsWhole) (x : S2x16x100000.Idx → Elt F .f32)
    (y : S1x25000x128.Idx → Elt F .f32) :
    (iprop(owns (c : Thread nD τ) arg1 fullShare x ∗ owns (c : Thread nD τ) arg2 fullShare y) : sProp 𝕄)
      ⊢ wp frame (wpE (defs₀ (F := F)) 𝒱₀ (c : Thread nD τ) none) Set.univ (cc0__format_body i arg1 harg1 arg2 harg2) fun _ =>
        iprop(owns (c : Thread nD τ) arg1 fullShare x ∗ owns (c : Thread nD τ) arg2 fullShare (fmt x)) := by
  iintro ⟨H0, H1⟩
  ihave H0 := owns_open c arg1 harg1 x $$ H0
  icases H0 with ⟨%f0, %hf0, H0⟩
  ihave H1 := owns_open c arg2 harg2 y $$ H1
  icases H1 with ⟨%f1, -, H1⟩
  iapply ((format_body (F := F) c i arg1 harg1 arg2 harg2 f0 f1).trans (wp_mono frame _ _ fun _ => by
    iintro ⟨H0, %g, %hg, H1⟩
    isplitl [H0]
    · iapply owns_close c arg1 harg1 x; iexists f0; isplitr; · ipureintro; exact hf0
      iexact H0
    iapply owns_close c arg2 harg2 (fmt x); iexists g; isplitr; · ipureintro; rw [hg, hf0]
    iexact H1)) $$ [H0 H1]
  isplitl [H0]; · iexact H0
  iexact H1

/-- The same at the second grid's coordinates: the body is the same program. -/
theorem format_owns' (c : Dev nD) (i : grid0.Coords) (i' : grid1.Coords) (arg1 : Memref sig .tc .vmem S2x16x100000 .f32) (harg1 : arg1.IsWhole)
    (arg2 : Memref sig .tc .vmem S1x25000x128 .f32) (harg2 : arg2.IsWhole) (x : S2x16x100000.Idx → Elt F .f32)
    (y : S1x25000x128.Idx → Elt F .f32) :
    (iprop(owns (c : Thread nD τ) arg1 fullShare x ∗ owns (c : Thread nD τ) arg2 fullShare y) : sProp 𝕄)
      ⊢ wp frame (wpE (defs₀ (F := F)) 𝒱₀ (c : Thread nD τ) none) Set.univ (cc1__format_body i' arg1 harg1 arg2 harg2) fun _ =>
        iprop(owns (c : Thread nD τ) arg1 fullShare x ∗ owns (c : Thread nD τ) arg2 fullShare (fmt x)) :=
  format_owns c i arg1 harg1 arg2 harg2 x y

/-- A point of the first grid formats its block. -/
theorem body_obligation0 (c : Dev nD) : BodyObligation (dat0 W c) (defs₀ (F := F)) 𝒱₀ (none : HIx 2) Set.univ := fun t => by
  rw [bigSep_W0, bigSep_W0]
  rw [show (dat0 W c).Φ t.succ = (dat0 W c).Φ t.castSucc from rfl,
    show (dat0 W c).owesAt (none : HIx 2) t.succ = (dat0 W c).owesAt (none : HIx 2) t.castSucc from rfl]
  iintro ⟨HΦ, Howes, ⟨%d0, H0⟩, ⟨%d1, H1⟩⟩
  rw [before0]
  iapply (wp_wand frame (wpE (defs₀ (F := F)) 𝒱₀ (c : Thread nD τ) none) Set.univ (p := bodyAt0 t)) $$ [H0 H1]
  · iapply (format_owns (F := F) c (grid0.coords t) (win0_0.stage (cfg0.slots t 0)) (hstage0_0 ((cfg0.slots t 0).cast nbuf0_0))
      (win0_1.stage (cfg0.slots t 1)) (hstage0_1 ((cfg0.slots t 1).cast nbuf0_1)) (stg0 W c t) _) $$ [H0 H1]
    isplitl [H0]; · iexact H0
    iexact H1
  iintro %u ⟨H0, H1⟩
  isplitl [HΦ]; · iexact HΦ
  isplitl [Howes]; · iexact Howes
  isplitl [H0]; · iexact H0
  iexact H1

/-- A point of the second grid formats its block. -/
theorem body_obligation1 (c : Dev nD) (i : grid0.Coords) : BodyObligation (dat1 W c) (defs₀ (F := F)) 𝒱₀ (none : HIx 2) Set.univ := fun t => by
  rw [bigSep_W1, bigSep_W1]
  rw [show (dat1 W c).Φ t.succ = (dat1 W c).Φ t.castSucc from rfl,
    show (dat1 W c).owesAt (none : HIx 2) t.succ = (dat1 W c).owesAt (none : HIx 2) t.castSucc from rfl]
  iintro ⟨HΦ, Howes, ⟨%d0, H0⟩, ⟨%d1, H1⟩⟩
  rw [before1]
  iapply (wp_wand frame (wpE (defs₀ (F := F)) 𝒱₀ (c : Thread nD τ) none) Set.univ (p := bodyAt1 t)) $$ [H0 H1]
  · iapply (format_owns' (F := F) c i (grid1.coords t) (win1_0.stage (cfg1.slots t 0)) (hstage1_0 ((cfg1.slots t 0).cast nbuf1_0))
      (win1_1.stage (cfg1.slots t 1)) (hstage1_1 ((cfg1.slots t 1).cast nbuf1_1)) (stg1 W c t) _) $$ [H0 H1]
    isplitl [H0]; · iexact H0
    iexact H1
  iintro %u ⟨H0, H1⟩
  isplitl [HΦ]; · iexact HΦ
  isplitl [Howes]; · iexact Howes
  isplitl [H0]; · iexact H0
  iexact H1

/-- The table the first grid leaves: fields 0 to 13, two per block. -/
def fmtA {α : Type} (x : S26x16x100000.Idx → α) : S7x25000x128.Idx → α := fun y =>
  x (ix3 ⟨2 * (y 0).val + (y 1).val / 12500, by have := (y 0).isLt; have := (y 1).isLt; simp at *; omega⟩
    ⟨(y 2).val % 16, Nat.mod_lt _ (by decide)⟩ ⟨fmtRow ((y 1).val % 12500) (y 2).val, fmtRow_lt _ _ (Nat.mod_lt _ (by decide)) (y 2).isLt⟩)

/-- The table the second grid leaves: fields 14 to 25. -/
def fmtB {α : Type} (x : S26x16x100000.Idx → α) : S6x25000x128.Idx → α := fun y =>
  x (ix3 ⟨14 + 2 * (y 0).val + (y 1).val / 12500, by have := (y 0).isLt; have := (y 1).isLt; simp at *; omega⟩
    ⟨(y 2).val % 16, Nat.mod_lt _ (by decide)⟩ ⟨fmtRow ((y 1).val % 12500) (y 2).val, fmtRow_lt _ _ (Nat.mod_lt _ (by decide)) (y 2).isLt⟩)

theorem index0_0 : ∀ t : Fin cfg0.N, (cfg0.win 0).index t 0 = t.val ∧ (cfg0.win 0).index t 1 = 0 ∧ (cfg0.win 0).index t 2 = 0 := by
  decide +kernel
theorem index0_1 : ∀ t : Fin cfg0.N, (cfg0.win 1).index t 0 = t.val ∧ (cfg0.win 1).index t 1 = 0 ∧ (cfg0.win 1).index t 2 = 0 := by
  decide +kernel
theorem index1_0 : ∀ t : Fin cfg1.N, (cfg1.win 0).index t 0 = 7 + t.val ∧ (cfg1.win 0).index t 1 = 0 ∧ (cfg1.win 0).index t 2 = 0 := by
  decide +kernel
theorem index1_1 : ∀ t : Fin cfg1.N, (cfg1.win 1).index t 0 = t.val ∧ (cfg1.win 1).index t 1 = 0 ∧ (cfg1.win 1).index t 2 = 0 := by
  decide +kernel

/-- A staged block of tables is the array's rows of its two fields. -/
theorem stg0_apply (c : Dev nD) (t : Fin cfg0.N) (a : Fin 2) (b : Fin 16) (r : Fin 100000) (f : Fin 26) (hf : f.val = 2 * t.val + a.val) :
    stg0 W c t (ix3 a b r) = W c (Proc.devRef .tc (arrRef spec0 0)) (ix3 f b r) := by
  obtain ⟨e0, e1, e2⟩ := index0_0 t
  show W c (Proc.devRef .tc (arrRef spec0 0)) (((cfg0.win 0).blk t).view.emb (ix3 a b r)) = _
  refine congrArg (W c (Proc.devRef .tc (arrRef spec0 0))) (funext fun x => Fin.ext ?_)
  refine (Pipeline.Window.rect_emb_val (cfg0.win 0) t (ix3 a b r) x).trans ?_
  match x with
  | 0 => rw [e0]; show t.val * 2 + a.val = f.val; omega
  | 1 => rw [e1]; show 0 * 16 + b.val = b.val; omega
  | 2 => rw [e2]; show 0 * 100000 + r.val = r.val; omega

theorem stg1_apply (c : Dev nD) (t : Fin cfg1.N) (a : Fin 2) (b : Fin 16) (r : Fin 100000) (f : Fin 26) (hf : f.val = 14 + 2 * t.val + a.val) :
    stg1 W c t (ix3 a b r) = W c (Proc.devRef .tc (arrRef spec1 0)) (ix3 f b r) := by
  obtain ⟨e0, e1, e2⟩ := index1_0 t
  show W c (Proc.devRef .tc (arrRef spec1 0)) (((cfg1.win 0).blk t).view.emb (ix3 a b r)) = _
  refine congrArg (W c (Proc.devRef .tc (arrRef spec1 0))) (funext fun x => Fin.ext ?_)
  refine (Pipeline.Window.rect_emb_val (cfg1.win 0) t (ix3 a b r) x).trans ?_
  match x with
  | 0 => rw [e0]; show (7 + t.val) * 2 + a.val = f.val; omega
  | 1 => rw [e1]; show 0 * 16 + b.val = b.val; omega
  | 2 => rw [e2]; show 0 * 100000 + r.val = r.val; omega

/-- Where an entry of a formatted block sits in the formatted array. -/
theorem emb0_1 (t : Fin cfg0.N) (y0 : Fin 1) (y1 : Fin 25000) (y2 : Fin 128) :
    ((cfg0.win 1).blk t).view.emb (ix3 y0 y1 y2) = ix3 (a := 7) (b := 25000) (c := 128) ⟨t.val, t.isLt⟩ y1 y2 := by
  obtain ⟨e0, e1, e2⟩ := index0_1 t
  refine funext fun x => Fin.ext ((Pipeline.Window.rect_emb_val (cfg0.win 1) t (ix3 y0 y1 y2) x).trans ?_)
  match x with
  | 0 => rw [e0]; show t.val * 1 + y0.val = t.val; omega
  | 1 => rw [e1]; show 0 * 25000 + y1.val = y1.val; omega
  | 2 => rw [e2]; show 0 * 128 + y2.val = y2.val; omega

theorem emb1_1 (t : Fin cfg1.N) (y0 : Fin 1) (y1 : Fin 25000) (y2 : Fin 128) :
    ((cfg1.win 1).blk t).view.emb (ix3 y0 y1 y2) = ix3 (a := 6) (b := 25000) (c := 128) ⟨t.val, t.isLt⟩ y1 y2 := by
  obtain ⟨e0, e1, e2⟩ := index1_1 t
  refine funext fun x => Fin.ext ((Pipeline.Window.rect_emb_val (cfg1.win 1) t (ix3 y0 y1 y2) x).trans ?_)
  match x with
  | 0 => rw [e0]; show t.val * 1 + y0.val = t.val; omega
  | 1 => rw [e1]; show 0 * 25000 + y1.val = y1.val; omega
  | 2 => rw [e2]; show 0 * 128 + y2.val = y2.val; omega

/-- What the first grid leaves in its output array. -/
theorem arr0 (c : Dev nD) : (dat0 W c).arrAt 1 cfg0.N = fmtA (W c (Proc.devRef .tc (arrRef spec0 0))) := by
  refine (dat0 W c).arrAt_eq_of_cover 1 _ (fun t _ => ?_) fun i => ?_
  · show fmt (stg0 W c t) = _
    funext y
    obtain ⟨y0, y1, y2, rfl⟩ : ∃ y0 y1 y2, y = ix3 (a := 1) (b := 25000) (c := 128) y0 y1 y2 := ⟨_, _, _, eq_ix3 y⟩
    show _ = fmtA (W c (Proc.devRef .tc (arrRef spec0 0))) (((cfg0.win 1).blk t).view.emb (ix3 y0 y1 y2))
    rw [emb0_1]
    unfold fmt
    refine (stg0_apply W c t _ _ _ ⟨2 * t.val + y1.val / 12500, ?_⟩ rfl).trans ?_
    · have : t.val < 7 := t.isLt; have := y1.isLt; omega
    · rfl
  · obtain ⟨y0, y1, y2, rfl⟩ : ∃ y0 y1 y2, i = ix3 (a := 7) (b := 25000) (c := 128) y0 y1 y2 := ⟨_, _, _, eq_ix3 i⟩
    refine ⟨⟨y0.val, y0.isLt⟩, flush0_1 _, ?_⟩
    have := ((cfg0.win 1).blk ⟨y0.val, y0.isLt⟩).view.emb_mem_set (ix3 (a := 1) (b := 25000) (c := 128) 0 y1 y2)
    rw [emb0_1] at this
    exact this

/-- What the second grid leaves in its output array. -/
theorem arr1 (c : Dev nD) : (dat1 W c).arrAt 1 cfg1.N = fmtB (W c (Proc.devRef .tc (arrRef spec1 0))) := by
  refine (dat1 W c).arrAt_eq_of_cover 1 _ (fun t _ => ?_) fun i => ?_
  · show fmt (stg1 W c t) = _
    funext y
    obtain ⟨y0, y1, y2, rfl⟩ : ∃ y0 y1 y2, y = ix3 (a := 1) (b := 25000) (c := 128) y0 y1 y2 := ⟨_, _, _, eq_ix3 y⟩
    show _ = fmtB (W c (Proc.devRef .tc (arrRef spec1 0))) (((cfg1.win 1).blk t).view.emb (ix3 y0 y1 y2))
    rw [emb1_1]
    unfold fmt
    refine (stg1_apply W c t _ _ _ ⟨14 + 2 * t.val + y1.val / 12500, ?_⟩ rfl).trans ?_
    · have : t.val < 6 := t.isLt; have := y1.isLt; omega
    · rfl
  · obtain ⟨y0, y1, y2, rfl⟩ : ∃ y0 y1 y2, i = ix3 (a := 6) (b := 25000) (c := 128) y0 y1 y2 := ⟨_, _, _, eq_ix3 i⟩
    refine ⟨⟨y0.val, y0.isLt⟩, flush1_1 _, ?_⟩
    have := ((cfg1.win 1).blk ⟨y0.val, y0.isLt⟩).view.emb_mem_set (ix3 (a := 1) (b := 25000) (c := 128) 0 y1 y2)
    rw [emb1_1] at this
    exact this

end Cert.Proof

end
-- ==== Proof.DenseBody.lean ====
/-
  The dense body: what it stores, as one function of the blocks it reads, and its run over the staging buffers.
-/
module

public import proofs.«01_k».proof.Proof.Entry
public import proofs.«01_k».proof.Proof.Grids

@[expose] public section

set_option maxRecDepth 16384

noncomputable section

namespace Cert.Proof

open Cert.KernelIdeal Cert.KernelIdeal.Gen
open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat PLaunchFacts BodyObligation BodyObligationLoose RegionSeg pin arrRef arrRefs afterRegion scopedRest ucRefs)

variable {F : FTy → Type} [FloatOps F]

local notation "𝕄" => MM F

/-- Row `r` of a three-row weight, as the body loads it. -/
def row3 (r : Fin 3) (w : S3x416.Idx → Elt F .f32) : Vec F S1x416 .f32 := fun y => w (ix2 (a := 3) (b := 416) r (y 1))

/-- The block of logits the dense body stores, from the blocks and weights it reads. -/
def dense (x1 : S2048x224.Idx → Elt F .f32) (x2 : S2048x192.Idx → Elt F .f32) (x3 : S3x416.Idx → Elt F .f32) (x4 : S3x416.Idx → Elt F .f32) (x5 : S416x256.Idx → Elt F .f32) (x6 : S1x256.Idx → Elt F .f32) (x7 : S256x128.Idx → Elt F .f32) (x8 : S1x128.Idx → Elt F .f32) (x9 : S128x64.Idx → Elt F .f32) (x10 : S1x64.Idx → Elt F .f32) (x11 : S480x1.Idx → Elt F .f32) (x12 : S1x1.Idx → Elt F .f32) : FVec F S2048x1 .f32 :=
  k4_pay1 (k4_pay5 (k4_pay2 x1 x2) (k4_pay3 x1 x2 (row3 0 x3) (row3 0 x4) (row3 1 x3) (row3 1 x4))
      (k4_pay4 x1 x2 (row3 0 x3) (row3 0 x4) (row3 1 x3) (row3 1 x4) (row3 2 x3)) (row3 2 x4))
    (k4_pay6 (k4_pay2 x1 x2) x5 x6 x7 x8 x9 x10) (k4_pay7 (F := F)) x11 x12

/-- A load of one row of a three-row weight. -/
theorem load_row {c : Dev nD} (M : Memref sig .tc .vmem S3x416 .f32) (f : Buf (Elt F) (M.view.loc (c : Thread nD τ))) (r : Fin 3)
    (inb : ∀ a, (![r.val, 0] : Fin 2 → ℕ) a + S1x416.size a ≤ S3x416.size a) :
    M.view.readAt (Elt F) (Rect.unit (s := S3x416) ![r.val, 0] S1x416.size inb).toLoadRect f = row3 r (M.view.read (Elt F) f) := by
  rw [View.readAt_unit M.view f inb rfl inb]
  unfold VecWindow.window row3
  funext y
  refine congrArg (M.view.read (Elt F) f) (funext fun a => Fin.ext ?_)
  match a with
  | 0 => show r.val + 1 * (y 0).val = r.val; have : (y 0).val < 1 := (y 0).isLt; omega
  | 1 => show 0 + 1 * (y 1).val = (y 1).val; omega

set_option maxHeartbeats 4000000 in
/-- The dense body over its thirteen buffers: the operands are read and kept, the output holds the block of logits. -/
theorem dense_owns (c : Dev nD) (i : grid4.Coords) (arg1 : Memref sig .tc .vmem S2048x224 .f32) (harg1 : arg1.IsWhole) (arg2 : Memref sig .tc .vmem S2048x192 .f32) (harg2 : arg2.IsWhole) (arg3 : Memref sig .tc .vmem S3x416 .f32) (harg3 : arg3.IsWhole) (arg4 : Memref sig .tc .vmem S3x416 .f32) (harg4 : arg4.IsWhole) (arg5 : Memref sig .tc .vmem S416x256 .f32) (harg5 : arg5.IsWhole) (arg6 : Memref sig .tc .vmem S1x256 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S128x64 .f32) (harg9 : arg9.IsWhole) (arg10 : Memref sig .tc .vmem S1x64 .f32) (harg10 : arg10.IsWhole) (arg11 : Memref sig .tc .vmem S480x1 .f32) (harg11 : arg11.IsWhole) (arg12 : Memref sig .tc .vmem S1x1 .f32) (harg12 : arg12.IsWhole) (arg13 : Memref sig .tc .vmem S2048x1 .f32) (harg13 : arg13.IsWhole) (x1 : S2048x224.Idx → Elt F .f32) (x2 : S2048x192.Idx → Elt F .f32) (x3 : S3x416.Idx → Elt F .f32) (x4 : S3x416.Idx → Elt F .f32) (x5 : S416x256.Idx → Elt F .f32) (x6 : S1x256.Idx → Elt F .f32) (x7 : S256x128.Idx → Elt F .f32) (x8 : S1x128.Idx → Elt F .f32) (x9 : S128x64.Idx → Elt F .f32) (x10 : S1x64.Idx → Elt F .f32) (x11 : S480x1.Idx → Elt F .f32) (x12 : S1x1.Idx → Elt F .f32) (x13 : S2048x1.Idx → Elt F .f32) :
    (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13) : sProp 𝕄)
      ⊢ wp frame (wpE (defs₀ (F := F)) 𝒱₀ (c : Thread nD τ) none) Set.univ (cc4__dense_body i arg1 harg1 arg2 harg2 arg3 harg3 arg4 harg4 arg5 harg5 arg6 harg6 arg7 harg7 arg8 harg8 arg9 harg9 arg10 harg10 arg11 harg11 arg12 harg12 arg13 harg13) fun _ =>
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare (dense x1 x2 x3 x4 x5 x6 x7 x8 x9 x10 x11 x12)) := by
  iintro ⟨H1, H2, H3, H4, H5, H6, H7, H8, H9, H10, H11, H12, H13⟩
  ihave H1 := owns_open c arg1 harg1 x1 $$ H1
  icases H1 with ⟨%f1, %hf1, H1⟩
  ihave H2 := owns_open c arg2 harg2 x2 $$ H2
  icases H2 with ⟨%f2, %hf2, H2⟩
  ihave H3 := owns_open c arg3 harg3 x3 $$ H3
  icases H3 with ⟨%f3, %hf3, H3⟩
  ihave H4 := owns_open c arg4 harg4 x4 $$ H4
  icases H4 with ⟨%f4, %hf4, H4⟩
  ihave H5 := owns_open c arg5 harg5 x5 $$ H5
  icases H5 with ⟨%f5, %hf5, H5⟩
  ihave H6 := owns_open c arg6 harg6 x6 $$ H6
  icases H6 with ⟨%f6, %hf6, H6⟩
  ihave H7 := owns_open c arg7 harg7 x7 $$ H7
  icases H7 with ⟨%f7, %hf7, H7⟩
  ihave H8 := owns_open c arg8 harg8 x8 $$ H8
  icases H8 with ⟨%f8, %hf8, H8⟩
  ihave H9 := owns_open c arg9 harg9 x9 $$ H9
  icases H9 with ⟨%f9, %hf9, H9⟩
  ihave H10 := owns_open c arg10 harg10 x10 $$ H10
  icases H10 with ⟨%f10, %hf10, H10⟩
  ihave H11 := owns_open c arg11 harg11 x11 $$ H11
  icases H11 with ⟨%f11, %hf11, H11⟩
  ihave H12 := owns_open c arg12 harg12 x12 $$ H12
  icases H12 with ⟨%f12, %hf12, H12⟩
  ihave H13 := owns_open c arg13 harg13 x13 $$ H13
  icases H13 with ⟨%f13, %hf13, H13⟩
  rw [cc4__dense_body_eq_skeleton]
  unfold cc4__dense_body_skel
  rw [k4_part1_eq_skeleton, k4_part2_eq_skeleton]
  unfold k4_part1_skel k4_part2_skel
  sl_exec!
  sl_step
  isplitl [H1]
  · iapply owns_close c arg1 harg1 x1; iexists f1; isplitr; · ipureintro; exact hf1
    iexact H1
  isplitl [H2]
  · iapply owns_close c arg2 harg2 x2; iexists f2; isplitr; · ipureintro; exact hf2
    iexact H2
  isplitl [H3]
  · iapply owns_close c arg3 harg3 x3; iexists f3; isplitr; · ipureintro; exact hf3
    iexact H3
  isplitl [H4]
  · iapply owns_close c arg4 harg4 x4; iexists f4; isplitr; · ipureintro; exact hf4
    iexact H4
  isplitl [H5]
  · iapply owns_close c arg5 harg5 x5; iexists f5; isplitr; · ipureintro; exact hf5
    iexact H5
  isplitl [H6]
  · iapply owns_close c arg6 harg6 x6; iexists f6; isplitr; · ipureintro; exact hf6
    iexact H6
  isplitl [H7]
  · iapply owns_close c arg7 harg7 x7; iexists f7; isplitr; · ipureintro; exact hf7
    iexact H7
  isplitl [H8]
  · iapply owns_close c arg8 harg8 x8; iexists f8; isplitr; · ipureintro; exact hf8
    iexact H8
  isplitl [H9]
  · iapply owns_close c arg9 harg9 x9; iexists f9; isplitr; · ipureintro; exact hf9
    iexact H9
  isplitl [H10]
  · iapply owns_close c arg10 harg10 x10; iexists f10; isplitr; · ipureintro; exact hf10
    iexact H10
  isplitl [H11]
  · iapply owns_close c arg11 harg11 x11; iexists f11; isplitr; · ipureintro; exact hf11
    iexact H11
  isplitl [H12]
  · iapply owns_close c arg12 harg12 x12; iexists f12; isplitr; · ipureintro; exact hf12
    iexact H12
  iapply owns_close c arg13 harg13 _; iexists _; isplitr; swap; · iexact H13
  ipureintro
  unfold dense_owns.sl.H13_1
  refine (View.read_writes_full _ _ _ _ _).trans ?_
  subst hf1 hf2 hf3 hf4 hf5 hf6 hf7 hf8 hf9 hf10 hf11 hf12
  have e30 : arg3.view.readAt (Elt F) (Rect.unit (s := S3x416) ![0, 0] S1x416.size inb_S3x416_S1x416_0_0).toLoadRect f3 = row3 0 (arg3.view.read (Elt F) f3) := load_row (c := c) arg3 f3 0 _
  have e31 : arg3.view.readAt (Elt F) (Rect.unit (s := S3x416) ![1, 0] S1x416.size inb_S3x416_S1x416_1_0).toLoadRect f3 = row3 1 (arg3.view.read (Elt F) f3) := load_row (c := c) arg3 f3 1 _
  have e32 : arg3.view.readAt (Elt F) (Rect.unit (s := S3x416) ![2, 0] S1x416.size inb_S3x416_S1x416_2_0).toLoadRect f3 = row3 2 (arg3.view.read (Elt F) f3) := load_row (c := c) arg3 f3 2 _
  have e40 : arg4.view.readAt (Elt F) (Rect.unit (s := S3x416) ![0, 0] S1x416.size inb_S3x416_S1x416_0_0).toLoadRect f4 = row3 0 (arg4.view.read (Elt F) f4) := load_row (c := c) arg4 f4 0 _
  have e41 : arg4.view.readAt (Elt F) (Rect.unit (s := S3x416) ![1, 0] S1x416.size inb_S3x416_S1x416_1_0).toLoadRect f4 = row3 1 (arg4.view.read (Elt F) f4) := load_row (c := c) arg4 f4 1 _
  have e42 : arg4.view.readAt (Elt F) (Rect.unit (s := S3x416) ![2, 0] S1x416.size inb_S3x416_S1x416_2_0).toLoadRect f4 = row3 2 (arg4.view.read (Elt F) f4) := load_row (c := c) arg4 f4 2 _
  have e1 : arg1.view.readAt (Elt F) (Rect.unit (s := S2048x224) ![0, 0] S2048x224.size inb_S2048x224_S2048x224_0_0).toLoadRect f1 = arg1.view.read (Elt F) f1 := View.readAt_full _ _ _
  have e2 : arg2.view.readAt (Elt F) (Rect.unit (s := S2048x192) ![0, 0] S2048x192.size inb_S2048x192_S2048x192_0_0).toLoadRect f2 = arg2.view.read (Elt F) f2 := View.readAt_full _ _ _
  have e5 : arg5.view.readAt (Elt F) (Rect.unit (s := S416x256) ![0, 0] S416x256.size inb_S416x256_S416x256_0_0).toLoadRect f5 = arg5.view.read (Elt F) f5 := View.readAt_full _ _ _
  have e6 : arg6.view.readAt (Elt F) (Rect.unit (s := S1x256) ![0, 0] S1x256.size inb_S1x256_S1x256_0_0).toLoadRect f6 = arg6.view.read (Elt F) f6 := View.readAt_full _ _ _
  have e7 : arg7.view.readAt (Elt F) (Rect.unit (s := S256x128) ![0, 0] S256x128.size inb_S256x128_S256x128_0_0).toLoadRect f7 = arg7.view.read (Elt F) f7 := View.readAt_full _ _ _
  have e8 : arg8.view.readAt (Elt F) (Rect.unit (s := S1x128) ![0, 0] S1x128.size inb_S1x128_S1x128_0_0).toLoadRect f8 = arg8.view.read (Elt F) f8 := View.readAt_full _ _ _
  have e9 : arg9.view.readAt (Elt F) (Rect.unit (s := S128x64) ![0, 0] S128x64.size inb_S128x64_S128x64_0_0).toLoadRect f9 = arg9.view.read (Elt F) f9 := View.readAt_full _ _ _
  have e10 : arg10.view.readAt (Elt F) (Rect.unit (s := S1x64) ![0, 0] S1x64.size inb_S1x64_S1x64_0_0).toLoadRect f10 = arg10.view.read (Elt F) f10 := View.readAt_full _ _ _
  have e11 : arg11.view.readAt (Elt F) (Rect.unit (s := S480x1) ![0, 0] S480x1.size inb_S480x1_S480x1_0_0).toLoadRect f11 = arg11.view.read (Elt F) f11 := View.readAt_full _ _ _
  have e12 : arg12.view.readAt (Elt F) (Rect.unit (s := S1x1) ![0, 0] S1x1.size inb_S1x1_S1x1_0_0).toLoadRect f12 = arg12.view.read (Elt F) f12 := View.readAt_full _ _ _
  rw [e30, e31, e32, e40, e41, e42, e1, e2, e5, e6, e7, e8, e9, e10, e11, e12]
  rfl

variable (W : Dev nD → Valuation τ sig (Elt F))

/-- The block of window `w` at point `t`, as the fetch stages it. -/
abbrev stg4 (c : Dev nD) (w : Fin cfg4.W) (t : Fin cfg4.N) : ((cfg4.win w).xblock (cfg4.grid.coords t)).Idx → Elt F (cfg4.win w).elt :=
  ((cfg4.win w).blk t).view.read (Elt F) (W c (Proc.devRef .tc (arrRef spec4 w)))

/-- The block of logits point `t` leaves. -/
def logits (c : Dev nD) (t : Fin cfg4.N) : FVec F S2048x1 .f32 :=
  dense (stg4 W c 0 t) (stg4 W c 1 t) (stg4 W c 2 t) (stg4 W c 3 t) (stg4 W c 4 t) (stg4 W c 5 t) (stg4 W c 6 t) (stg4 W c 7 t) (stg4 W c 8 t) (stg4 W c 9 t) (stg4 W c 10 t) (stg4 W c 11 t)

/-- The dense grid, entered after both SparseCore calls with the buffers at `W`. -/
def dat4 (c : Dev nD) : Dat τ (Elt F) (HIx 2) ℕ UU ℕ cfg4 c where
  A w := W c (Proc.devRef .tc (arrRef spec4 w))
  after w t := match w with
    | ⟨0, _⟩ => stg4 W c 0 t
    | ⟨1, _⟩ => stg4 W c 1 t
    | ⟨2, _⟩ => stg4 W c 2 t
    | ⟨3, _⟩ => stg4 W c 3 t
    | ⟨4, _⟩ => stg4 W c 4 t
    | ⟨5, _⟩ => stg4 W c 5 t
    | ⟨6, _⟩ => stg4 W c 6 t
    | ⟨7, _⟩ => stg4 W c 7 t
    | ⟨8, _⟩ => stg4 W c 8 t
    | ⟨9, _⟩ => stg4 W c 9 t
    | ⟨10, _⟩ => stg4 W c 10 t
    | ⟨11, _⟩ => stg4 W c 11 t
    | ⟨12, _⟩ => logits W c t
  Φ _ := iprop(scopedRest spec4 c ∗ ∃ r, prngReg c r)
  q _ := fullShare
  owed _ := (K (F := F)).Otc c 2
  recorded _ := recAt (F := F) c 2

theorem before4_0 (c : Dev nD) (t : Fin cfg4.N) (d : (cfg4.win 0).block.Idx → Elt F (cfg4.win 0).elt) :
    (dat4 W c).before 0 t d = stg4 W c 0 t :=
  ((dat4 W c).before_in_eq_fetched 0 rfl (fun _ => rfl) (fun _ _ _ => rfl) (fun _ => rfl) t d).trans rfl

theorem before4_1 (c : Dev nD) (t : Fin cfg4.N) (d : (cfg4.win 1).block.Idx → Elt F (cfg4.win 1).elt) :
    (dat4 W c).before 1 t d = stg4 W c 1 t :=
  ((dat4 W c).before_in_eq_fetched 1 rfl (fun _ => rfl) (fun _ _ _ => rfl) (fun _ => rfl) t d).trans rfl

theorem before4_2 (c : Dev nD) (t : Fin cfg4.N) (d : (cfg4.win 2).block.Idx → Elt F (cfg4.win 2).elt) :
    (dat4 W c).before 2 t d = stg4 W c 2 t :=
  ((dat4 W c).before_in_eq_fetched 2 rfl (fun _ => rfl) (fun _ _ _ => rfl) (fun _ => rfl) t d).trans rfl

theorem before4_3 (c : Dev nD) (t : Fin cfg4.N) (d : (cfg4.win 3).block.Idx → Elt F (cfg4.win 3).elt) :
    (dat4 W c).before 3 t d = stg4 W c 3 t :=
  ((dat4 W c).before_in_eq_fetched 3 rfl (fun _ => rfl) (fun _ _ _ => rfl) (fun _ => rfl) t d).trans rfl

theorem before4_4 (c : Dev nD) (t : Fin cfg4.N) (d : (cfg4.win 4).block.Idx → Elt F (cfg4.win 4).elt) :
    (dat4 W c).before 4 t d = stg4 W c 4 t :=
  ((dat4 W c).before_in_eq_fetched 4 rfl (fun _ => rfl) (fun _ _ _ => rfl) (fun _ => rfl) t d).trans rfl

theorem before4_5 (c : Dev nD) (t : Fin cfg4.N) (d : (cfg4.win 5).block.Idx → Elt F (cfg4.win 5).elt) :
    (dat4 W c).before 5 t d = stg4 W c 5 t :=
  ((dat4 W c).before_in_eq_fetched 5 rfl (fun _ => rfl) (fun _ _ _ => rfl) (fun _ => rfl) t d).trans rfl

theorem before4_6 (c : Dev nD) (t : Fin cfg4.N) (d : (cfg4.win 6).block.Idx → Elt F (cfg4.win 6).elt) :
    (dat4 W c).before 6 t d = stg4 W c 6 t :=
  ((dat4 W c).before_in_eq_fetched 6 rfl (fun _ => rfl) (fun _ _ _ => rfl) (fun _ => rfl) t d).trans rfl

theorem before4_7 (c : Dev nD) (t : Fin cfg4.N) (d : (cfg4.win 7).block.Idx → Elt F (cfg4.win 7).elt) :
    (dat4 W c).before 7 t d = stg4 W c 7 t :=
  ((dat4 W c).before_in_eq_fetched 7 rfl (fun _ => rfl) (fun _ _ _ => rfl) (fun _ => rfl) t d).trans rfl

theorem before4_8 (c : Dev nD) (t : Fin cfg4.N) (d : (cfg4.win 8).block.Idx → Elt F (cfg4.win 8).elt) :
    (dat4 W c).before 8 t d = stg4 W c 8 t :=
  ((dat4 W c).before_in_eq_fetched 8 rfl (fun _ => rfl) (fun _ _ _ => rfl) (fun _ => rfl) t d).trans rfl

theorem before4_9 (c : Dev nD) (t : Fin cfg4.N) (d : (cfg4.win 9).block.Idx → Elt F (cfg4.win 9).elt) :
    (dat4 W c).before 9 t d = stg4 W c 9 t :=
  ((dat4 W c).before_in_eq_fetched 9 rfl (fun _ => rfl) (fun _ _ _ => rfl) (fun _ => rfl) t d).trans rfl

theorem before4_10 (c : Dev nD) (t : Fin cfg4.N) (d : (cfg4.win 10).block.Idx → Elt F (cfg4.win 10).elt) :
    (dat4 W c).before 10 t d = stg4 W c 10 t :=
  ((dat4 W c).before_in_eq_fetched 10 rfl (fun _ => rfl) (fun _ _ _ => rfl) (fun _ => rfl) t d).trans rfl

theorem before4_11 (c : Dev nD) (t : Fin cfg4.N) (d : (cfg4.win 11).block.Idx → Elt F (cfg4.win 11).elt) :
    (dat4 W c).before 11 t d = stg4 W c 11 t :=
  ((dat4 W c).before_in_eq_fetched 11 rfl (fun _ => rfl) (fun _ _ _ => rfl) (fun _ => rfl) t d).trans rfl

/-- A point of the dense grid leaves its operands and stores its block of logits. -/
theorem body_obligation4 (c : Dev nD) : BodyObligation (dat4 W c) (defs₀ (F := F)) 𝒱₀ (none : HIx 2) Set.univ := fun t => by
  rw [bigSep_W4, bigSep_W4]
  rw [show (dat4 W c).Φ t.succ = (dat4 W c).Φ t.castSucc from rfl,
    show (dat4 W c).owesAt (none : HIx 2) t.succ = (dat4 W c).owesAt (none : HIx 2) t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before4_0, before4_1, before4_2, before4_3, before4_4, before4_5, before4_6, before4_7, before4_8, before4_9, before4_10, before4_11]
  iapply (wp_wand frame (wpE (defs₀ (F := F)) 𝒱₀ (c : Thread nD τ) none) Set.univ (p := bodyAt4 t)) $$ [H0 H1 H2 H3 H4 H5 H6 H7 H8 H9 H10 H11 H12]
  · iapply (dense_owns (F := F) c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (win4_10.stage (cfg4.slots t 10)) (hstage4_10 ((cfg4.slots t 10).cast nbuf4_10)) (win4_11.stage (cfg4.slots t 11)) (hstage4_11 ((cfg4.slots t 11).cast nbuf4_11)) (win4_12.stage (cfg4.slots t 12)) (hstage4_12 ((cfg4.slots t 12).cast nbuf4_12))
      (stg4 W c 0 t) (stg4 W c 1 t) (stg4 W c 2 t) (stg4 W c 3 t) (stg4 W c 4 t) (stg4 W c 5 t) (stg4 W c 6 t) (stg4 W c 7 t) (stg4 W c 8 t) (stg4 W c 9 t) (stg4 W c 10 t) (stg4 W c 11 t) _) $$ [H0 H1 H2 H3 H4 H5 H6 H7 H8 H9 H10 H11 H12]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro %u ⟨H0, H1, H2, H3, H4, H5, H6, H7, H8, H9, H10, H11, H12⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Proof

end
-- ==== Proof.Host.lean ====
/-
  @main's host operations as lists, and the buffers' contents between its pieces: `VA` … `VJ`, one after the other.
-/
module

public import proofs.«01_k».proof.Proof.Shares
public import proofs.«01_k».proof.Proof.Entry
public import proofs.«01_k».proof.Proof.Grids
public import proofs.«01_k».proof.Proof.DenseBody
public import Idealize.ShloMosaic.Lib.Pipeline.FrameTail

@[expose] public section

set_option maxRecDepth 16384

noncomputable section

namespace Cert.Proof

open Cert.KernelIdeal Cert.KernelIdeal.Gen
open Idealize.ShloMosaic Idealize.ShloMosaic.Pipeline
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-- The host operations before the first grid: the remapped indices, the flat row numbers of both calls, the tables transposed. -/
def opsA : List (HloOp τ sig (Elt F)) := [
  (StableHlo.nullary main_c (constantI S_ 32 98304#32)),
  (StableHlo.unary main_c main_v0 (broadcastInDim S16384x26 ![] bcast_S_S16384x26 : (⟨S_, .i32⟩ : BufTy).Contents (Elt F) → (⟨S16384x26, .i32⟩ : BufTy).Contents (Elt F))),
  (StableHlo.binary main_arg0 main_v0 main_v1 (cmpi .slt : (⟨S16384x26, .i32⟩ : BufTy).Contents (Elt F) → (⟨S16384x26, .i32⟩ : BufTy).Contents (Elt F) → (⟨S16384x26, .i1⟩ : BufTy).Contents (Elt F))),
  (StableHlo.nullary main_c_0 (constantI S_ 32 4294963200#32)),
  (StableHlo.unary main_c_0 main_v2 (broadcastInDim S16384x26 ![] bcast_S_S16384x26 : (⟨S_, .i32⟩ : BufTy).Contents (Elt F) → (⟨S16384x26, .i32⟩ : BufTy).Contents (Elt F))),
  (StableHlo.binary main_arg0 main_v2 main_v3 (andi : (⟨S16384x26, .i32⟩ : BufTy).Contents (Elt F) → (⟨S16384x26, .i32⟩ : BufTy).Contents (Elt F) → (⟨S16384x26, .i32⟩ : BufTy).Contents (Elt F))),
  (StableHlo.nullary main_c_1 (constantI S_ 32 511#32)),
  (StableHlo.unary main_c_1 main_v4 (broadcastInDim S16384x26 ![] bcast_S_S16384x26 : (⟨S_, .i32⟩ : BufTy).Contents (Elt F) → (⟨S16384x26, .i32⟩ : BufTy).Contents (Elt F))),
  (StableHlo.binary main_arg0 main_v4 main_v5 (andi : (⟨S16384x26, .i32⟩ : BufTy).Contents (Elt F) → (⟨S16384x26, .i32⟩ : BufTy).Contents (Elt F) → (⟨S16384x26, .i32⟩ : BufTy).Contents (Elt F))),
  (StableHlo.nullary main_c_2 (constantI S_ 32 3#32)),
  (StableHlo.unary main_c_2 main_v6 (broadcastInDim S16384x26 ![] bcast_S_S16384x26 : (⟨S_, .i32⟩ : BufTy).Contents (Elt F) → (⟨S16384x26, .i32⟩ : BufTy).Contents (Elt F))),
  (StableHlo.binary main_v5 main_v6 main_v7 (Host.shli : (⟨S16384x26, .i32⟩ : BufTy).Contents (Elt F) → (⟨S16384x26, .i32⟩ : BufTy).Contents (Elt F) → (⟨S16384x26, .i32⟩ : BufTy).Contents (Elt F))),
  (StableHlo.binary main_v3 main_v7 main_v8 (ori : (⟨S16384x26, .i32⟩ : BufTy).Contents (Elt F) → (⟨S16384x26, .i32⟩ : BufTy).Contents (Elt F) → (⟨S16384x26, .i32⟩ : BufTy).Contents (Elt F))),
  (StableHlo.nullary main_c_3 (constantI S_ 32 9#32)),
  (StableHlo.unary main_c_3 main_v9 (broadcastInDim S16384x26 ![] bcast_S_S16384x26 : (⟨S_, .i32⟩ : BufTy).Contents (Elt F) → (⟨S16384x26, .i32⟩ : BufTy).Contents (Elt F))),
  (StableHlo.binary main_arg0 main_v9 main_v10 (Host.shrsi : (⟨S16384x26, .i32⟩ : BufTy).Contents (Elt F) → (⟨S16384x26, .i32⟩ : BufTy).Contents (Elt F) → (⟨S16384x26, .i32⟩ : BufTy).Contents (Elt F))),
  (StableHlo.nullary main_c_4 (constantI S_ 32 7#32)),
  (StableHlo.unary main_c_4 main_v11 (broadcastInDim S16384x26 ![] bcast_S_S16384x26 : (⟨S_, .i32⟩ : BufTy).Contents (Elt F) → (⟨S16384x26, .i32⟩ : BufTy).Contents (Elt F))),
  (StableHlo.binary main_v10 main_v11 main_v12 (andi : (⟨S16384x26, .i32⟩ : BufTy).Contents (Elt F) → (⟨S16384x26, .i32⟩ : BufTy).Contents (Elt F) → (⟨S16384x26, .i32⟩ : BufTy).Contents (Elt F))),
  (StableHlo.binary main_v8 main_v12 main_v13 (ori : (⟨S16384x26, .i32⟩ : BufTy).Contents (Elt F) → (⟨S16384x26, .i32⟩ : BufTy).Contents (Elt F) → (⟨S16384x26, .i32⟩ : BufTy).Contents (Elt F))),
  (StableHlo.TRef.ternary (.of main_v1 : StableHlo.TRef sig ⟨S16384x26, .i1⟩) (.of main_v13 : StableHlo.TRef sig ⟨S16384x26, .i32⟩) (.of main_arg0 : StableHlo.TRef sig ⟨S16384x26, .i32⟩) (.of main_v14 : StableHlo.TRef sig ⟨S16384x26, .i32⟩) select),
  (StableHlo.nullary main_v15 (iotaInDim S26 32 0)),
  (StableHlo.nullary main_c_5 (constantI S_ 32 100000#32)),
  (StableHlo.unary main_c_5 main_v16 (broadcastInDim S26 ![] bcast_S_S26 : (⟨S_, .i32⟩ : BufTy).Contents (Elt F) → (⟨S26, .i32⟩ : BufTy).Contents (Elt F))),
  (StableHlo.binary main_v15 main_v16 main_v17 (muli : (⟨S26, .i32⟩ : BufTy).Contents (Elt F) → (⟨S26, .i32⟩ : BufTy).Contents (Elt F) → (⟨S26, .i32⟩ : BufTy).Contents (Elt F))),
  (StableHlo.unary main_v17 main_v18 (broadcastInDim S1x26 ![1] bcast_S26_S1x26_1 : (⟨S26, .i32⟩ : BufTy).Contents (Elt F) → (⟨S1x26, .i32⟩ : BufTy).Contents (Elt F))),
  (StableHlo.unary main_v14 main_v19 ((extractStridedSlice S16384x14 ![0, 0] · slices_S16384x26_S16384x14_0_0) : (⟨S16384x26, .i32⟩ : BufTy).Contents (Elt F) → (⟨S16384x14, .i32⟩ : BufTy).Contents (Elt F))),
  (StableHlo.unary main_v18 main_v20 ((extractStridedSlice S1x14 ![0, 0] · slices_S1x26_S1x14_0_0) : (⟨S1x26, .i32⟩ : BufTy).Contents (Elt F) → (⟨S1x14, .i32⟩ : BufTy).Contents (Elt F))),
  (StableHlo.unary main_v20 main_v21 (broadcastInDim S16384x14 ![0, 1] bcast_S1x14_S16384x14_0_1 : (⟨S1x14, .i32⟩ : BufTy).Contents (Elt F) → (⟨S16384x14, .i32⟩ : BufTy).Contents (Elt F))),
  (StableHlo.binary main_v19 main_v21 main_v22 (addi : (⟨S16384x14, .i32⟩ : BufTy).Contents (Elt F) → (⟨S16384x14, .i32⟩ : BufTy).Contents (Elt F) → (⟨S16384x14, .i32⟩ : BufTy).Contents (Elt F))),
  (StableHlo.reshape main_v22 main_v23 (rfl : (.i32 : EltTy) = .i32) shapeCasts_S16384x14_S229376),
  (StableHlo.unary main_v14 main_v24 ((extractStridedSlice S16384x12 ![0, 14] · slices_S16384x26_S16384x12_0_14) : (⟨S16384x26, .i32⟩ : BufTy).Contents (Elt F) → (⟨S16384x12, .i32⟩ : BufTy).Contents (Elt F))),
  (StableHlo.unary main_v18 main_v25 ((extractStridedSlice S1x12 ![0, 0] · slices_S1x26_S1x12_0_0) : (⟨S1x26, .i32⟩ : BufTy).Contents (Elt F) → (⟨S1x12, .i32⟩ : BufTy).Contents (Elt F))),
  (StableHlo.unary main_v25 main_v26 (broadcastInDim S16384x12 ![0, 1] bcast_S1x12_S16384x12_0_1 : (⟨S1x12, .i32⟩ : BufTy).Contents (Elt F) → (⟨S16384x12, .i32⟩ : BufTy).Contents (Elt F))),
  (StableHlo.binary main_v24 main_v26 main_v27 (addi : (⟨S16384x12, .i32⟩ : BufTy).Contents (Elt F) → (⟨S16384x12, .i32⟩ : BufTy).Contents (Elt F) → (⟨S16384x12, .i32⟩ : BufTy).Contents (Elt F))),
  (StableHlo.reshape main_v27 main_v28 (rfl : (.i32 : EltTy) = .i32) shapeCasts_S16384x12_S196608),
  (StableHlo.unary main_arg1 main_v29 ((transpose S26x16x100000 [0, 2, 1] · transposes_S26x100000x16_S26x16x100000_0_2_1) : (⟨S26x100000x16, .f32⟩ : BufTy).Contents (Elt F) → (⟨S26x16x100000, .f32⟩ : BufTy).Contents (Elt F)))]

/-- What they write. -/
def opsAW : List (Ref sig .tc) := [main_c, main_v0, main_v1, main_c_0, main_v2, main_v3, main_c_1, main_v4, main_v5, main_c_2, main_v6, main_v7, main_v8, main_c_3, main_v9, main_v10, main_c_4, main_v11, main_v12, main_v13, main_v14, main_v15, main_c_5, main_v16, main_v17, main_v18, main_v19, main_v20, main_v21, main_v22, main_v23, main_v24, main_v25, main_v26, main_v27, main_v28, main_v29]

/-- Between the grids: the first formatted table as rows. -/
def opsB : List (HloOp τ sig (Elt F)) := [
  (StableHlo.reshape main_v30 main_v31 (rfl : (.f32 : EltTy) = .f32) shapeCasts_S7x25000x128_S1400000x16)]

/-- What they write. -/
def opsBW : List (Ref sig .tc) := [main_v31]

/-- Between the second grid and the first call: the second table as rows, the first call's row numbers. -/
def opsC : List (HloOp τ sig (Elt F)) := [
  (StableHlo.reshape main_v32 main_v33 (rfl : (.f32 : EltTy) = .f32) shapeCasts_S6x25000x128_S1200000x16),
  (StableHlo.reshape main_v23 main_v34 (rfl : (.i32 : EltTy) = .i32) shapeCasts_S229376_S1x229376)]

/-- What they write. -/
def opsCW : List (Ref sig .tc) := [main_v33, main_v34]

/-- Between the calls: the second call's row numbers. -/
def opsD : List (HloOp τ sig (Elt F)) := [
  (StableHlo.reshape main_v28 main_v36 (rfl : (.i32 : EltTy) = .i32) shapeCasts_S196608_S1x196608)]

/-- What they write. -/
def opsDW : List (Ref sig .tc) := [main_v36]

/-- Before the dense grid: the gathered rows by batch element, the biases as rows. -/
def opsE : List (HloOp τ sig (Elt F)) := [
  (StableHlo.reshape main_v35 main_v38 (rfl : (.f32 : EltTy) = .f32) shapeCasts_S229376x16_S16384x224),
  (StableHlo.reshape main_v37 main_v39 (rfl : (.f32 : EltTy) = .f32) shapeCasts_S196608x16_S16384x192),
  (StableHlo.reshape main_arg5 main_v40 (rfl : (.f32 : EltTy) = .f32) shapeCasts_S256_S1x256),
  (StableHlo.reshape main_arg7 main_v41 (rfl : (.f32 : EltTy) = .f32) shapeCasts_S128_S1x128),
  (StableHlo.reshape main_arg9 main_v42 (rfl : (.f32 : EltTy) = .f32) shapeCasts_S64_S1x64),
  (StableHlo.reshape main_arg11 main_v43 (rfl : (.f32 : EltTy) = .f32) shapeCasts_S1_S1x1)]

/-- What they write. -/
def opsEW : List (Ref sig .tc) := [main_v38, main_v39, main_v40, main_v41, main_v42, main_v43]

/-- A grid's call, as @main makes it. -/
abbrev call (p : Fin 3) : Prog (TpuEff nD τ sig (Elt F) (SparseCore.Sig (ΛP (F := F)) 2) .tc) PUnit :=
  Prog.lift (.customCall (SparseCore.inner (Pipeline.entry p)) ())

/-- @main: lines of host operations, the grids and the calls between them. -/
theorem main_eq (d : Dev nD) : main (F := F) d =
    (StableHlo.seq opsA >>= fun _ => call 0 >>= fun _ => StableHlo.seq opsB >>= fun _ => call 1 >>= fun _ =>
      StableHlo.seq opsC >>= fun _ => (K (F := F)).run d 0 >>= fun _ => StableHlo.seq opsD >>= fun _ => (K (F := F)).run d 1 >>= fun _ =>
      StableHlo.seq opsE >>= fun _ => call 2 >>= fun _ => pure ⟨⟩) := by
  simp only [StableHlo.seq_bind_seqK]
  rfl

section
variable (m : (ℓ : Loc nD τ sig) → Buf (Elt F) ℓ)

/-- The buffers at the launch, and after each piece of @main up to the first call. -/
def V0 (d : Dev nD) : Valuation τ sig (Elt F) := fun b => m (d, b)
def VA (d : Dev nD) : Valuation τ sig (Elt F) := StableHlo.after opsA (V0 m d)
def VB (d : Dev nD) : Valuation τ sig (Elt F) := afterRegion (dat0 (VA m) d) (VA m d)
def VC (d : Dev nD) : Valuation τ sig (Elt F) := StableHlo.after opsB (VB m d)
def VD (d : Dev nD) : Valuation τ sig (Elt F) := afterRegion (dat1 (VC m) d) (VC m d)
def VE (d : Dev nD) : Valuation τ sig (Elt F) := StableHlo.after opsC (VD m d)

/-- The calls' tables and row numbers. -/
def arrs : Arrs F where
  tA d := VE m d (Proc.devRef .tc main_v31)
  iA d := VE m d (Proc.devRef .tc main_v34)
  tB d := VE m d (Proc.devRef .tc main_v33)
  iB d := StableHlo.after opsD (VE m d) (Proc.devRef .tc main_v36)

/-- The buffers after the first call, and so on to the end. -/
def VF (d : Dev nD) : Valuation τ sig (Elt F) := Function.update (VE m d) (Proc.devRef .tc main_v35) ((arrs m).gA d)
def VG (d : Dev nD) : Valuation τ sig (Elt F) := StableHlo.after opsD (VF m d)
def VH (d : Dev nD) : Valuation τ sig (Elt F) := Function.update (VG m d) (Proc.devRef .tc main_v37) ((arrs m).gB d)
def VI (d : Dev nD) : Valuation τ sig (Elt F) := StableHlo.after opsE (VH m d)
def VJ (d : Dev nD) : Valuation τ sig (Elt F) := afterRegion (dat4 (VI m) d) (VI m d)

/-- Each grid's data, from the buffers it finds. -/
def pdats : (p : Fin 3) → (c : Dev nD) → Dat τ (Elt F) (HIx 2) ℕ UU ℕ (pin (pcfgs (F := F)) adm p) c
  | 0 => dat0 (VA m)
  | 1 => dat1 (VC m)
  | 2 => dat4 (VI m)

end

theorem opsA_writes : (opsA (F := F)).Forall fun op => op.writes ⊆ (opsAW.map (Proc.devRef (τ := τ) .tc)).toFinset :=
  StableHlo.forall_writes_sub_of_map rfl
theorem opsB_writes : (opsB (F := F)).Forall fun op => op.writes ⊆ (opsBW.map (Proc.devRef (τ := τ) .tc)).toFinset :=
  StableHlo.forall_writes_sub_of_map rfl
theorem opsC_writes : (opsC (F := F)).Forall fun op => op.writes ⊆ (opsCW.map (Proc.devRef (τ := τ) .tc)).toFinset :=
  StableHlo.forall_writes_sub_of_map rfl
theorem opsD_writes : (opsD (F := F)).Forall fun op => op.writes ⊆ (opsDW.map (Proc.devRef (τ := τ) .tc)).toFinset :=
  StableHlo.forall_writes_sub_of_map rfl
theorem opsE_writes : (opsE (F := F)).Forall fun op => op.writes ⊆ (opsEW.map (Proc.devRef (τ := τ) .tc)).toFinset :=
  StableHlo.forall_writes_sub_of_map rfl

end Cert.Proof

end
-- ==== Proof.Main.lean ====
/-
  @main on the TensorCore, from the launch memory to the last grid's result; the whole program's run.
-/
module

public import proofs.«01_k».proof.Proof.Host
public import Idealize.ShloMosaic.Lib.Pipeline.FrameTail

@[expose] public section

set_option maxRecDepth 16384

noncomputable section

namespace Cert.Proof

open Cert.KernelIdeal Cert.KernelIdeal.Gen
open Idealize.ShloMosaic Idealize.ShloMosaic.Pipeline
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

/-! ## The host operations' buffers -/

theorem opsA_sub : ∀ op ∈ opsA (F := F), op.bufs ⊆ StableHlo.tcRefs τ sig := by
  simp only [opsA, List.forall_mem_cons, StableHlo.nullary_bufs_sub, StableHlo.unary_bufs_sub, StableHlo.binary_bufs_sub,
    StableHlo.ternary_bufs_sub, StableHlo.reshape_bufs_sub, List.not_mem_nil, false_imp_iff, implies_true, _root_.and_self]
theorem opsB_sub : ∀ op ∈ opsB (F := F), op.bufs ⊆ StableHlo.tcRefs τ sig := by
  simp only [opsB, List.forall_mem_cons, StableHlo.reshape_bufs_sub, List.not_mem_nil, false_imp_iff, implies_true, _root_.and_self]
theorem opsC_sub : ∀ op ∈ opsC (F := F), op.bufs ⊆ StableHlo.tcRefs τ sig := by
  simp only [opsC, List.forall_mem_cons, StableHlo.reshape_bufs_sub, List.not_mem_nil, false_imp_iff, implies_true, _root_.and_self]
theorem opsD_sub : ∀ op ∈ opsD (F := F), op.bufs ⊆ StableHlo.tcRefs τ sig := by
  simp only [opsD, List.forall_mem_cons, StableHlo.reshape_bufs_sub, List.not_mem_nil, false_imp_iff, implies_true, _root_.and_self]
theorem opsE_sub : ∀ op ∈ opsE (F := F), op.bufs ⊆ StableHlo.tcRefs τ sig := by
  simp only [opsE, List.forall_mem_cons, StableHlo.reshape_bufs_sub, List.not_mem_nil, false_imp_iff, implies_true, _root_.and_self]

/-- A line of host operations writes every result whole: it reads nothing it was not handed. -/
theorem fresh_of {ops : List (HloOp τ sig (Elt F))} (h : ops.map HloOp.fresh = ops.map fun _ => (∅ : Finset (DevRef τ sig))) :
    ∀ op ∈ ops, op.fresh = ∅ := List.forall_iff_forall_mem.mp (StableHlo.forall_fresh_of_map h)

/-- A line of host operations at the head of the rest, run. -/
theorem line_wp (d : Dev nD) (n : ℕ) (W : Valuation τ sig (Elt F)) (ops : List (HloOp τ sig (Elt F)))
    (hs : ∀ op ∈ ops, op.bufs ⊆ StableHlo.tcRefs τ sig) (hf : ∀ op ∈ ops, op.fresh = ∅)
    (k : PUnit → Prog (TpuEff nD τ sig (Elt F) (SparseCore.Sig (ΛP (F := F)) 2) .tc) PUnit) (Q : PUnit → sProp 𝕄) :
    iprop(between d n W ∗ (between d n (StableHlo.after ops W) -∗ wp frame (wpE ((K (F := F)).defs D) 𝒱 (SparseCore.T d) none) Set.univ (k ⟨⟩) Q))
      ⊢ wp frame (wpE ((K (F := F)).defs D) 𝒱 (SparseCore.T d) none) Set.univ (StableHlo.seq ops >>= k) Q := by
  have h := StableHlo.wp_seq (defs := (K (F := F)).defs D) 𝒱 none Set.univ d (ucRefs τ sig) k (K := Q) ops
    (fun op ho => Pipeline.sub_ucRefs op (hs op ho)) hf W
  unfold between
  iintro ⟨⟨Hb, Hh, Hd, Hr⟩, Hk⟩
  iapply h $$ [Hb Hh]
  · isplitl [Hb]; · iexact Hb
    iexact Hh
  iintro ⟨Hb, Hh⟩
  iapply Hk
  isplitl [Hb]; · iexact Hb
  isplitl [Hh]; · iexact Hh
  isplitl [Hd]; · iexact Hd
  iexact Hr

/-! ## The calls -/

/-- The TensorCore's place before call `n` besides its dues. -/
def place (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((SparseCore.Cfg.Blocks.one 2).last q)) 1)))

theorem tcSt_eq (d : Dev nD) (n : ℕ) : ((K (F := F)).tcSt EH d n : sProp 𝕄) = iprop(dues d n ∗ place d n) := rfl

theorem held_three (d : Dev nD) (W : Valuation τ sig (Elt F)) {a b c : Ref sig .tc} (hab : a ≠ b) (hac : a ≠ c) (hbc : b ≠ c)
    (ha : a.isScoped = false) (hb : b.isScoped = false) (hc : c.isScoped = false) :
    (StableHlo.held (SparseCore.T d) (ucRefs τ sig) W : sProp 𝕄)
      = iprop(((SparseCore.T d).loc a ↦{fullShare} W (Proc.devRef .tc a)) ∗ ((SparseCore.T d).loc b ↦{fullShare} W (Proc.devRef .tc b))
        ∗ ((SparseCore.T d).loc c ↦{fullShare} W (Proc.devRef .tc c))
        ∗ StableHlo.held (SparseCore.T d) ((((ucRefs τ sig).erase (Proc.devRef .tc a)).erase (Proc.devRef .tc b)).erase (Proc.devRef .tc c)) W) := by
  unfold StableHlo.held
  rw [SparseCore.bigSep_erase' (Pipeline.devRef_mem_ucRefs ha),
    SparseCore.bigSep_erase' (Finset.mem_erase.mpr ⟨StableHlo.devRef_ne_of_ne hab.symm, Pipeline.devRef_mem_ucRefs hb⟩),
    SparseCore.bigSep_erase' (Finset.mem_erase.mpr ⟨StableHlo.devRef_ne_of_ne hbc.symm, Finset.mem_erase.mpr
      ⟨StableHlo.devRef_ne_of_ne hac.symm, Pipeline.devRef_mem_ucRefs hc⟩⟩)]

/-- One buffer of three changed. -/
theorem held_update (d : Dev nD) (W : Valuation τ sig (Elt F)) {a b c : Ref sig .tc} (hab : a ≠ b) (hac : a ≠ c) (hbc : b ≠ c)
    (ha : a.isScoped = false) (hb : b.isScoped = false) (hc : c.isScoped = false) (v : (Proc.devRef (τ := τ) .tc c).ty.Contents (Elt F)) :
    iprop(((SparseCore.T d).loc a ↦{fullShare} W (Proc.devRef .tc a)) ∗ ((SparseCore.T d).loc b ↦{fullShare} W (Proc.devRef .tc b))
        ∗ ((SparseCore.T d).loc c ↦{fullShare} v)
        ∗ StableHlo.held (SparseCore.T d) ((((ucRefs τ sig).erase (Proc.devRef .tc a)).erase (Proc.devRef .tc b)).erase (Proc.devRef .tc c)) W)
      ⊢ (StableHlo.held (SparseCore.T d) (ucRefs τ sig) (Function.update W (Proc.devRef .tc c) v) : sProp 𝕄) := by
  rw [held_three d (Function.update W (Proc.devRef .tc c) v) hab hac hbc ha hb hc,
    Function.update_of_ne (StableHlo.devRef_ne_of_ne hac), Function.update_of_ne (StableHlo.devRef_ne_of_ne hbc), Function.update_self,
    StableHlo.held_congr (SparseCore.T d) (V := Function.update W (Proc.devRef .tc c) v) (V' := W) fun x hx =>
      Function.update_of_ne (Finset.mem_erase.mp hx).1 _ _]

theorem call0_wp (A : Arrs F) (κ : GSem nD τ sig → ℕ) (d : Dev nD) (W : Valuation τ sig (Elt F))
    (ht : A.tA d = W (Proc.devRef .tc main_v31)) (hi : A.iA d = W (Proc.devRef .tc main_v34)) (Q : PUnit → sProp 𝕄) :
    iprop((K (F := F)).ctx EH A.P κ ∗ (between d 0 W ∗ place d 0)
      ∗ ((between d 1 (Function.update W (Proc.devRef .tc main_v35) (A.gA d)) ∗ place d 1) -∗ Q ⟨⟩))
      ⊢ wp frame (wpE ((K (F := F)).defs D) 𝒱 (SparseCore.T d) none) Set.univ ((K (F := F)).run d 0) Q := by
  have hs := A.start2 d
  have hst0 : iprop(dues d 0 ∗ place d 0) ⊢ ((K (F := F)).tcSt EH d (0 : Fin 2).val : sProp 𝕄) := Entails.of_eq (tcSt_eq d 0).symm
  have hst : ((K (F := F)).tcSt EH d ((0 : Fin 2).val + 1) : sProp 𝕄) ⊢ iprop(dues d 1 ∗ place d 1) := Entails.of_eq (tcSt_eq d 1)
  have hf := A.finish2 d
  have hu := held_update d W (a := main_v31) (b := main_v34) (c := main_v35) (by decide) (by decide) (by decide) rfl rfl rfl (A.gA d)
  rw [ht, hi] at hs hf
  unfold between
  rw [held_three d W (a := main_v31) (b := main_v34) (c := main_v35) (by decide) (by decide) (by decide) rfl rfl rfl]
  iintro ⟨#Hctx, ⟨⟨Hb, ⟨Ht, Hi, Ho, Hrest⟩, Hd, Hr⟩, Hp⟩, Hk⟩
  iapply ((K (F := F)).wp_run D 𝒱 (EH := EH) (P := A.P) κ d 0)
  isplitr; · iexact Hctx
  isplitl [Hd Hp]
  · iapply hst0
    isplitl [Hd]; · iexact Hd
    iexact Hp
  isplitl [Ht Hi Ho]
  · iapply hs
    isplitl [Ht]; · iexact Ht
    isplitl [Hi]; · iexact Hi
    iexists _; iexact Ho
  iintro ⟨Hst, Hdn⟩
  ihave Hdn := hf $$ Hdn
  icases Hdn with ⟨Ht, Hi, Ho⟩
  ihave Hst := hst $$ Hst
  icases Hst with ⟨Hd, Hp⟩
  iapply Hk
  isplitr [Hp]
  · isplitl [Hb]; · iexact Hb
    isplitl [Ht Hi Ho Hrest]
    · iapply hu
      isplitl [Ht]; · iexact Ht
      isplitl [Hi]; · iexact Hi
      isplitl [Ho]; · iexact Ho
      iexact Hrest
    isplitl [Hd]; · iexact Hd
    iexact Hr
  iexact Hp

theorem call1_wp (A : Arrs F) (κ : GSem nD τ sig → ℕ) (d : Dev nD) (W : Valuation τ sig (Elt F))
    (ht : A.tB d = W (Proc.devRef .tc main_v33)) (hi : A.iB d = W (Proc.devRef .tc main_v36)) (Q : PUnit → sProp 𝕄) :
    iprop((K (F := F)).ctx EH A.P κ ∗ (between d 1 W ∗ place d 1)
      ∗ ((between d 2 (Function.update W (Proc.devRef .tc main_v37) (A.gB d)) ∗ place d 2) -∗ Q ⟨⟩))
      ⊢ wp frame (wpE ((K (F := F)).defs D) 𝒱 (SparseCore.T d) none) Set.univ ((K (F := F)).run d 1) Q := by
  have hs := A.start3 d
  have hst0 : iprop(dues d 1 ∗ place d 1) ⊢ ((K (F := F)).tcSt EH d (1 : Fin 2).val : sProp 𝕄) := Entails.of_eq (tcSt_eq d 1).symm
  have hst : ((K (F := F)).tcSt EH d ((1 : Fin 2).val + 1) : sProp 𝕄) ⊢ iprop(dues d 2 ∗ place d 2) := Entails.of_eq (tcSt_eq d 2)
  have hf := A.finish3 d
  have hu := held_update d W (a := main_v33) (b := main_v36) (c := main_v37) (by decide) (by decide) (by decide) rfl rfl rfl (A.gB d)
  rw [ht, hi] at hs hf
  unfold between
  rw [held_three d W (a := main_v33) (b := main_v36) (c := main_v37) (by decide) (by decide) (by decide) rfl rfl rfl]
  iintro ⟨#Hctx, ⟨⟨Hb, ⟨Ht, Hi, Ho, Hrest⟩, Hd, Hr⟩, Hp⟩, Hk⟩
  iapply ((K (F := F)).wp_run D 𝒱 (EH := EH) (P := A.P) κ d 1)
  isplitr; · iexact Hctx
  isplitl [Hd Hp]
  · iapply hst0
    isplitl [Hd]; · iexact Hd
    iexact Hp
  isplitl [Ht Hi Ho]
  · iapply hs
    isplitl [Ht]; · iexact Ht
    isplitl [Hi]; · iexact Hi
    iexists _; iexact Ho
  iintro ⟨Hst, Hdn⟩
  ihave Hdn := hf $$ Hdn
  icases Hdn with ⟨Ht, Hi, Ho⟩
  ihave Hst := hst $$ Hst
  icases Hst with ⟨Hd, Hp⟩
  iapply Hk
  isplitr [Hp]
  · isplitl [Hb]; · iexact Hb
    isplitl [Ht Hi Ho Hrest]
    · iapply hu
      isplitl [Ht]; · iexact Ht
      isplitl [Hi]; · iexact Hi
      isplitl [Ho]; · iexact Ho
      iexact Hrest
    isplitl [Hd]; · iexact Hd
    iexact Hr
  iexact Hp

/-! ## @main -/

section
variable (m : (ℓ : Loc nD τ sig) → Buf (Elt F) ℓ) (ρ : Dev nD → PrngReg)

theorem unscopedBufs_at (d : Dev nD) (W : Valuation τ sig (Elt F)) :
    (unscopedBufs d (fun b => W (Proc.devRef .tc b)) : sProp 𝕄) = StableHlo.held (SparseCore.T d) (ucRefs τ sig) W := by
  unfold unscopedBufs StableHlo.held ucRefs StableHlo.tcRefs
  rw [Finset.filter_map, bigSep_map]
  rfl

/-- The grids' ghost state on device `d`. -/
abbrev GG (d : Dev nD) : sProp 𝕄 := iprop(gridGhost (F := F) d 0 ∗ gridGhost d 1 ∗ gridGhost d 2)

/-- What @main leaves: every unscoped buffer at the last contents. -/
abbrev FIN (d : Dev nD) : sProp 𝕄 := StableHlo.held (SparseCore.T d) (ucRefs τ sig) (VJ m d)

theorem grid0_wp (d : Dev nD) : iprop(levAts (K (F := F)).L (K (F := F)).lev ∗ between d 0 (VA m d) ∗ gridGhost d 0)
    ⊢ wp frame (wpE ((K (F := F)).defs D) 𝒱 (SparseCore.T d) none) Set.univ (call 0) (fun _ => between (F := F) d 0 (VB m d)) :=
  entry_main (pdats m) 0 0 launch0.toP (fun c => (body_obligation0 (VA m) c).loose) (fun _ _ => rfl) (fun _ _ => rfl)
    (fun c w => Dat.share_full _ (fun _ => rfl) w) (fun _ _ => rfl) (VA m) (fun _ _ => rfl) d

theorem grid1_wp (d : Dev nD) : iprop(levAts (K (F := F)).L (K (F := F)).lev ∗ between d 0 (VC m d) ∗ gridGhost d 1)
    ⊢ wp frame (wpE ((K (F := F)).defs D) 𝒱 (SparseCore.T d) none) Set.univ (call 1) (fun _ => between (F := F) d 0 (VD m d)) :=
  entry_main (pdats m) 1 0 launch1.toP (fun c => (body_obligation1 (VC m) c (grid0.coords ⟨0, by decide +kernel⟩)).loose) (fun _ _ => rfl) (fun _ _ => rfl)
    (fun c w => Dat.share_full _ (fun _ => rfl) w) (fun _ _ => rfl) (VC m) (fun _ _ => rfl) d

theorem grid4_wp (d : Dev nD) : iprop(levAts (K (F := F)).L (K (F := F)).lev ∗ between d 2 (VI m d) ∗ gridGhost d 2)
    ⊢ wp frame (wpE ((K (F := F)).defs D) 𝒱 (SparseCore.T d) none) Set.univ (call 2) (fun _ => between (F := F) d 2 (VJ m d)) :=
  entry_main (pdats m) 2 2 launch4.toP (fun c => (body_obligation4 (VI m) c).loose) (fun _ _ => rfl) (fun _ _ => rfl)
    (fun c w => Dat.share_full _ (fun _ => rfl) w) (fun _ _ => rfl) (VI m) (fun _ _ => rfl) d

/-- The second call finds the table and the row numbers it was promised. -/
theorem tB_at (d : Dev nD) : (arrs m).tB d = VG m d (Proc.devRef .tc main_v33) := by
  show VE m d _ = _
  unfold VG opsD
  after_results
  unfold VF
  rw [Function.update_of_ne (StableHlo.devRef_ne_of_ne (by decide))]
theorem iB_at (d : Dev nD) : (arrs m).iB d = VG m d (Proc.devRef .tc main_v36) := by
  show StableHlo.after opsD (VE m d) _ = _
  unfold VG opsD
  after_results
  unfold VF
  rw [Function.update_of_ne (StableHlo.devRef_ne_of_ne (by decide))]

set_option maxHeartbeats 1000000 in
/-- @main on device `d`'s TensorCore, from the launch memory to the last contents. -/
theorem hmain (κ : GSem nD τ sig → ℕ) (d : Dev nD) :
    iprop((K (F := F)).ctx EH (arrs m).P κ ∗ (K (F := F)).tcSt EH d 0 ∗ (K (F := F)).tcRes m ρ d ∗ GG (F := F) d)
      ⊢ wp frame (wpE ((K (F := F)).defs D) 𝒱 (SparseCore.T d) none) Set.univ (main d)
          fun _ => iprop((K (F := F)).tcSt EH d 2 ∗ FIN m d ∗ (K (F := F)).tcEnd d) := by
  rw [main_eq]
  have hbt : iprop((K (F := F)).tcSt EH d 0 ∗ (K (F := F)).tcRes m ρ d)
      ⊢ iprop(between d 0 (V0 m d) ∗ place (F := F) d 0 ∗ (K (F := F)).tcSems0 d) := by
    unfold SparseCore.Cfg.tcRes
    rw [show (unscopedBufs d (fun b => m ((SparseCore.T d).loc b)) : sProp 𝕄) = StableHlo.held (SparseCore.T d) (ucRefs τ sig) (V0 m d)
      from unscopedBufs_at d (V0 m d), tcSt_eq]
    unfold between
    iintro ⟨⟨Hd, Hp⟩, Hb, Hh, Hs, Hr⟩
    isplitr [Hp Hs]
    · isplitl [Hb]; · iexact Hb
      isplitl [Hh]; · iexact Hh
      isplitl [Hd]; · iexact Hd
      iexists _; iexact Hr
    isplitl [Hp]; · iexact Hp
    iexact Hs
  have hend : iprop(between d 2 (VJ m d) ∗ place (F := F) d 2 ∗ (K (F := F)).tcSems0 d)
      ⊢ iprop((K (F := F)).tcSt EH d 2 ∗ FIN m d ∗ (K (F := F)).tcEnd d) := by
    unfold SparseCore.Cfg.tcEnd between
    rw [tcSt_eq]
    iintro ⟨⟨Hb, Hh, Hd, -⟩, Hp, Hs⟩
    isplitl [Hd Hp]
    · isplitl [Hd]; · iexact Hd
      iexact Hp
    isplitl [Hh]; · iexact Hh
    isplitl [Hb]; · iexact Hb
    iexact Hs
  have hlev := SparseCore.Cfg.ctx_levAts (K := K (F := F)) (EH := EH) (P := (arrs m).P) κ (lv := (K (F := F)).lev)
  iintro ⟨#Hctx, Hst, Hres, Hg0, Hg1, Hg2⟩
  ihave #Hlev := hlev $$ Hctx
  ihave H := hbt $$ [Hst Hres]
  · isplitl [Hst]; · iexact Hst
    iexact Hres
  icases H with ⟨Hbt, Hp, Hs⟩
  iapply (line_wp d 0 (V0 m d) opsA opsA_sub (fresh_of rfl))
  isplitl [Hbt]; · iexact Hbt
  iintro Hbt
  rw [wp_bind]
  iapply (wp_wand frame (wpE ((K (F := F)).defs D) 𝒱 (SparseCore.T d) none) Set.univ (p := call 0)) $$ [Hbt Hg0]
  · iapply (grid0_wp m d)
    isplitr; · iexact Hlev
    isplitl [Hbt]; · iexact Hbt
    iexact Hg0
  iintro %_ Hbt
  iapply (line_wp d 0 (VB m d) opsB opsB_sub (fresh_of rfl))
  isplitl [Hbt]; · iexact Hbt
  iintro Hbt
  rw [wp_bind]
  iapply (wp_wand frame (wpE ((K (F := F)).defs D) 𝒱 (SparseCore.T d) none) Set.univ (p := call 1)) $$ [Hbt Hg1]
  · iapply (grid1_wp m d)
    isplitr; · iexact Hlev
    isplitl [Hbt]; · iexact Hbt
    iexact Hg1
  iintro %_ Hbt
  iapply (line_wp d 0 (VD m d) opsC opsC_sub (fresh_of rfl))
  isplitl [Hbt]; · iexact Hbt
  iintro Hbt
  rw [wp_bind]
  iapply (call0_wp (arrs m) κ d (VE m d) rfl rfl)
  isplitr; · iexact Hctx
  isplitl [Hbt Hp]
  · isplitl [Hbt]; · iexact Hbt
    iexact Hp
  iintro ⟨Hbt, Hp⟩
  iapply (line_wp d 1 (VF m d) opsD opsD_sub (fresh_of rfl))
  isplitl [Hbt]; · iexact Hbt
  iintro Hbt
  rw [wp_bind]
  iapply (call1_wp (arrs m) κ d (VG m d) (tB_at m d) (iB_at m d))
  isplitr; · iexact Hctx
  isplitl [Hbt Hp]
  · isplitl [Hbt]; · iexact Hbt
    iexact Hp
  iintro ⟨Hbt, Hp⟩
  iapply (line_wp d 2 (VH m d) opsE opsE_sub (fresh_of rfl))
  isplitl [Hbt]; · iexact Hbt
  iintro Hbt
  rw [wp_bind]
  iapply (wp_wand frame (wpE ((K (F := F)).defs D) 𝒱 (SparseCore.T d) none) Set.univ (p := call 2)) $$ [Hbt Hg2]
  · iapply (grid4_wp m d)
    isplitr; · iexact Hlev
    isplitl [Hbt]; · iexact Hbt
    iexact Hg2
  iintro %_ Hbt
  rw [wp_pure]
  imodintro
  iapply hend
  isplitl [Hbt]; · iexact Hbt
  isplitl [Hp]; · iexact Hp
  iexact Hs

end

end Cert.Proof

end
-- ==== Proof.Run.lean ====
/-
  The whole program's run: every device ends at the contents @main leaves, every semaphore at zero.
-/
module

public import proofs.«01_k».proof.Proof.Main
public import Idealize.ShloMosaic.Lib.Pipeline.FrameTail

@[expose] public section

set_option maxRecDepth 16384

noncomputable section

namespace Cert.Proof

open Cert.KernelIdeal Cert.KernelIdeal.Gen
open Idealize.ShloMosaic Idealize.ShloMosaic.Pipeline
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MM F

section
variable (m : (ℓ : Loc nD τ sig) → Buf (Elt F) ℓ) (ρ : Dev nD → PrngReg)

/-- The staging cells of the three grids are distinct. -/
theorem pin_inj : Function.Injective (Pipeline.cellOf (nD := nD) (τ := τ) (pin (pcfgs (F := F)) adm)) := cellOf_inj

/-- The calls' share of the launch's ghost state, -/
abbrev uH : UH := initOf (K (F := F)).hsCells (K (F := F)).hsToks
/-- the grids', -/
def uP : UP := initOf (Pipeline.cells (pin (pcfgs (F := F)) adm) pin_inj) (Pipeline.launchToks (pin (pcfgs (F := F)) adm) pin_inj)
/-- and the whole. -/
def u₀ : UU := ((uH (F := F), uP (F := F)), 1)

theorem three (Φ : Fin 3 → sProp 𝕄) : bigSep Finset.univ Φ ⊢ iprop(Φ 0 ∗ Φ 1 ∗ Φ 2) := by
  rw [show (Finset.univ : Finset (Fin 3)) = {0, 1, 2} by decide, SparseCore.bigSep_insert' (by decide), SparseCore.bigSep_insert' (by decide), bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 2 => (arrs m).P.x q thr) := by
  have hx : (iprop(emp) : sProp 𝕄) ⊢ bigSep Finset.univ fun thr : Thread nD τ => bigSep Finset.univ fun q : Fin 2 => (arrs m).P.x q thr := by
    exact BIBase.Entails.trans (Entails.of_eq (bigSep_emp_const (M := 𝕄) (Finset.univ : Finset (Thread nD τ))).symm)
      (bigSep_mono fun _ _ => Entails.of_eq (bigSep_emp_const (M := 𝕄) (Finset.univ : Finset (Fin 2))).symm)
  have hg : iprop((bigSep Finset.univ fun c : Dev nD => bigSep Finset.univ fun p => Pipeline.cellsGhost (pin (pcfgs (F := F)) adm) EP p c)
      ∗ (bigSep Finset.univ fun c : Dev nD => bigSep Finset.univ fun p => (Pipeline.toksInit (pin (pcfgs (F := F)) adm) EP p c : sProp 𝕄)))
      ⊢ (bigSep Finset.univ fun d : Dev nD => GG (F := F) d) := by
    rw [← bigSep_sep']
    refine bigSep_mono fun d _ => ?_
    rw [← bigSep_sep']
    exact three fun p => gridGhost d p
  have h1 := ownU_pair (nD := nD) (τ := τ) (sig := sig) (Ix := HIx 2) (Val := Elt F) (Name := ℕ) (Lvl := ℕ)
    (uH (F := F), uP (F := F)) (1 : Counters)
  have h2 := own_pair_emb (embL : Emb (UH × UP) 𝕄) (uH (F := F)) (uP (F := F))
  have h3 : BI.own (EP (F := F) (uP (F := F))) ⊢ _ := Pipeline.fund_ghost (pin (pcfgs (F := F)) adm) EP pin_inj
  unfold u₀
  iintro Hu
  ihave H := h1 $$ Hu
  icases H with ⟨H, -⟩
  ihave H := h2 $$ H
  icases H with ⟨HH, HP⟩
  imod h3 $$ HP with HP
  imodintro
  isplitl [HH]; · iexact HH
  isplitl [HP]
  · iapply hg; iexact HP
  iapply hx; iempintro

/-- What a device's buffers read at the end. -/
def fq (d : Dev nD) (s' : Phys nD τ sig (Elt F)) : Prop :=
  ∀ b : Ref sig .tc, b.isScoped = false → s'.mem.mem ((SparseCore.T d).loc b) = VJ m d (Proc.devRef .tc b)

theorem hfin (d : Dev nD) (s' : Phys nD τ sig (Elt F)) : iprop(FIN m d ∗ SI s') ⊢ (⌜fq m d s'⌝ : sProp 𝕄) := by
  have hb : ∀ b : Ref sig .tc, b.isScoped = false →
      (iprop(FIN m d ∗ SI s') ⊢ (⌜s'.mem.mem ((SparseCore.T d).loc b) = VJ m d (Proc.devRef .tc b)⌝ : sProp 𝕄)) := by
    intro b hb
    have hs : (StableHlo.held (SparseCore.T d) (ucRefs τ sig) (VJ m d) : sProp 𝕄)
        ⊢ ((SparseCore.T d).loc b ↦{fullShare} VJ m d (Proc.devRef .tc b)) :=
      bigSep_elim (Φ := fun x : DevRef τ sig => ((SparseCore.T d).1, x) ↦{fullShare} VJ m d x) (Pipeline.devRef_mem_ucRefs hb)
    iintro ⟨H, HSI⟩
    ihave H := hs $$ H
    ihave H := (SI_pointsTo_agree (st := s') (ℓ := (SparseCore.T d).loc b) (I := Finset.univ) (q := fullShare) (f := VJ m d (Proc.devRef .tc b))) $$ [HSI H]
    · isplitl [HSI] <;> iassumption
    icases H with %h
    ipureintro
    exact funext fun i => h i (Finset.mem_univ i)
  intro a ha b hbs
  exact hb b hbs a ha

/-- The program's end: each device's unscoped buffers at `VJ`, every semaphore at zero. -/
def QC : PUnit × MemSt nD τ sig (Elt F) → Prop := fun r =>
  (∀ (c : Dev nD) (b : Ref sig .tc), b.isScoped = false → r.2.mem ((SparseCore.T c).loc b) = VJ m c (Proc.devRef .tc b)) ∧ r.2.sem = fun _ => 0

theorem run_main [∀ e, Nonempty (Elt F e)] (hR : (arrs m).InRange) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := (arrs m).P) (A := ∅) facts v₀
    (fun q hq => match q with | 0 => nomatch hq | 1 => nomatch hq)
    (fun q _ => match q with | 0 => (arrs m).tileObl2 hR | 1 => (arrs m).tileObl3 hR)
    (fun q _ => SparseCore.Cfg.VecSplit.of_plain ((arrs m).vecSplit q))
    m ρ main (fun d => GG (F := F) d) (FIN m) (u₀ (F := F)) (sep_elim_left.trans (hu₀ m)) (hmain m ρ) (fq m) (hfin m) (QC m) (fun _ h hz => ⟨h, hz⟩)

end

end Cert.Proof

end
-- ==== Proof.Args.lean ====
/-
  What @main's pieces leave alone: a buffer no piece writes ends with what the launch had in it.
-/
module

public import proofs.«01_k».proof.Proof.Host

@[expose] public section

set_option maxRecDepth 16384

noncomputable section

namespace Cert.Proof

open Cert.KernelIdeal Cert.KernelIdeal.Gen
open Idealize.ShloMosaic Idealize.ShloMosaic.Pipeline
open Idealize.ShloMosaic.SparseCore.Cfg (HIx)
open Idealize.SL.Sem

variable {F : FTy → Type} [FloatOps F]
variable (m : (ℓ : Loc nD τ sig) → Buf (Elt F) ℓ) (d : Dev nD)

/-- A grid keeps every buffer that is not an output window's array. -/
theorem afterRegion_kept {cfg : Cfg sig Λ₀} (dat : Dat τ (Elt F) (HIx 2) ℕ UU ℕ cfg d) (W : Valuation τ sig (Elt F))
    (hA : ∀ w, dat.A w = W (Proc.devRef .tc (arrRef cfg.spec w))) (hinj : Function.Injective (arrRef cfg.spec))
    (r : Ref sig .tc) (h : ∀ w, r = arrRef cfg.spec w → (cfg.win w).isOut = false) :
    afterRegion dat W (Proc.devRef .tc r) = W (Proc.devRef .tc r) := by
  by_cases hx : ∃ w, r = arrRef cfg.spec w
  · obtain ⟨w, rfl⟩ := hx
    exact (afterRegion_arr dat W hinj w).trans ((dat.arrAt_in w (h w rfl) _).trans (hA w))
  · exact afterRegion_of_not_arr dat W fun w e => hx ⟨w, e⟩

theorem VA_kept {r : Ref sig .tc} (h : r ∉ opsAW) : VA m d (Proc.devRef .tc r) = m (d, Proc.devRef .tc r) :=
  StableHlo.after_of_writes_sub _ _ opsA_writes h

theorem VB_kept {r : Ref sig .tc} (h : r ≠ main_v30) : VB m d (Proc.devRef .tc r) = VA m d (Proc.devRef .tc r) :=
  afterRegion_kept d (dat0 (VA m) d) _ (fun _ => rfl) launch0.win.arr_inj r fun w => match w with
    | 0 => fun _ => rfl
    | 1 => fun e => absurd e h

theorem VC_kept {r : Ref sig .tc} (h : r ∉ opsBW) : VC m d (Proc.devRef .tc r) = VB m d (Proc.devRef .tc r) :=
  StableHlo.after_of_writes_sub _ _ opsB_writes h

theorem VD_kept {r : Ref sig .tc} (h : r ≠ main_v32) : VD m d (Proc.devRef .tc r) = VC m d (Proc.devRef .tc r) :=
  afterRegion_kept d (dat1 (VC m) d) _ (fun _ => rfl) launch1.win.arr_inj r fun w => match w with
    | 0 => fun _ => rfl
    | 1 => fun e => absurd e h

theorem VE_kept {r : Ref sig .tc} (h : r ∉ opsCW) : VE m d (Proc.devRef .tc r) = VD m d (Proc.devRef .tc r) :=
  StableHlo.after_of_writes_sub _ _ opsC_writes h

theorem VF_kept {r : Ref sig .tc} (h : r ≠ main_v35) : VF m d (Proc.devRef .tc r) = VE m d (Proc.devRef .tc r) :=
  Function.update_of_ne (StableHlo.devRef_ne_of_ne h) _ _

theorem VG_kept {r : Ref sig .tc} (h : r ∉ opsDW) : VG m d (Proc.devRef .tc r) = VF m d (Proc.devRef .tc r) :=
  StableHlo.after_of_writes_sub _ _ opsD_writes h

theorem VH_kept {r : Ref sig .tc} (h : r ≠ main_v37) : VH m d (Proc.devRef .tc r) = VG m d (Proc.devRef .tc r) :=
  Function.update_of_ne (StableHlo.devRef_ne_of_ne h) _ _

theorem VI_kept {r : Ref sig .tc} (h : r ∉ opsEW) : VI m d (Proc.devRef .tc r) = VH m d (Proc.devRef .tc r) :=
  StableHlo.after_of_writes_sub _ _ opsE_writes h

theorem VJ_kept {r : Ref sig .tc} (h : r ≠ main_v44) : VJ m d (Proc.devRef .tc r) = VI m d (Proc.devRef .tc r) :=
  afterRegion_kept d (dat4 (VI m) d) _ (fun _ => rfl) launch4.win.arr_inj r fun w => match w with
    | 0 | 1 | 2 | 3 | 4 | 5 | 6 | 7 | 8 | 9 | 10 | 11 => fun _ => rfl
    | 12 => fun e => absurd e h

/-- The buffers @main writes. -/
def written : List (Ref sig .tc) :=
  opsAW ++ main_v30 :: opsBW ++ main_v32 :: opsCW ++ main_v35 :: opsDW ++ main_v37 :: opsEW ++ [main_v44]

/-- Before the dense grid's last lines, a buffer @main does not write holds what it held at the launch. -/
theorem VH_launch {r : Ref sig .tc} (h : r ∉ written) : VH m d (Proc.devRef .tc r) = m (d, Proc.devRef .tc r) := by
  simp only [written, List.mem_append, List.mem_cons, List.not_mem_nil, _root_.or_false, not_or] at h
  obtain ⟨⟨⟨⟨⟨hA, h30, hB⟩, h32, hC⟩, h35, hD⟩, h37, hE⟩, h44⟩ := h
  exact (VH_kept m d h37).trans <| (VG_kept m d hD).trans <| (VF_kept m d h35).trans <| (VE_kept m d hC).trans <|
    (VD_kept m d h32).trans <| (VC_kept m d hB).trans <| (VB_kept m d h30).trans (VA_kept m d hA)

/-- At the end too. -/
theorem VJ_launch {r : Ref sig .tc} (h : r ∉ written) : VJ m d (Proc.devRef .tc r) = m (d, Proc.devRef .tc r) := by
  refine Eq.trans ?_ (VH_launch m d h)
  simp only [written, List.mem_append, List.mem_cons, List.not_mem_nil, _root_.or_false, not_or] at h
  obtain ⟨⟨⟨⟨⟨hA, h30, hB⟩, h32, hC⟩, h35, hD⟩, h37, hE⟩, h44⟩ := h
  exact (VJ_kept m d h44).trans (VI_kept m d hE)

end Cert.Proof

end
-- ==== Proof.Remap.lean ====
/-
  The host's arithmetic on the indices: each lookup is turned into the number of a row of its call's formatted tables.
-/
module

public import proofs.«01_k».proof.Proof.Args

@[expose] public section

set_option maxRecDepth 16384

noncomputable section

namespace Cert.Proof

open Cert.KernelIdeal Cert.KernelIdeal.Gen
open Idealize.ShloMosaic Idealize.ShloMosaic.Pipeline
open Idealize.SL.Sem

variable {F : FTy → Type} [FloatOps F]
variable (m : (ℓ : Loc nD τ sig) → Buf (Elt F) ℓ) (d : Dev nD)

/-- The place of table row `v` among the rows of its formatted table, as the host computes it. -/
def slot (v : BitVec 32) : BitVec 32 :=
  Scalar.select (IntOp.cmpi .slt v 98304#32)
    (IntOp.ori (IntOp.ori (IntOp.andi v 4294963200#32) (IntOp.shli .host (IntOp.andi v 511#32) 3#32)) (IntOp.andi (IntOp.shrsi .host v 9#32) 7#32)) v

/-- The same as a number. -/
def slotN (n : ℕ) : ℕ := if n < 98304 then 4096 * (n / 4096) + 8 * (n % 512) + n / 512 % 8 else n

theorem slotN_lt {n : ℕ} (h : n < 100000) : slotN n < 100000 := by unfold slotN; split <;> omega

/-- The row of the tables found at slot `slotN n` of a formatted table is `n`. -/
theorem fmtRow_slotN {n : ℕ} (h : n < 100000) (w : ℕ) (hw : w < 16) : fmtRow (slotN n / 8) (slotN n % 8 * 16 + w) = n := by
  have e : (slotN n % 8 * 16 + w) / 16 = slotN n % 8 := by omega
  unfold fmtRow
  rw [e]
  unfold slotN
  split
  · obtain ⟨q, hq⟩ : ∃ q, q = n / 512 % 8 := ⟨_, rfl⟩
    have e2 : (4096 * (n / 4096) + 8 * (n % 512) + n / 512 % 8) / 8 = 512 * (n / 4096) + n % 512 := by omega
    have e3 : (4096 * (n / 4096) + 8 * (n % 512) + n / 512 % 8) % 8 = n / 512 % 8 := by omega
    rw [e2, e3]
    split <;> omega
  · split <;> omega

theorem and_high {n : ℕ} (h : n < 2 ^ 32) : n &&& 4294963200 = 2 ^ 12 * (n / 4096) := by
  refine Nat.eq_of_testBit_eq fun i => ?_
  rw [show (4294963200 : ℕ) = 2 ^ 12 * (2 ^ 20 - 1) by norm_num, show (4096 : ℕ) = 2 ^ 12 by norm_num, Nat.testBit_and,
    Nat.testBit_two_pow_mul, Nat.testBit_two_pow_mul, Nat.testBit_two_pow_sub_one, Nat.testBit_div_two_pow]
  by_cases h12 : 12 ≤ i
  · by_cases h20 : i - 12 < 20
    · simp [h12, h20, Nat.add_sub_cancel' h12, Nat.sub_add_cancel h12]
    · have : n.testBit i = false := Nat.testBit_lt_two_pow (h.trans_le (Nat.pow_le_pow_right (by norm_num) (by omega)))
      simp [h12, h20, this, Nat.sub_add_cancel h12]
  · simp [h12]

theorem slot_toNat {v : BitVec 32} (h : v.toNat < 100000) : (slot v).toNat = slotN v.toNat := by
  have hlt : (IntOp.cmpi .slt v 98304#32 = 1) ↔ v.toNat < 98304 := by
    have hb : ∀ p : Bool, (BitVec.ofBool p = 1#1) ↔ p = true := by intro p; cases p <;> decide
    refine (hb _).trans ?_
    simp only [BitVec.slt_eq_decide, decide_eq_true_eq, BitVec.toInt_eq_toNat_cond, BitVec.toNat_ofNat, Nat.reducePow, Nat.reduceMod]
    omega
  unfold slot Scalar.select slotN
  by_cases hv : v.toNat < 98304
  · rw [if_pos (hlt.mpr hv), if_pos hv]
    have h1 : (IntOp.andi v 4294963200#32).toNat = 2 ^ 12 * (v.toNat / 4096) := (BitVec.toNat_and _ _).trans (and_high v.isLt)
    have h2 : (IntOp.andi v 511#32).toNat = v.toNat % 512 := (BitVec.toNat_and _ _).trans (Nat.and_two_pow_sub_one_eq_mod v.toNat 9)
    have h3 : (IntOp.shli .host (IntOp.andi v 511#32) 3#32).toNat = 8 * (v.toNat % 512) := by
      show (IntOp.andi v 511#32 <<< 3#32).toNat = _
      rw [BitVec.shiftLeft_eq', BitVec.toNat_shiftLeft, h2, Nat.shiftLeft_eq]
      show v.toNat % 512 * 2 ^ 3 % 2 ^ 32 = _
      omega
    have h4 : (IntOp.shrsi .host v 9#32).toNat = v.toNat / 512 := by
      show (v.sshiftRight 9).toNat = _
      have hm : v.msb = false := by rw [BitVec.msb_eq_decide, decide_eq_false_iff_not]; omega
      rw [BitVec.sshiftRight_eq_of_msb_false hm, BitVec.toNat_ushiftRight, Nat.shiftRight_eq_div_pow]
    have h5 : (IntOp.andi (IntOp.shrsi .host v 9#32) 7#32).toNat = v.toNat / 512 % 8 :=
      ((BitVec.toNat_and _ _).trans (Nat.and_two_pow_sub_one_eq_mod _ 3)).trans (by rw [h4])
    show (IntOp.andi v 4294963200#32 ||| IntOp.shli .host (IntOp.andi v 511#32) 3#32 ||| IntOp.andi (IntOp.shrsi .host v 9#32) 7#32).toNat = _
    rw [BitVec.toNat_or, BitVec.toNat_or, h1, h3, h5, ← Nat.two_pow_add_eq_or_of_lt (by omega),
      show 2 ^ 12 * (v.toNat / 4096) + 8 * (v.toNat % 512) = 2 ^ 3 * (512 * (v.toNat / 4096) + v.toNat % 512) by ring,
      ← Nat.two_pow_add_eq_or_of_lt (by omega)]
    ring
  · rw [if_neg (fun e => hv (hlt.mp e)), if_neg hv]

/-- The index buffer at the launch. -/
abbrev idx (i : S16384x26.Idx) : BitVec 32 := (m (d, Proc.devRef .tc main_arg0) : IVec S16384x26 32) i

/-- The first call's row numbers, before they are laid out in a line. -/
theorem VA_v23 : VA m d (Proc.devRef .tc main_v23) = shapeCast S229376
    (addi (extractStridedSlice S16384x14 ![0, 0] (fun i => slot (idx m d i)) slices_S16384x26_S16384x14_0_0)
      (broadcastInDim S16384x14 ![0, 1] bcast_S1x14_S16384x14_0_1
        (extractStridedSlice S1x14 ![0, 0] (broadcastInDim S1x26 ![1] bcast_S26_S1x26_1 (fun i : S26.Idx => BitVec.ofNat 32 (i 0).val * 100000#32)) slices_S1x26_S1x14_0_0)))
    shapeCasts_S16384x14_S229376 := by
  unfold VA opsA
  after_results
  rfl

/-- The second call's. -/
theorem VA_v28 : VA m d (Proc.devRef .tc main_v28) = shapeCast S196608
    (addi (extractStridedSlice S16384x12 ![0, 14] (fun i => slot (idx m d i)) slices_S16384x26_S16384x12_0_14)
      (broadcastInDim S16384x12 ![0, 1] bcast_S1x12_S16384x12_0_1
        (extractStridedSlice S1x12 ![0, 0] (broadcastInDim S1x26 ![1] bcast_S26_S1x26_1 (fun i : S26.Idx => BitVec.ofNat 32 (i 0).val * 100000#32)) slices_S1x26_S1x12_0_0)))
    shapeCasts_S16384x12_S196608 := by
  unfold VA opsA
  after_results
  rfl

/-- The tables transposed. -/
theorem VA_v29 : VA m d (Proc.devRef .tc main_v29)
    = transpose S26x16x100000 [0, 2, 1] (m (d, Proc.devRef .tc main_arg1) : FVec F S26x100000x16 .f32) transposes_S26x100000x16_S26x16x100000_0_2_1 := by
  unfold VA opsA
  after_results
  rfl

/-- An index of a rank-one shape. -/
def ix1 {n : ℕ} (r : Fin n) : (⟨1, ![n]⟩ : Shape).Idx := Fin.cases r fun x => x.elim0

/-- A line of rows of `k` read at a place: the row it falls in, the place in it. -/
theorem line_two {α : Type} {a k n : ℕ} (x : (⟨2, ![a, k]⟩ : Shape).Idx → α) (h : (⟨2, ![a, k]⟩ : Shape).ShapeCasts ⟨1, ![n]⟩) (r : Fin n)
    (i : Fin a) (j : Fin k) (e : i.val * k + j.val = r.val) : shapeCast ⟨1, ![n]⟩ x h (ix1 r) = x (ix2 i j) :=
  shapeCast_apply x h _ _ ((Shape.rowMajor_val_two _).trans (Eq.trans e (Shape.rowMajor_val_one (d := ![n]) (ix1 r)).symm))

/-- A line laid out as one row. -/
theorem row_line {α : Type} {n : ℕ} (x : (⟨1, ![n]⟩ : Shape).Idx → α) (h : (⟨1, ![n]⟩ : Shape).ShapeCasts ⟨2, ![1, n]⟩) (r : Fin n) :
    shapeCast ⟨2, ![1, n]⟩ x h (ix2 0 r) = x (ix1 r) :=
  shapeCast_apply x h _ _ ((Shape.rowMajor_val_one (d := ![n]) (ix1 r)).trans (Eq.trans (by show r.val = 0 * n + r.val; omega) (Shape.rowMajor_val_two _).symm))

/-- A slot and the number of its table's first row make a row number without overflow. -/
theorem row_toNat {v : BitVec 32} (h : v.toNat < 100000) {f : ℕ} (hf : f < 14) :
    (slot v + BitVec.ofNat 32 f * 100000#32).toNat = slotN v.toNat + f * 100000 := by
  have := slotN_lt h
  rw [BitVec.toNat_add, BitVec.toNat_mul, slot_toNat h, BitVec.toNat_ofNat, BitVec.toNat_ofNat]
  omega

/-- A row repeated down an array. -/
theorem broadcastInDim_pair {α : Type} {a k : ℕ} (hk : k ≠ 1) (x : (⟨2, ![1, k]⟩ : Shape).Idx → α)
    (h : (⟨2, ![1, k]⟩ : Shape).BroadcastsInDim ⟨2, ![a, k]⟩ ![0, 1]) (i : Fin a) (j : Fin k) :
    broadcastInDim ⟨2, ![a, k]⟩ ![0, 1] h x (ix2 i j) = x (ix2 0 j) := by
  unfold broadcastInDim
  refine congrArg x (funext fun c => ?_)
  match c with
  | 0 => rfl
  | 1 => exact dif_neg hk

/-- A table's first row number, as the host lays them out: the same for every batch element. -/
theorem base_at {k : ℕ} (hk : k ≠ 1) (h1 : S1x26.Slices ![0, 0] ⟨2, ![1, k]⟩) (h2 : (⟨2, ![1, k]⟩ : Shape).BroadcastsInDim ⟨2, ![16384, k]⟩ ![0, 1])
    (i : Fin 16384) (j : Fin k) :
    broadcastInDim ⟨2, ![16384, k]⟩ ![0, 1] h2 (extractStridedSlice ⟨2, ![1, k]⟩ ![0, 0]
      (broadcastInDim S1x26 ![1] bcast_S26_S1x26_1 (fun i : S26.Idx => BitVec.ofNat 32 (i 0).val * 100000#32)) h1) (ix2 i j)
      = BitVec.ofNat 32 j.val * 100000#32 := by
  have hj : j.val < 26 := by have : 0 + k ≤ 26 := h1.2 1; have := j.isLt; omega
  refine Eq.trans (broadcastInDim_pair hk _ h2 i j) ?_
  refine Eq.trans (extractStridedSlice_apply _ _ _ _ (ix2 (a := 1) (b := 26) 0 ⟨j.val, hj⟩) fun a => ?_) rfl
  match a with
  | 0 => rfl
  | 1 => exact (Nat.zero_add _).symm

/-- The first call's row numbers. -/
theorem iA_at (hx : ∀ i, (idx m d i).toNat < 100000) (r : Fin 229376) :
    ((arrs m).iA d (ix2 0 r)).toNat
      = slotN (idx m d (ix2 ⟨r.val / 14, by have := r.isLt; omega⟩ ⟨r.val % 14, by omega⟩)).toNat + r.val % 14 * 100000 := by
  have e : (arrs m).iA d = shapeCast S1x229376 (VA m d (Proc.devRef .tc main_v23)) shapeCasts_S229376_S1x229376 := by
    refine Eq.trans (b := shapeCast S1x229376 (VD m d (Proc.devRef .tc main_v23)) shapeCasts_S229376_S1x229376) ?_ ?_
    · show VE m d (Proc.devRef .tc main_v34) = _
      unfold VE opsC
      after_results
      rfl
    · rw [VD_kept m d (by decide), VC_kept m d (by decide), VB_kept m d (by decide)]
  rw [e, row_line, VA_v23, line_two (a := 16384) (k := 14) _ _ r ⟨r.val / 14, by have := r.isLt; omega⟩ ⟨r.val % 14, by omega⟩
    (by show r.val / 14 * 14 + r.val % 14 = _; omega)]
  refine Eq.trans (congrArg BitVec.toNat (congrArg₂ IntOp.addi (extractStridedSlice_apply _ _ _ _ (ix2 ⟨r.val / 14, by have := r.isLt; omega⟩ ⟨r.val % 14, by omega⟩) fun a => ?_) (base_at (by decide) _ _ _ _))) (row_toNat (hx _) (Nat.lt_of_lt_of_le (Nat.mod_lt _ (by decide)) (by decide)))
  match a with
  | 0 => exact (Nat.zero_add _).symm
  | 1 => exact (Nat.zero_add _).symm

/-- The second call's. -/
theorem iB_at' (hx : ∀ i, (idx m d i).toNat < 100000) (r : Fin 196608) :
    ((arrs m).iB d (ix2 0 r)).toNat
      = slotN (idx m d (ix2 ⟨r.val / 12, by have := r.isLt; omega⟩ ⟨14 + r.val % 12, by omega⟩)).toNat + r.val % 12 * 100000 := by
  have e : (arrs m).iB d = shapeCast S1x196608 (VA m d (Proc.devRef .tc main_v28)) shapeCasts_S196608_S1x196608 := by
    refine Eq.trans (b := shapeCast S1x196608 (VE m d (Proc.devRef .tc main_v28)) shapeCasts_S196608_S1x196608) ?_ ?_
    · show StableHlo.after opsD (VE m d) (Proc.devRef .tc main_v36) = _
      unfold opsD
      after_results
      rfl
    · rw [VE_kept m d (by decide), VD_kept m d (by decide), VC_kept m d (by decide), VB_kept m d (by decide)]
  rw [e, row_line, VA_v28, line_two (a := 16384) (k := 12) _ _ r ⟨r.val / 12, by have := r.isLt; omega⟩ ⟨r.val % 12, by omega⟩
    (by show r.val / 12 * 12 + r.val % 12 = _; omega)]
  refine Eq.trans (congrArg BitVec.toNat (congrArg₂ IntOp.addi (extractStridedSlice_apply _ _ _ _ (ix2 ⟨r.val / 12, by have := r.isLt; omega⟩ ⟨14 + r.val % 12, by omega⟩) fun a => ?_) (base_at (by decide) _ _ _ _))) (row_toNat (hx _) (Nat.lt_of_lt_of_le (Nat.mod_lt _ (by decide)) (by decide)))
  match a with
  | 0 => exact (Nat.zero_add _).symm
  | 1 => rfl

/-- Indices that name rows give row numbers that name rows. -/
theorem inRange (hx : ∀ d i, (idx m d i).toNat < 100000) : (arrs m).InRange where
  a d r := by rw [iA_at m d (hx d)]; have := slotN_lt (hx d (ix2 ⟨r.val / 14, by have := r.isLt; omega⟩ ⟨r.val % 14, by omega⟩)); omega
  b d r := by rw [iB_at' m d (hx d)]; have := slotN_lt (hx d (ix2 ⟨r.val / 12, by have := r.isLt; omega⟩ ⟨14 + r.val % 12, by omega⟩)); omega

end Cert.Proof

end
-- ==== Proof.Frames.lean ====
/-
  The frames: from indices that name rows, the whole program ends with its arguments as they were and every counter at zero.
-/
module

public import proofs.«01_k».proof.Proof.Run
public import proofs.«01_k».proof.Proof.Remap
public import proofs.«01_k».proof.Pre_rows_named
public import proofs.«01_k».proof.Proof.Gen.Pre_rows_named

@[expose] public section

set_option maxRecDepth 16384

noncomputable section

namespace Cert.Proof

open Cert.KernelIdeal Cert.KernelIdeal.Gen
open Idealize.ShloMosaic Idealize.ShloMosaic.Pipeline
open Idealize.SL.Sem

/-- An index the precondition admits is below the table's height. -/
theorem lt_of_and {v : BitVec 32} (e : IntOp.andi (IntOp.cmpi .sge v 0#32) (IntOp.cmpi .slt v 100000#32) = 1#1) : v.toNat < 100000 := by
  have hb : ∀ p q : Bool, (IntOp.andi (BitVec.ofBool p) (BitVec.ofBool q) = 1#1) → p = true ∧ q = true := by
    intro p q; cases p <;> cases q <;> decide
  obtain ⟨h0, h1⟩ := hb _ _ e
  simp only [BitVec.sle_eq_decide, BitVec.slt_eq_decide, decide_eq_true_eq, BitVec.toInt_eq_toNat_cond, BitVec.toNat_ofNat, Nat.reducePow, Nat.reduceMod] at h0 h1
  omega

variable {F : FTy → Type} [FloatOps F]
variable (m : (ℓ : Loc nD τ sig) → Buf (Elt F) ℓ) (ρ : Dev nD → PrngReg)

/-- The precondition, of the launch memory. -/
def Named : Prop := ∀ c : Dev nD, Cert.Pre_rows_named.fn (F := F) (m (c, Proc.devRef .tc main_arg0)) (m (c, Proc.devRef .tc main_arg1))
  (m (c, Proc.devRef .tc main_arg2)) (m (c, Proc.devRef .tc main_arg3)) (m (c, Proc.devRef .tc main_arg4)) (m (c, Proc.devRef .tc main_arg5))
  (m (c, Proc.devRef .tc main_arg6)) (m (c, Proc.devRef .tc main_arg7)) (m (c, Proc.devRef .tc main_arg8)) (m (c, Proc.devRef .tc main_arg9))
  (m (c, Proc.devRef .tc main_arg10)) (m (c, Proc.devRef .tc main_arg11)) = fun _ => 1#1

/-- Under the precondition every index names a row of its table. -/
theorem idx_lt {m : (ℓ : Loc nD τ sig) → Buf (Elt F) ℓ} (h : Named m) (d : Dev nD) (i : S16384x26.Idx) : (idx m d i).toNat < 100000 := by
  have e := congrFun (h d) i
  simp only [Cert.Pre_rows_named.fn, andi, cmpi, broadcastInDim, constantI] at e
  exact lt_of_and e

/-- An argument at the end is the argument at the launch. -/
theorem arg_kept {r : PUnit × MemSt nD τ sig (Elt F)} (h : QC m r) (c : Dev nD) {b : Ref sig .tc} (hs : b.isScoped = false) (hw : b ∉ written) :
    r.2.mem ((SparseCore.T c).loc b) = m ((SparseCore.T c).loc b) :=
  (h.1 c b hs).trans (VJ_launch m c hw)

/-- Every argument at the end is the argument at the launch. -/
theorem args_kept {r : PUnit × MemSt nD τ sig (Elt F)} (h : QC m r) (c : Dev nD) :
    r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6)
      ∧ r.2.mem ((SparseCore.T c).loc main_arg7) = m ((SparseCore.T c).loc main_arg7)
      ∧ r.2.mem ((SparseCore.T c).loc main_arg8) = m ((SparseCore.T c).loc main_arg8)
      ∧ r.2.mem ((SparseCore.T c).loc main_arg9) = m ((SparseCore.T c).loc main_arg9)
      ∧ r.2.mem ((SparseCore.T c).loc main_arg10) = m ((SparseCore.T c).loc main_arg10)
      ∧ r.2.mem ((SparseCore.T c).loc main_arg11) = m ((SparseCore.T c).loc main_arg11) :=
  ⟨arg_kept m h c rfl (by decide), arg_kept m h c rfl (by decide), arg_kept m h c rfl (by decide), arg_kept m h c rfl (by decide), arg_kept m h c rfl (by decide), arg_kept m h c rfl (by decide), arg_kept m h c rfl (by decide), arg_kept m h c rfl (by decide), arg_kept m h c rfl (by decide), arg_kept m h c rfl (by decide), arg_kept m h c rfl (by decide), arg_kept m h c rfl (by decide)⟩

/-- The whole program's run, from indices that name rows. -/
theorem run_named [∀ e, Nonempty (Elt F e)] (h : Named m) :
    θ_run (Cert.KernelIdeal.defs (F := F)) (Cert.KernelIdeal.threads (F := F)) ⟨m, fun _ => 0, ρ⟩ (QC m) :=
  run_main m ρ (inRange m (idx_lt h))

end Cert.Proof

end
-- ==== Proof.Same.lean ====
/-
  The printed kernel and its reading over the reals are one text: over the same floats they are the same program.
-/
module

public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

set_option maxHeartbeats 2000000 in
/-- The kernels' bodies are the same. -/
theorem bodies_same : Cert.Kernel.defs₀ (F := F) = Cert.KernelIdeal.defs₀ (F := F) := by
  funext p ℓ a
  match p, ℓ, a with
  | .tc, 0, (t, s) => rfl
  | .tc, 1, (t, s) => rfl
  | .tc, 2, _ => rfl
  | .tc, 3, _ => rfl
  | .tc, 4, (t, s) => rfl
  | .scVector c s, 0, _ => rfl
  | .scVector c s, 1, _ => rfl
  | .scVector c s, 2, _ => rfl
  | .scVector c s, 3, _ => rfl
  | .scVector c s, 4, _ => rfl
  | .scScalar c, 0, _ => rfl
  | .scScalar c, 1, _ => rfl
  | .scScalar c, 2, _ => rfl
  | .scScalar c, 3, _ => rfl
  | .scScalar c, 4, _ => rfl

set_option maxHeartbeats 2000000 in
/-- So are the body tables. -/
theorem defs_same : Cert.Kernel.defs (F := F) = Cert.KernelIdeal.defs (F := F) :=
  congrArg (fun D => (Cert.KernelIdeal.sc (F := F)).defs (Pipeline.defs Cert.KernelIdeal.pcfgs D)) bodies_same

set_option maxHeartbeats 4000000 in
/-- So is @main. -/
theorem main_same : Cert.Kernel.main (F := F) = Cert.KernelIdeal.main (F := F) := funext fun _ => rfl

set_option maxHeartbeats 2000000 in
/-- So are the threads. -/
theorem threads_same : Cert.Kernel.threads (F := F) = Cert.KernelIdeal.threads (F := F) :=
  congrArg (fun M => (Cert.KernelIdeal.sc (F := F)).threads M) main_same

end Cert.Proof

end
-- ==== Proof.Rows.lean ====
/-
  What the SparseCore calls gather: each row of their outputs is the row of the tables the index names.
-/
module

public import proofs.«01_k».proof.Proof.Frames

@[expose] public section

set_option maxRecDepth 16384

noncomputable section

namespace Cert.Proof

open Cert.KernelIdeal Cert.KernelIdeal.Gen
open Idealize.ShloMosaic Idealize.ShloMosaic.Pipeline
open Idealize.SL.Sem

variable {F : FTy → Type} [FloatOps F]
variable (m : (ℓ : Loc nD τ sig) → Buf (Elt F) ℓ) (d : Dev nD)

/-- The embedding tables at the launch. -/
abbrev tabs : S26x100000x16.Idx → Elt F .f32 := (m (d, Proc.devRef .tc main_arg1) : FVec F S26x100000x16 .f32)

/-- A three-axis index with the coordinates `i`, `j` and `k`. -/
theorem eq3 {a b c : ℕ} (p : (⟨3, ![a, b, c]⟩ : Shape).Idx) (i : Fin a) (j : Fin b) (k : Fin c) (h0 : (p 0).val = i.val) (h1 : (p 1).val = j.val)
    (h2 : (p 2).val = k.val) : p = ix3 i j k :=
  funext fun x => Fin.ext (by match x with | 0 => exact h0 | 1 => exact h1 | 2 => exact h2)

/-- A formatted table as rows of sixteen: row `k`'s entry `w`. -/
theorem flat_at {α : Type} {p n : ℕ} (x : (⟨3, ![p, 25000, 128]⟩ : Shape).Idx → α) (h : (⟨3, ![p, 25000, 128]⟩ : Shape).ShapeCasts ⟨2, ![n, 16]⟩)
    (k : Fin n) (w : Fin 16) (hk : k.val / 200000 < p) :
    shapeCast ⟨2, ![n, 16]⟩ x h (ix2 k w)
      = x (ix3 ⟨k.val / 200000, hk⟩ ⟨k.val % 200000 / 8, by omega⟩ ⟨k.val % 8 * 16 + w.val, by omega⟩) := by
  refine shapeCast_apply x h _ _ ((Shape.rowMajor_val_three _).trans (Eq.trans ?_ (Shape.rowMajor_val_two _).symm))
  show (k.val / 200000 * 25000 + k.val % 200000 / 8) * 128 + (k.val % 8 * 16 + w.val) = k.val * 16 + w.val
  omega

/-- The transposed tables' entry: table `f`'s row `n`, entry `w`. -/
theorem transposed_at (f : Fin 26) (n : Fin 100000) (w : Fin 16) :
    VA m d (Proc.devRef .tc main_v29) (ix3 (a := 26) (b := 16) (c := 100000) f w n) = tabs m d (ix3 f n w) := by
  rw [VA_v29]
  exact transpose_apply _ _ _ _ (ix3 (a := 26) (b := 100000) (c := 16) f n w) fun b => by match b with | 0 => rfl | 1 => rfl | 2 => rfl

/-- What the first grid leaves, of the transposed tables. -/
theorem grid30_eq : VB m d (Proc.devRef .tc main_v30) = fmtA (VA m d (Proc.devRef .tc main_v29)) :=
  (afterRegion_arr (dat0 (VA m) d) _ launch0.win.arr_inj 1).trans (arr0 (VA m) d)

/-- What the second grid leaves. -/
theorem grid32_eq : VD m d (Proc.devRef .tc main_v32) = fmtB (VA m d (Proc.devRef .tc main_v29)) := by
  refine ((afterRegion_arr (dat1 (VC m) d) _ launch1.win.arr_inj 1).trans (arr1 (VC m) d)).trans (congrArg fmtB ?_)
  exact (VC_kept m d (by decide)).trans (VB_kept m d (by decide))

/-- The first call's table. -/
theorem tA_eq : (arrs m).tA d = shapeCast S1400000x16 (fmtA (VA m d (Proc.devRef .tc main_v29))) shapeCasts_S7x25000x128_S1400000x16 := by
  rw [← grid30_eq]
  refine Eq.trans (b := VC m d (Proc.devRef .tc main_v31)) ((VE_kept m d (by decide)).trans (VD_kept m d (by decide))) ?_
  unfold VC opsB
  after_results
  rfl

/-- The second call's table. -/
theorem tB_eq : (arrs m).tB d = shapeCast S1200000x16 (fmtB (VA m d (Proc.devRef .tc main_v29))) shapeCasts_S6x25000x128_S1200000x16 := by
  rw [← grid32_eq]
  show VE m d (Proc.devRef .tc main_v33) = _
  unfold VE opsC
  after_results
  rfl

/-- Row `slotN n + f * 100000` of the first call's table is table `f`'s row `n`. -/
theorem lookA (f : Fin 14) (n : Fin 100000) (w : Fin 16) (k : Fin 1400000) (hk : k.val = slotN n.val + f.val * 100000) :
    (arrs m).tA d (ix2 k w) = tabs m d (ix3 ⟨f.val, by omega⟩ n w) := by
  have hs := slotN_lt n.isLt
  have hf := fmtRow_slotN n.isLt w.val w.isLt
  rw [tA_eq, flat_at (p := 7) (n := 1400000) _ _ k w (by omega)]
  unfold fmtA
  refine Eq.trans (congrArg _ (eq3 _ (⟨f.val, by omega⟩ : Fin 26) w n ?_ ?_ ?_)) (transposed_at m d _ n w)
  · show 2 * (k.val / 200000) + k.val % 200000 / 8 / 12500 = f.val
    omega
  · show (k.val % 8 * 16 + w.val) % 16 = w.val
    omega
  · show fmtRow (k.val % 200000 / 8 % 12500) (k.val % 8 * 16 + w.val) = n.val
    rw [show k.val % 200000 / 8 % 12500 = slotN n.val / 8 by omega, show k.val % 8 = slotN n.val % 8 by omega, hf]

/-- Row `slotN n + f * 100000` of the second call's table is table `14 + f`'s row `n`. -/
theorem lookB (f : Fin 12) (n : Fin 100000) (w : Fin 16) (k : Fin 1200000) (hk : k.val = slotN n.val + f.val * 100000) :
    (arrs m).tB d (ix2 k w) = tabs m d (ix3 ⟨14 + f.val, by omega⟩ n w) := by
  have hs := slotN_lt n.isLt
  have hf := fmtRow_slotN n.isLt w.val w.isLt
  rw [tB_eq, flat_at (p := 6) (n := 1200000) _ _ k w (by omega)]
  unfold fmtB
  refine Eq.trans (congrArg _ (eq3 _ (⟨14 + f.val, by omega⟩ : Fin 26) w n ?_ ?_ ?_)) (transposed_at m d _ n w)
  · show 14 + 2 * (k.val / 200000) + k.val % 200000 / 8 / 12500 = 14 + f.val
    omega
  · show (k.val % 8 * 16 + w.val) % 16 = w.val
    omega
  · show fmtRow (k.val % 200000 / 8 % 12500) (k.val % 8 * 16 + w.val) = n.val
    rw [show k.val % 200000 / 8 % 12500 = slotN n.val / 8 by omega, show k.val % 8 = slotN n.val % 8 by omega, hf]

/-- The row table `f` gives at the index example `b` has for it. -/
def rowOf (b : Fin 16384) (f : Fin 26) (w : Fin 16) : Elt F .f32 :=
  tabs m d (ix3 f ⟨(idx m d (ix2 b f)).toNat % 100000, Nat.mod_lt _ (by decide)⟩ w)

/-- What the first call gathers. -/
theorem gA_at (hx : ∀ i, (idx m d i).toNat < 100000) (b : Fin 16384) (f : Fin 14) (w : Fin 16) (r : Fin 229376) (hr : r.val = b.val * 14 + f.val) :
    (arrs m).gA d (ix2 r w) = rowOf m d b ⟨f.val, by omega⟩ w := by
  refine lookA m d f ⟨_, Nat.mod_lt _ (by decide)⟩ w _ ?_
  have e := iA_at m d hx r
  rw [show (⟨r.val / 14, by have := r.isLt; omega⟩ : Fin 16384) = b from Fin.ext (by show r.val / 14 = _; omega),
    show (⟨r.val % 14, by omega⟩ : Fin 26) = ⟨f.val, by omega⟩ from Fin.ext (by show r.val % 14 = f.val; omega),
    show r.val % 14 = f.val by omega] at e
  have h := hx (ix2 (a := 16384) (b := 26) b ⟨f.val, by omega⟩)
  have hs := slotN_lt h
  show ((arrs m).iA d (ix2 0 r)).toNat % 1400000 = slotN ((idx m d (ix2 b ⟨f.val, _⟩)).toNat % 100000) + f.val * 100000
  rw [e, Nat.mod_eq_of_lt h, Nat.mod_eq_of_lt (by omega)]

/-- What the second call gathers. -/
theorem gB_at (hx : ∀ i, (idx m d i).toNat < 100000) (b : Fin 16384) (f : Fin 12) (w : Fin 16) (r : Fin 196608) (hr : r.val = b.val * 12 + f.val) :
    (arrs m).gB d (ix2 r w) = rowOf m d b ⟨14 + f.val, by omega⟩ w := by
  refine lookB m d f ⟨_, Nat.mod_lt _ (by decide)⟩ w _ ?_
  have e := iB_at' m d hx r
  rw [show (⟨r.val / 12, by have := r.isLt; omega⟩ : Fin 16384) = b from Fin.ext (by show r.val / 12 = _; omega),
    show (⟨14 + r.val % 12, by omega⟩ : Fin 26) = ⟨14 + f.val, by omega⟩ from Fin.ext (by show 14 + r.val % 12 = 14 + f.val; omega),
    show r.val % 12 = f.val by omega] at e
  have h := hx (ix2 (a := 16384) (b := 26) b ⟨14 + f.val, by omega⟩)
  have hs := slotN_lt h
  show ((arrs m).iB d (ix2 0 r)).toNat % 1200000 = slotN ((idx m d (ix2 b ⟨14 + f.val, _⟩)).toNat % 100000) + f.val * 100000
  rw [e, Nat.mod_eq_of_lt h, Nat.mod_eq_of_lt (by omega)]

/-- Gathered rows of sixteen laid out `k` to an example: example `b`'s entry `j`. -/
theorem wide_at {α : Type} {n k : ℕ} (x : (⟨2, ![n, 16]⟩ : Shape).Idx → α) (h : (⟨2, ![n, 16]⟩ : Shape).ShapeCasts ⟨2, ![16384, k]⟩)
    (b : Fin 16384) (j : Fin k) (r : Fin n) (hr : r.val * 16 + j.val % 16 = b.val * k + j.val) :
    shapeCast ⟨2, ![16384, k]⟩ x h (ix2 b j) = x (ix2 r ⟨j.val % 16, Nat.mod_lt _ (by decide)⟩) :=
  shapeCast_apply x h _ _ ((Shape.rowMajor_val_two _).trans (Eq.trans hr (Shape.rowMajor_val_two (d := ![16384, k]) (ix2 b j)).symm))

/-- The first call's part of the embedding row. -/
theorem host38_at (hx : ∀ i, (idx m d i).toNat < 100000) (b : Fin 16384) (j : Fin 224) :
    VI m d (Proc.devRef .tc main_v38) (ix2 (a := 16384) (b := 224) b j) = rowOf m d b ⟨j.val / 16, by omega⟩ ⟨j.val % 16, Nat.mod_lt _ (by decide)⟩ := by
  have e : VI m d (Proc.devRef .tc main_v38) = shapeCast S16384x224 (VH m d (Proc.devRef .tc main_v35)) shapeCasts_S229376x16_S16384x224 := by
    unfold VI opsE
    after_results
    rfl
  have e2 : VH m d (Proc.devRef .tc main_v35) = (arrs m).gA d :=
    (VH_kept m d (by decide)).trans ((VG_kept m d (by decide)).trans (Function.update_self _ _ _))
  rw [e, e2]
  refine (wide_at (n := 229376) (k := 224) _ _ b j ⟨b.val * 14 + j.val / 16, by omega⟩ (by show (b.val * 14 + j.val / 16) * 16 + j.val % 16 = _; omega)).trans ?_
  exact gA_at m d hx b ⟨j.val / 16, by omega⟩ _ _ rfl

/-- The second call's part of the embedding row. -/
theorem host39_at (hx : ∀ i, (idx m d i).toNat < 100000) (b : Fin 16384) (j : Fin 192) :
    VI m d (Proc.devRef .tc main_v39) (ix2 (a := 16384) (b := 192) b j) = rowOf m d b ⟨14 + j.val / 16, by omega⟩ ⟨j.val % 16, Nat.mod_lt _ (by decide)⟩ := by
  have e : VI m d (Proc.devRef .tc main_v39) = shapeCast S16384x192 (VH m d (Proc.devRef .tc main_v37)) shapeCasts_S196608x16_S16384x192 := by
    unfold VI opsE
    after_results
    rfl
  have e2 : VH m d (Proc.devRef .tc main_v37) = (arrs m).gB d := Function.update_self _ _ _
  rw [e, e2]
  refine (wide_at (n := 196608) (k := 192) _ _ b j ⟨b.val * 12 + j.val / 16, by omega⟩ (by show (b.val * 12 + j.val / 16) * 16 + j.val % 16 = _; omega)).trans ?_
  exact gB_at m d hx b ⟨j.val / 16, by omega⟩ _ _ rfl

/-- The first bias as a row; and so the others. -/
theorem host40_at (q : Fin 256) : VI m d (Proc.devRef .tc main_v40) (ix2 (a := 1) (b := 256) 0 q) = (m (d, Proc.devRef .tc main_arg5) : FVec F S256 .f32) (ix1 q) := by
  have e : VI m d (Proc.devRef .tc main_v40) = shapeCast S1x256 (VH m d (Proc.devRef .tc main_arg5)) shapeCasts_S256_S1x256 := by
    unfold VI opsE
    after_results
    rfl
  rw [e, VH_launch m d (by decide)]
  exact row_line _ _ q
/-- The second bias as a row. -/
theorem host41_at (q : Fin 128) : VI m d (Proc.devRef .tc main_v41) (ix2 (a := 1) (b := 128) 0 q) = (m (d, Proc.devRef .tc main_arg7) : FVec F S128 .f32) (ix1 q) := by
  have e : VI m d (Proc.devRef .tc main_v41) = shapeCast S1x128 (VH m d (Proc.devRef .tc main_arg7)) shapeCasts_S128_S1x128 := by
    unfold VI opsE
    after_results
    rfl
  rw [e, VH_launch m d (by decide)]
  exact row_line _ _ q
/-- The third bias as a row. -/
theorem host42_at (q : Fin 64) : VI m d (Proc.devRef .tc main_v42) (ix2 (a := 1) (b := 64) 0 q) = (m (d, Proc.devRef .tc main_arg9) : FVec F S64 .f32) (ix1 q) := by
  have e : VI m d (Proc.devRef .tc main_v42) = shapeCast S1x64 (VH m d (Proc.devRef .tc main_arg9)) shapeCasts_S64_S1x64 := by
    unfold VI opsE
    after_results
    rfl
  rw [e, VH_launch m d (by decide)]
  exact row_line _ _ q
/-- The last bias as a row. -/
theorem host43_at (q : Fin 1) : VI m d (Proc.devRef .tc main_v43) (ix2 (a := 1) (b := 1) 0 q) = (m (d, Proc.devRef .tc main_arg11) : FVec F S1 .f32) (ix1 q) := by
  have e : VI m d (Proc.devRef .tc main_v43) = shapeCast S1x1 (VH m d (Proc.devRef .tc main_arg11)) shapeCasts_S1_S1x1 := by
    unfold VI opsE
    after_results
    rfl
  rw [e, VH_launch m d (by decide)]
  exact row_line _ _ q

/-- An argument the dense grid reads whole is as at the launch. -/
theorem VI_launch {r : Ref sig .tc} (h : r ∉ written) : VI m d (Proc.devRef .tc r) = m (d, Proc.devRef .tc r) := by
  refine Eq.trans (VI_kept m d fun e => h ?_) (VH_launch m d h)
  simp only [written, List.mem_append, List.mem_cons]
  tauto

end Cert.Proof

end
-- ==== Proof.Spec.lean ====
/-
  The model row by row, over the reals: what one example's score is as a function of its embedding row and the
  weights.
-/
module

public import Idealize.ShloMosaic.PureOps.Ideal

@[expose] public section

noncomputable section

namespace Cert.Proof

open Idealize.ShloMosaic

/-- One cross layer: the embedding times the weighted row sum of `x`, plus the bias, plus `x`. -/
def cross {n : ℕ} (e w b x : Fin n → EReal) : Fin n → EReal := fun j => e j * (∑ k, x k * w k) + b j + x j

/-- One dense layer before its activation. -/
def affine {n k : ℕ} (W : Fin n → Fin k → EReal) (b : Fin k → EReal) (x : Fin n → EReal) : Fin k → EReal :=
  fun j => (∑ i, x i * W i j) + b j

/-- The positive part. -/
def pos {k : ℕ} (x : Fin k → EReal) : Fin k → EReal := fun j => max (x j) 0

/-- The score of one example. -/
def score (e : Fin 416 → EReal) (cw cb : Fin 3 → Fin 416 → EReal) (W1 : Fin 416 → Fin 256 → EReal) (b1 : Fin 256 → EReal)
    (W2 : Fin 256 → Fin 128 → EReal) (b2 : Fin 128 → EReal) (W3 : Fin 128 → Fin 64 → EReal) (b3 : Fin 64 → EReal)
    (wf : Fin 480 → EReal) (bf : EReal) : EReal :=
  Ideal.logistic
    ((∑ j : Fin 416, cross e (cw 2) (cb 2) (cross e (cw 1) (cb 1) (cross e (cw 0) (cb 0) e)) j * wf ⟨j.val, by omega⟩)
      + (∑ i : Fin 64, pos (affine W3 b3 (pos (affine W2 b2 (pos (affine W1 b1 e))))) i * wf ⟨416 + i.val, by omega⟩) + bf)

/-- Scores of equal rows under equal weights are equal. -/
theorem score_congr {e e' : Fin 416 → EReal} {cw cw' cb cb' : Fin 3 → Fin 416 → EReal} {W1 W1' : Fin 416 → Fin 256 → EReal} {b1 b1' : Fin 256 → EReal}
    {W2 W2' : Fin 256 → Fin 128 → EReal} {b2 b2' : Fin 128 → EReal} {W3 W3' : Fin 128 → Fin 64 → EReal} {b3 b3' : Fin 64 → EReal}
    {wf wf' : Fin 480 → EReal} {bf bf' : EReal} (he : e = e') (hcw : ∀ l k, cw l k = cw' l k) (hcb : ∀ l k, cb l k = cb' l k)
    (h1 : ∀ p q, W1 p q = W1' p q) (hb1 : ∀ q, b1 q = b1' q) (h2 : ∀ p q, W2 p q = W2' p q) (hb2 : ∀ q, b2 q = b2' q)
    (h3 : ∀ p q, W3 p q = W3' p q) (hb3 : ∀ q, b3 q = b3' q) (hwf : ∀ k, wf k = wf' k) (hbf : bf = bf') :
    score e cw cb W1 b1 W2 b2 W3 b3 wf bf = score e' cw' cb' W1' b1' W2' b2' W3' b3' wf' bf' := by
  obtain rfl := he
  obtain rfl : cw = cw' := funext fun l => funext (hcw l)
  obtain rfl : cb = cb' := funext fun l => funext (hcb l)
  obtain rfl : W1 = W1' := funext fun p => funext (h1 p)
  obtain rfl : b1 = b1' := funext hb1
  obtain rfl : W2 = W2' := funext fun p => funext (h2 p)
  obtain rfl : b2 = b2' := funext hb2
  obtain rfl : W3 = W3' := funext fun p => funext (h3 p)
  obtain rfl : b3 = b3' := funext hb3
  obtain rfl : wf = wf' := funext hwf
  obtain rfl := hbf
  rfl

end Cert.Proof

end
-- ==== Proof.DenseRow.lean ====
/-
  The dense body read one row at a time, over the reals: each entry it stores is the score of that row.
-/
module

public import proofs.«01_k».proof.Proof.DenseBody
public import proofs.«01_k».proof.Proof.Spec
public import Idealize.ShloMosaic.Lib.MatmulPlain
public import Idealize.ShloMosaic.Lib.Pipeline.Value

@[expose] public section

set_option maxRecDepth 16384

noncomputable section

namespace Cert.Proof

open Cert.KernelIdeal Cert.KernelIdeal.Gen
open Idealize.ShloMosaic

/-- The two spellings of a two-axis index are one. -/
theorem ix2_eq {a b : ℕ} (i : Fin a) (j : Fin b) : ix2 i j = ValueIdx.ix2 i j :=
  funext fun x => by match x with | 0 => rfl | 1 => rfl

/-- A one-row vector spread over all rows reads the row. -/
theorem spread_row {α : Type} {a b : ℕ} (v : (⟨2, ![1, b]⟩ : Shape).Idx → α) (h1 : (⟨2, ![1, b]⟩ : Shape).ShapeCasts ⟨1, ![b]⟩)
    (h2 : (⟨1, ![b]⟩ : Shape).ShapeCasts ⟨2, ![1, b]⟩) (h3 : (⟨2, ![1, b]⟩ : Shape).Broadcasts ⟨2, ![a, b]⟩) (i : Fin a) (j : Fin b) :
    broadcastTo ⟨2, ![a, b]⟩ (shapeCast ⟨2, ![1, b]⟩ (shapeCast ⟨1, ![b]⟩ v h1) h2) h3 (ix2 i j) = v (ix2 0 j) := by
  rw [broadcastTo_apply _ h3 (ix2 i j) (ix2 0 j) (fun x => by
    match x with
    | 0 => rfl
    | 1 =>
      show j.val = if b = 1 then 0 else j.val
      split
      · have := j.isLt; omega
      · rfl)]
  rw [shapeCast_shapeCast]

/-- A column spread over all columns reads the column. -/
theorem spread_col {α : Type} {a b : ℕ} (v : (⟨2, ![a, 1]⟩ : Shape).Idx → α) (h3 : (⟨2, ![a, 1]⟩ : Shape).Broadcasts ⟨2, ![a, b]⟩) (i : Fin a) (j : Fin b) :
    broadcastTo ⟨2, ![a, b]⟩ v h3 (ix2 i j) = v (ix2 i 0) :=
  broadcastTo_apply _ h3 (ix2 i j) (ix2 i 0) (fun x => by
    match x with
    | 0 =>
      show i.val = if a = 1 then 0 else i.val
      split
      · have := i.isLt; omega
      · rfl
    | 1 => rfl)

/-- A row's sum, stood up as a column. -/
theorem row_sum {a b : ℕ} (v : FVec Ideal (⟨2, ![a, b]⟩ : Shape) .f32) (h : (⟨2, ![a, b]⟩ : Shape).Reduces [1] ⟨1, ![a]⟩)
    (hc : (⟨1, ![a]⟩ : Shape).ShapeCasts ⟨2, ![a, 1]⟩) (i : Fin a) :
    shapeCast ⟨2, ![a, 1]⟩ (multiReduction .add [1] ⟨1, ![a]⟩ v 0x00000000#32 h (.inl rfl) rfl) hc (ix2 i 0) = ∑ k : Fin b, v (ix2 i k) := by
  rw [shapeCast_apply _ hc (ix2 i 0) (ValueIdx.ix1 i) (by
    rw [Shape.rowMajor_val_one, Shape.rowMajor_val_two]; show i.val = i.val * 1 + 0; omega)]
  refine (Ideal.multiReduction_add_single v _ h (.inl rfl) rfl (ValueIdx.ix1 i)).trans ?_
  refine Finset.sum_congr rfl fun k _ => congrArg v (funext fun x => Fin.ext ?_)
  match x with
  | 0 => rfl
  | 1 => rfl

/-- A cross layer of the body at a row. -/
theorem cross_at {a b : ℕ} (e x : FVec Ideal (⟨2, ![a, b]⟩ : Shape) .f32) (w c : FVec Ideal (⟨2, ![1, b]⟩ : Shape) .f32)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (h : (⟨2, ![a, b]⟩ : Shape).Reduces [1] ⟨1, ![a]⟩)
    (hc : (⟨1, ![a]⟩ : Shape).ShapeCasts ⟨2, ![a, 1]⟩) (h4 : (⟨2, ![a, 1]⟩ : Shape).Broadcasts ⟨2, ![a, b]⟩) (i : Fin a) (j : Fin b) :
    addf (addf (mulf e (broadcastTo ⟨2, ![a, b]⟩ (shapeCast ⟨2, ![a, 1]⟩ (multiReduction .add [1] ⟨1, ![a]⟩
        (mulf x (broadcastTo ⟨2, ![a, b]⟩ (shapeCast ⟨2, ![1, b]⟩ (shapeCast ⟨1, ![b]⟩ w h1) h2) h3)) 0x00000000#32 h (.inl rfl) rfl) hc) h4))
      (broadcastTo ⟨2, ![a, b]⟩ (shapeCast ⟨2, ![1, b]⟩ (shapeCast ⟨1, ![b]⟩ c h1) h2) h3)) x (ix2 i j)
    = cross (fun k => e (ix2 i k)) (fun k => w (ix2 0 k)) (fun k => c (ix2 0 k)) (fun k => x (ix2 i k)) j := by
  show e (ix2 i j) * broadcastTo _ _ h4 (ix2 i j) + broadcastTo _ _ h3 (ix2 i j) + x (ix2 i j) = _
  rw [spread_col, row_sum, spread_row]
  unfold cross
  refine congrArg (fun s : EReal => e (ix2 i j) * s + c (ix2 0 j) + x (ix2 i j)) (Finset.sum_congr rfl fun k _ => ?_)
  show x (ix2 i k) * broadcastTo _ _ h3 (ix2 i k) = _
  rw [spread_row]

/-- A product into zero at an entry. -/
theorem product_at {a b c : ℕ} {φ₁ φ₂ : FTy} (x : FVec Ideal (⟨2, ![a, b]⟩ : Shape) φ₁) (w : FVec Ideal (⟨2, ![b, c]⟩ : Shape) φ₂) (i : Fin a) (j : Fin c) :
    matmul (DotDims.plain a b c) none x w (constant ⟨2, ![a, c]⟩ .f32 0x00000000#32) (ix2 i j) = ∑ k : Fin b, x (ix2 i k) * w (ix2 k j) := by
  rw [ix2_eq]
  refine (Ideal.matmul_plain_apply none x w (constant ⟨2, ![a, c]⟩ .f32 0x00000000#32) i j).trans ?_
  show Ideal.ofBits .f32 0x00000000#32 + _ = _
  rw [Ideal.ofBits_zero_f32, zero_add]
  exact Finset.sum_congr rfl fun k _ => by rw [ix2_eq, ix2_eq]

/-- A dense layer of the body at a row, before its activation. -/
theorem affine_at {a b c : ℕ} (x : FVec Ideal (⟨2, ![a, b]⟩ : Shape) .f32) (w : FVec Ideal (⟨2, ![b, c]⟩ : Shape) .f32)
    (v : FVec Ideal (⟨2, ![1, c]⟩ : Shape) .f32) (hb : FTy.bf16.bits < FTy.f32.bits)
    (h1 : (⟨2, ![1, c]⟩ : Shape).ShapeCasts ⟨1, ![c]⟩) (h2 : (⟨1, ![c]⟩ : Shape).ShapeCasts ⟨2, ![1, c]⟩)
    (h3 : (⟨2, ![1, c]⟩ : Shape).Broadcasts ⟨2, ![a, c]⟩) (i : Fin a) (j : Fin c) :
    addf (matmul (DotDims.plain a b c) none (truncf .bf16 x hb) (truncf .bf16 w hb) (constant ⟨2, ![a, c]⟩ .f32 0x00000000#32))
      (broadcastTo ⟨2, ![a, c]⟩ (shapeCast ⟨2, ![1, c]⟩ (shapeCast ⟨1, ![c]⟩ v h1) h2) h3) (ix2 i j)
    = affine (fun p q => w (ix2 p q)) (fun q => v (ix2 0 q)) (fun p => x (ix2 i p)) j := by
  show matmul _ _ _ _ _ (ix2 i j) + broadcastTo _ _ h3 (ix2 i j) = _
  rw [spread_row, product_at]
  rfl

/-- A positive part of the body at an entry. -/
theorem pos_at {a c : ℕ} (x : FVec Ideal (⟨2, ![a, c]⟩ : Shape) .f32) (i : Fin a) (j : Fin c) :
    maximumf x (broadcast ⟨2, ![a, c]⟩ (Scalar.ofBits (F := Ideal) .f32 0x00000000#32)) (ix2 i j) = pos (fun q => x (ix2 i q)) j := by
  show max (x (ix2 i j)) (Ideal.ofBits .f32 0x00000000#32) = _
  rw [Ideal.ofBits_zero_f32]
  rfl

/-- The embedding row the body joins from its two blocks. -/
def joined (x1 : S2048x224.Idx → EReal) (x2 : S2048x192.Idx → EReal) (i : Fin 2048) : Fin 416 → EReal :=
  fun j => if h : j.val < 224 then x1 (ix2 i ⟨j.val, h⟩) else x2 (ix2 i ⟨j.val - 224, by omega⟩)

/-- The body's joined block at an entry. -/
theorem pay2_at (x1 : FVec Ideal S2048x224 .f32) (x2 : FVec Ideal S2048x192 .f32) (i : Fin 2048) (j : Fin 416) :
    k4_pay2 (F := Ideal) x1 x2 (ix2 i j) = joined x1 x2 i j := by
  unfold k4_pay2 joined
  rw [shapeCast_self, shapeCast_self]
  split
  · next h =>
    exact concatenate_pair_apply_left 1 x1 x2 _ (ix2 i j) rfl (ix2 i ⟨j.val, h⟩) (fun b => by match b with | 0 => rfl | 1 => rfl)
  · next h =>
    exact concatenate_pair_apply_right 1 x1 x2 _ (ix2 i j) rfl rfl (ix2 i ⟨j.val - 224, by omega⟩)
      (fun b hb => by match b with | 0 => rfl | 1 => exact absurd rfl hb) (by show j.val - 224 + 224 = j.val; omega)

/-- A cross layer on a block. -/
def crossV (e x : FVec Ideal S2048x416 .f32) (w c : FVec Ideal S1x416 .f32) : FVec Ideal S2048x416 .f32 :=
  addf (addf (mulf e (broadcastTo S2048x416 (shapeCast S2048x1 (multiReduction .add [1] S2048
        (mulf x (broadcastTo S2048x416 (shapeCast S1x416 (shapeCast S416 w shapeCasts_S1x416_S416) shapeCasts_S416_S1x416) broadcasts_S1x416_S2048x416))
        0x00000000#32 reduces_S2048x416_S2048 (.inl rfl) rfl) shapeCasts_S2048_S2048x1) broadcasts_S2048x1_S2048x416))
      (broadcastTo S2048x416 (shapeCast S1x416 (shapeCast S416 c shapeCasts_S1x416_S416) shapeCasts_S416_S1x416) broadcasts_S1x416_S2048x416)) x

/-- It is a cross layer on each row. -/
theorem crossV_at (e x : FVec Ideal S2048x416 .f32) (w c : FVec Ideal S1x416 .f32) (i : Fin 2048) (j : Fin 416) :
    crossV e x w c (ix2 i j) = cross (fun k => e (ix2 i k)) (fun k => w (ix2 0 k)) (fun k => c (ix2 0 k)) (fun k => x (ix2 i k)) j := by
  unfold crossV
  exact cross_at (a := 2048) (b := 416) e x w c _ _ _ _ _ _ i j

/-- The first dense layer on a block, before its activation. -/
def affine1 (x : FVec Ideal S2048x416 .f32) (w : FVec Ideal S416x256 .f32) (v : FVec Ideal S1x256 .f32) : FVec Ideal S2048x256 .f32 :=
  addf (matmul dot_S2048x416_S416x256_S2048x256_1_0_0_1_n_n none (truncf .bf16 x bitsLt_bf16_f32) (truncf .bf16 w bitsLt_bf16_f32) (constant S2048x256 .f32 0x00000000#32))
    (broadcastTo S2048x256 (shapeCast S1x256 (shapeCast S256 v shapeCasts_S1x256_S256) shapeCasts_S256_S1x256) broadcasts_S1x256_S2048x256)

/-- The second. -/
def affine2 (x : FVec Ideal S2048x256 .f32) (w : FVec Ideal S256x128 .f32) (v : FVec Ideal S1x128 .f32) : FVec Ideal S2048x128 .f32 :=
  addf (matmul dot_S2048x256_S256x128_S2048x128_1_0_0_1_n_n none (truncf .bf16 x bitsLt_bf16_f32) (truncf .bf16 w bitsLt_bf16_f32) (constant S2048x128 .f32 0x00000000#32))
    (broadcastTo S2048x128 (shapeCast S1x128 (shapeCast S128 v shapeCasts_S1x128_S128) shapeCasts_S128_S1x128) broadcasts_S1x128_S2048x128)

/-- The third. -/
def affine3 (x : FVec Ideal S2048x128 .f32) (w : FVec Ideal S128x64 .f32) (v : FVec Ideal S1x64 .f32) : FVec Ideal S2048x64 .f32 :=
  addf (matmul dot_S2048x128_S128x64_S2048x64_1_0_0_1_n_n none (truncf .bf16 x bitsLt_bf16_f32) (truncf .bf16 w bitsLt_bf16_f32) (constant S2048x64 .f32 0x00000000#32))
    (broadcastTo S2048x64 (shapeCast S1x64 (shapeCast S64 v shapeCasts_S1x64_S64) shapeCasts_S64_S1x64) broadcasts_S1x64_S2048x64)

/-- The positive part of a block. -/
def posV {s : Shape} (x : FVec Ideal s .f32) : FVec Ideal s .f32 := maximumf x (broadcast s (Scalar.ofBits (F := Ideal) .f32 0x00000000#32))

/-- The first dense layer on a row. -/
theorem affine1_at (x : FVec Ideal S2048x416 .f32) (w : FVec Ideal S416x256 .f32) (v : FVec Ideal S1x256 .f32) (i : Fin 2048) (j : Fin 256) :
    affine1 x w v (ix2 i j) = affine (fun p q => w (ix2 p q)) (fun q => v (ix2 0 q)) (fun p => x (ix2 i p)) j :=
  affine_at (a := 2048) (b := 416) (c := 256) x w v _ _ _ _ i j

/-- The second on a row. -/
theorem affine2_at (x : FVec Ideal S2048x256 .f32) (w : FVec Ideal S256x128 .f32) (v : FVec Ideal S1x128 .f32) (i : Fin 2048) (j : Fin 128) :
    affine2 x w v (ix2 i j) = affine (fun p q => w (ix2 p q)) (fun q => v (ix2 0 q)) (fun p => x (ix2 i p)) j :=
  affine_at (a := 2048) (b := 256) (c := 128) x w v _ _ _ _ i j

/-- The third on a row. -/
theorem affine3_at (x : FVec Ideal S2048x128 .f32) (w : FVec Ideal S128x64 .f32) (v : FVec Ideal S1x64 .f32) (i : Fin 2048) (j : Fin 64) :
    affine3 x w v (ix2 i j) = affine (fun p q => w (ix2 p q)) (fun q => v (ix2 0 q)) (fun p => x (ix2 i p)) j :=
  affine_at (a := 2048) (b := 128) (c := 64) x w v _ _ _ _ i j

/-- The positive part on a row. -/
theorem posV_at {a c : ℕ} (x : FVec Ideal (⟨2, ![a, c]⟩ : Shape) .f32) (i : Fin a) (j : Fin c) :
    posV x (ix2 i j) = pos (fun q => x (ix2 i q)) j := pos_at x i j

section Row

variable (x1 : FVec Ideal S2048x224 .f32) (x2 : FVec Ideal S2048x192 .f32) (x3 x4 : S3x416.Idx → EReal)
  (x5 : FVec Ideal S416x256 .f32) (x6 : FVec Ideal S1x256 .f32) (x7 : FVec Ideal S256x128 .f32) (x8 : FVec Ideal S1x128 .f32)
  (x9 : FVec Ideal S128x64 .f32) (x10 : FVec Ideal S1x64 .f32) (x11 : FVec Ideal S480x1 .f32) (x12 : FVec Ideal S1x1 .f32) (i : Fin 2048)

/-- Cross layer `l` on a row, with its weights and bias as rows of two matrices. -/
abbrev layer (l : Fin 3) : (Fin 416 → EReal) → Fin 416 → EReal :=
  cross (joined x1 x2 i) (fun k => x3 (ix2 l k)) (fun k => x4 (ix2 l k))

/-- Cross layer `l` on the body's block. -/
abbrev layerV (l : Fin 3) (x : FVec Ideal S2048x416 .f32) : FVec Ideal S2048x416 .f32 :=
  crossV (k4_pay2 x1 x2) x (row3 (F := Ideal) l x3) (row3 (F := Ideal) l x4)

/-- The body's block after three cross layers. -/
abbrev crossed : FVec Ideal S2048x416 .f32 :=
  layerV x1 x2 x3 x4 2 (layerV x1 x2 x3 x4 1 (layerV x1 x2 x3 x4 0 (k4_pay2 x1 x2)))

/-- The body's block after three dense layers. -/
abbrev dnn : FVec Ideal S2048x64 .f32 :=
  posV (affine3 (posV (affine2 (posV (affine1 (k4_pay2 x1 x2) x5 x6)) x7 x8)) x9 x10)

/-- What the body stores, layer by layer. -/
theorem dense_eq :
    dense (F := Ideal) x1 x2 x3 x4 x5 x6 x7 x8 x9 x10 x11 x12
      = logistic (addf (addf
          (matmul dot_S2048x416_S416x1_S2048x1_1_0_0_1_n_n none (crossed x1 x2 x3 x4) (extractStridedSlice S416x1 ![0, 0] x11 slices_S480x1_o0_0_S416x1) (constant S2048x1 .f32 0x00000000#32))
          (matmul dot_S2048x64_S64x1_S2048x1_1_0_0_1_n_n none (dnn x1 x2 x5 x6 x7 x8 x9 x10) (extractStridedSlice S64x1 ![416, 0] x11 slices_S480x1_o416_0_S64x1) (constant S2048x1 .f32 0x00000000#32)))
          (broadcast S2048x1 (extractAt ![0, 0] x12 inpos_S1x1_p0_0))) := rfl

/-- A cross layer of the body at a row. -/
theorem layerV_at (l : Fin 3) (x : FVec Ideal S2048x416 .f32) (j : Fin 416) :
    layerV x1 x2 x3 x4 l x (ix2 i j) = layer x1 x2 x3 x4 i l (fun k => x (ix2 i k)) j := by
  refine (crossV_at _ _ _ _ i j).trans ?_
  rw [show (fun k => k4_pay2 (F := Ideal) x1 x2 (ix2 i k)) = joined x1 x2 i from funext fun k => pay2_at x1 x2 i k]
  rfl

/-- The three cross layers at a row. -/
theorem crossed_at (j : Fin 416) :
    crossed x1 x2 x3 x4 (ix2 i j) = layer x1 x2 x3 x4 i 2 (layer x1 x2 x3 x4 i 1 (layer x1 x2 x3 x4 i 0 (joined x1 x2 i))) j := by
  refine (layerV_at x1 x2 x3 x4 i 2 _ j).trans (congrArg (fun x => layer x1 x2 x3 x4 i 2 x j) (funext fun k => ?_))
  refine (layerV_at x1 x2 x3 x4 i 1 _ k).trans (congrArg (fun x => layer x1 x2 x3 x4 i 1 x k) (funext fun p => ?_))
  refine (layerV_at x1 x2 x3 x4 i 0 _ p).trans (congrArg (fun x => layer x1 x2 x3 x4 i 0 x p) (funext fun q => ?_))
  exact pay2_at x1 x2 i q

/-- The dense layers at a row. -/
theorem dnn_at (j : Fin 64) :
    dnn x1 x2 x5 x6 x7 x8 x9 x10 (ix2 i j)
      = pos (affine (fun p q => x9 (ix2 p q)) (fun q => x10 (ix2 0 q)) (pos (affine (fun p q => x7 (ix2 p q)) (fun q => x8 (ix2 0 q))
          (pos (affine (fun p q => x5 (ix2 p q)) (fun q => x6 (ix2 0 q)) (joined x1 x2 i)))))) j := by
  refine (posV_at _ i j).trans (congrArg (fun x => pos x j) (funext fun k => ?_))
  refine (affine3_at _ x9 x10 i k).trans (congrArg (fun x => affine _ _ x k) (funext fun p => ?_))
  refine (posV_at _ i p).trans (congrArg (fun x => pos x p) (funext fun q => ?_))
  refine (affine2_at _ x7 x8 i q).trans (congrArg (fun x => affine _ _ x q) (funext fun r => ?_))
  refine (posV_at _ i r).trans (congrArg (fun x => pos x r) (funext fun t => ?_))
  refine (affine1_at _ x5 x6 i t).trans (congrArg (fun x => affine _ _ x t) (funext fun u => ?_))
  exact pay2_at x1 x2 i u

/-- The body's entry of a row is the score of the row. -/
theorem dense_at :
    dense (F := Ideal) x1 x2 x3 x4 x5 x6 x7 x8 x9 x10 x11 x12 (ix2 i 0)
      = score (joined x1 x2 i) (fun l k => x3 (ix2 l k)) (fun l k => x4 (ix2 l k)) (fun p q => x5 (ix2 p q)) (fun q => x6 (ix2 0 q))
          (fun p q => x7 (ix2 p q)) (fun q => x8 (ix2 0 q)) (fun p q => x9 (ix2 p q)) (fun q => x10 (ix2 0 q))
          (fun k => x11 (ix2 k 0)) (x12 (ix2 0 0)) := by
  rw [dense_eq]
  unfold score
  have e1 := product_at (a := 2048) (b := 416) (c := 1) (crossed x1 x2 x3 x4) (extractStridedSlice S416x1 ![0, 0] x11 slices_S480x1_o0_0_S416x1) i 0
  have e2 := product_at (a := 2048) (b := 64) (c := 1) (dnn x1 x2 x5 x6 x7 x8 x9 x10) (extractStridedSlice S64x1 ![416, 0] x11 slices_S480x1_o416_0_S64x1) i 0
  refine congrArg Ideal.logistic (congrArg₂ (fun x y : EReal => x + y) (congrArg₂ (fun x y : EReal => x + y) (e1.trans ?_) (e2.trans ?_)) ?_)
  · refine Finset.sum_congr rfl fun k _ => congrArg₂ (fun x y : EReal => x * y) (crossed_at x1 x2 x3 x4 i k) ?_
    exact extractStridedSlice_apply _ x11 _ _ (ix2 ⟨k.val, by omega⟩ 0) (fun b => by
      match b with
      | 0 => exact (Nat.zero_add _).symm
      | 1 => rfl)
  · refine Finset.sum_congr rfl fun k _ => congrArg₂ (fun x y : EReal => x * y) (dnn_at x1 x2 x5 x6 x7 x8 x9 x10 i k) ?_
    exact extractStridedSlice_apply _ x11 _ _ (ix2 ⟨416 + k.val, by omega⟩ 0) (fun b => by
      match b with
      | 0 => rfl
      | 1 => rfl)
  · exact congrArg x12 (funext fun b => by
      match b with
      | 0 => rfl
      | 1 => rfl)

end Row

end Cert.Proof

end
-- ==== Proof.Model.lean ====
/-
  The model over the arrays: the embedding row of an example, and its score.
-/
module

public import proofs.«01_k».proof.Proof.Format
public import proofs.«01_k».proof.Proof.Spec
public import Idealize.ShloMosaic.Lib.ValueIdx

@[expose] public section

noncomputable section

namespace Cert.Proof

open Idealize.ShloMosaic

/-- A two-axis index with the coordinates `i` and `j`. -/
theorem eq2 {a b : ℕ} (p : (⟨2, ![a, b]⟩ : Shape).Idx) (i : Fin a) (j : Fin b) (h0 : (p 0).val = i.val) (h1 : (p 1).val = j.val) : p = ix2 i j :=
  funext fun x => Fin.ext (by match x with | 0 => exact h0 | 1 => exact h1)

/-- A one-axis index with the coordinate `i`. -/
theorem eq1 {a : ℕ} (p : (⟨1, ![a]⟩ : Shape).Idx) (i : Fin a) (h0 : (p 0).val = i.val) : p = ValueIdx.ix1 i :=
  funext fun x => Fin.ext (by match x with | 0 => exact h0)

/-- The embedding row of example `b`: entry `j` is entry `j % 16` of the row its index names in table `j / 16`. -/
def embed (x0 : (⟨2, ![16384, 26]⟩ : Shape).Idx → BitVec 32) (x1 : (⟨3, ![26, 100000, 16]⟩ : Shape).Idx → EReal) (b : Fin 16384) : Fin 416 → EReal :=
  fun j => x1 (ix3 ⟨j.val / 16, by omega⟩ ⟨(x0 (ix2 b ⟨j.val / 16, by omega⟩)).toNat % 100000, Nat.mod_lt _ (by decide)⟩
    ⟨j.val % 16, Nat.mod_lt _ (by decide)⟩)

/-- The score of example `b`, of the twelve arrays. -/
def model (x0 : (⟨2, ![16384, 26]⟩ : Shape).Idx → BitVec 32) (x1 : (⟨3, ![26, 100000, 16]⟩ : Shape).Idx → EReal)
    (x2 x3 : (⟨2, ![3, 416]⟩ : Shape).Idx → EReal) (x4 : (⟨2, ![416, 256]⟩ : Shape).Idx → EReal) (x5 : (⟨1, ![256]⟩ : Shape).Idx → EReal)
    (x6 : (⟨2, ![256, 128]⟩ : Shape).Idx → EReal) (x7 : (⟨1, ![128]⟩ : Shape).Idx → EReal) (x8 : (⟨2, ![128, 64]⟩ : Shape).Idx → EReal)
    (x9 : (⟨1, ![64]⟩ : Shape).Idx → EReal) (x10 : (⟨2, ![480, 1]⟩ : Shape).Idx → EReal) (x11 : (⟨1, ![1]⟩ : Shape).Idx → EReal)
    (b : Fin 16384) : EReal :=
  score (embed x0 x1 b) (fun l k => x2 (ix2 l k)) (fun l k => x3 (ix2 l k)) (fun p q => x4 (ix2 p q)) (fun q => x5 (ValueIdx.ix1 q))
    (fun p q => x6 (ix2 p q)) (fun q => x7 (ValueIdx.ix1 q)) (fun p q => x8 (ix2 p q)) (fun q => x9 (ValueIdx.ix1 q))
    (fun k => x10 (ix2 k 0)) (x11 (ValueIdx.ix1 0))

end Cert.Proof

end
-- ==== Proof.DenseGrid.lean ====
/-
  The dense grid's result: each block of examples it leaves, and the result's entry for an example.
-/
module

public import proofs.«01_k».proof.Proof.Rows
public import proofs.«01_k».proof.Proof.DenseRow
public import proofs.«01_k».proof.Proof.Model

@[expose] public section

set_option maxRecDepth 16384

noncomputable section

namespace Cert.Proof

open Cert.KernelIdeal Cert.KernelIdeal.Gen
open Idealize.ShloMosaic Idealize.ShloMosaic.Pipeline
open Idealize.SL.Sem

/-- The first two windows and the last move one block of examples at each point. -/
theorem index4_0 : ∀ t : Fin cfg4.N, (cfg4.win 0).index t 0 = t.val ∧ (cfg4.win 0).index t 1 = 0 := by decide +kernel
theorem index4_1 : ∀ t : Fin cfg4.N, (cfg4.win 1).index t 0 = t.val ∧ (cfg4.win 1).index t 1 = 0 := by decide +kernel
theorem index4_12 : ∀ t : Fin cfg4.N, (cfg4.win 12).index t 0 = t.val ∧ (cfg4.win 12).index t 1 = 0 := by decide +kernel

/-- The windows after the first two, but the last, stay at the origin. -/
theorem index4_whole : ∀ (w : Fin 13), 2 ≤ w.val → w.val < 12 → ∀ (t : Fin cfg4.N) a, (cfg4.win w).index t a = 0 := by decide +kernel

/-- So an entry of such a window's block has the same place in its array. -/
theorem emb4_whole (w : Fin 13) (h2 : 2 ≤ w.val) (h12 : w.val < 12) (t : Fin cfg4.N) (y : ((cfg4.win w).xblock (cfg4.grid.coords t)).Idx)
    (a : Fin (cfg4.win w).shape.rank) : (((cfg4.win w).rect t).emb y a : ℕ) = y a :=
  (cfg4.win w).rect_emb_val_of_index_zero t a (index4_whole w h2 h12 t a) y

section Blocks

variable {F : FTy → Type} [FloatOps F]
variable (W : Dev nD → Valuation τ sig (Elt F))

/-- A staged block of the first part of the embedding rows is the array's rows of its examples. -/
theorem stg4_0 (c : Dev nD) (t : Fin cfg4.N) (i : Fin 2048) (j : Fin 224) (b : Fin 16384) (hb : b.val = t.val * 2048 + i.val) :
    stg4 W c 0 t (ix2 i j) = W c (Proc.devRef .tc main_v38) (ix2 (a := 16384) (b := 224) b j) := by
  obtain ⟨e0, e1⟩ := index4_0 t
  show W c (Proc.devRef .tc main_v38) (((cfg4.win 0).blk t).view.emb (ix2 i j)) = _
  refine congrArg (W c (Proc.devRef .tc main_v38)) (funext fun x => Fin.ext ?_)
  refine (Pipeline.Window.rect_emb_val (cfg4.win 0) t (ix2 i j) x).trans ?_
  match x with
  | 0 => rw [e0]; show t.val * 2048 + i.val = b.val; omega
  | 1 => rw [e1]; show 0 * 224 + j.val = j.val; omega

/-- So is a block of the second part. -/
theorem stg4_1 (c : Dev nD) (t : Fin cfg4.N) (i : Fin 2048) (j : Fin 192) (b : Fin 16384) (hb : b.val = t.val * 2048 + i.val) :
    stg4 W c 1 t (ix2 i j) = W c (Proc.devRef .tc main_v39) (ix2 (a := 16384) (b := 192) b j) := by
  obtain ⟨e0, e1⟩ := index4_1 t
  show W c (Proc.devRef .tc main_v39) (((cfg4.win 1).blk t).view.emb (ix2 i j)) = _
  refine congrArg (W c (Proc.devRef .tc main_v39)) (funext fun x => Fin.ext ?_)
  refine (Pipeline.Window.rect_emb_val (cfg4.win 1) t (ix2 i j) x).trans ?_
  match x with
  | 0 => rw [e0]; show t.val * 2048 + i.val = b.val; omega
  | 1 => rw [e1]; show 0 * 192 + j.val = j.val; omega

/-- Where an entry of a block of logits sits in the result. -/
theorem emb4_12 (t : Fin cfg4.N) (i : Fin 2048) (j : Fin 1) :
    ((cfg4.win 12).blk t).view.emb (ix2 i j) = ix2 (a := 16384) (b := 1) ⟨t.val * 2048 + i.val, by have : t.val < 8 := t.isLt; omega⟩ j := by
  obtain ⟨e0, e1⟩ := index4_12 t
  refine funext fun x => Fin.ext ((Pipeline.Window.rect_emb_val (cfg4.win 12) t (ix2 i j) x).trans ?_)
  match x with
  | 0 => rw [e0]; show t.val * 2048 + i.val = t.val * 2048 + i.val; rfl
  | 1 => rw [e1]; show 0 * 1 + j.val = j.val; omega

/-- The result the dense grid leaves: each example's entry, from the block it falls in. -/
def outOf (c : Dev nD) : S16384x1.Idx → Elt F .f32 := fun y =>
  logits W c ⟨(y 0).val / 2048, by have : (y 0).val < 16384 := (y 0).isLt; show _ < 8; omega⟩
    (ix2 (a := 2048) (b := 1) ⟨(y 0).val % 2048, Nat.mod_lt _ (by decide)⟩ (y 1))

/-- What the dense grid leaves in its output array. -/
theorem arr4 (c : Dev nD) : (dat4 W c).arrAt 12 cfg4.N = outOf W c := by
  refine (dat4 W c).arrAt_eq_of_cover 12 _ (fun t _ => ?_) fun i => ?_
  · show logits W c t = _
    funext y
    obtain ⟨y0, y1, rfl⟩ : ∃ y0 y1, y = ix2 (a := 2048) (b := 1) y0 y1 := ⟨_, _, eq_ix2 y⟩
    show _ = outOf W c (((cfg4.win 12).blk t).view.emb (ix2 y0 y1))
    rw [emb4_12]
    unfold outOf
    have e1 : (⟨(t.val * 2048 + y0.val) / 2048, by have : t.val < 8 := t.isLt; show _ < 8; omega⟩ : Fin cfg4.N) = t :=
      Fin.ext (by show (t.val * 2048 + y0.val) / 2048 = t.val; omega)
    have e2 : (⟨(t.val * 2048 + y0.val) % 2048, Nat.mod_lt _ (by decide)⟩ : Fin 2048) = y0 :=
      Fin.ext (by show (t.val * 2048 + y0.val) % 2048 = y0.val; omega)
    exact (congrArg₂ (fun t i => logits W c t (ix2 (a := 2048) (b := 1) i y1)) e1 e2).symm
  · obtain ⟨y0, y1, rfl⟩ : ∃ y0 y1, i = ix2 (a := 16384) (b := 1) y0 y1 := ⟨_, _, eq_ix2 i⟩
    refine ⟨⟨y0.val / 2048, by show _ < 8; omega⟩, flush4_12 _, ?_⟩
    have := ((cfg4.win 12).blk ⟨y0.val / 2048, by show _ < 8; omega⟩).view.emb_mem_set (ix2 (a := 2048) (b := 1) ⟨y0.val % 2048, Nat.mod_lt _ (by decide)⟩ y1)
    rw [emb4_12] at this
    rw [show (⟨y0.val / 2048 * 2048 + y0.val % 2048, by omega⟩ : Fin 16384) = y0 from Fin.ext (by show y0.val / 2048 * 2048 + y0.val % 2048 = y0.val; omega)] at this
    exact this

end Blocks

variable (m : (ℓ : Loc nD τ sig) → Buf (Elt Ideal) ℓ) (d : Dev nD)

/-- The two halves of a staged embedding row are the model's embedding row. -/
theorem joined_embed (hx : ∀ i, (idx m d i).toNat < 100000) (t : Fin cfg4.N) (i : Fin 2048) (b : Fin 16384) (hb : b.val = t.val * 2048 + i.val) :
    joined (stg4 (VI m) d 0 t) (stg4 (VI m) d 1 t) i = embed (idx m d) (tabs m d) b := by
  funext j
  unfold joined embed
  split
  · next h => exact (stg4_0 (VI m) d t i ⟨j.val, h⟩ b hb).trans (host38_at m d hx b ⟨j.val, h⟩)
  · next h =>
    refine (stg4_1 (VI m) d t i ⟨j.val - 224, by omega⟩ b hb).trans ((host39_at m d hx b ⟨j.val - 224, by omega⟩).trans ?_)
    exact congrArg₂ (rowOf m d b) (Fin.ext (by show 14 + (j.val - 224) / 16 = j.val / 16; omega)) (Fin.ext (by show (j.val - 224) % 16 = j.val % 16; omega))

/-- The model's score of example `b`, of the arguments at the launch. -/
abbrev scoreOf (b : Fin 16384) : EReal :=
  model (m (d, Proc.devRef .tc main_arg0)) (m (d, Proc.devRef .tc main_arg1)) (m (d, Proc.devRef .tc main_arg2)) (m (d, Proc.devRef .tc main_arg3))
    (m (d, Proc.devRef .tc main_arg4)) (m (d, Proc.devRef .tc main_arg5)) (m (d, Proc.devRef .tc main_arg6)) (m (d, Proc.devRef .tc main_arg7))
    (m (d, Proc.devRef .tc main_arg8)) (m (d, Proc.devRef .tc main_arg9)) (m (d, Proc.devRef .tc main_arg10)) (m (d, Proc.devRef .tc main_arg11)) b

set_option maxHeartbeats 4000000 in
/-- A row of a block of logits is the model's score of the example it stands for: the windows after the first two hold
    their whole arrays. -/
theorem logits_at (hx : ∀ i, (idx m d i).toNat < 100000) (t : Fin cfg4.N) (i : Fin 2048) (b : Fin 16384) (hb : b.val = t.val * 2048 + i.val) :
    logits (VI m) d t (ix2 (a := 2048) (b := 1) i 0) = scoreOf m d b := by
  have s2 : (stg4 (VI m) d 2 t : S3x416.Idx → EReal) = VI m d (Proc.devRef .tc main_arg2) :=
    funext fun y => congrArg (VI m d (Proc.devRef .tc main_arg2)) (funext fun a => Fin.ext (emb4_whole 2 (by decide) (by decide) t y a))
  have s3 : (stg4 (VI m) d 3 t : S3x416.Idx → EReal) = VI m d (Proc.devRef .tc main_arg3) :=
    funext fun y => congrArg (VI m d (Proc.devRef .tc main_arg3)) (funext fun a => Fin.ext (emb4_whole 3 (by decide) (by decide) t y a))
  have s4 : (stg4 (VI m) d 4 t : S416x256.Idx → EReal) = VI m d (Proc.devRef .tc main_arg4) :=
    funext fun y => congrArg (VI m d (Proc.devRef .tc main_arg4)) (funext fun a => Fin.ext (emb4_whole 4 (by decide) (by decide) t y a))
  have s5 : (stg4 (VI m) d 5 t : S1x256.Idx → EReal) = VI m d (Proc.devRef .tc main_v40) :=
    funext fun y => congrArg (VI m d (Proc.devRef .tc main_v40)) (funext fun a => Fin.ext (emb4_whole 5 (by decide) (by decide) t y a))
  have s6 : (stg4 (VI m) d 6 t : S256x128.Idx → EReal) = VI m d (Proc.devRef .tc main_arg6) :=
    funext fun y => congrArg (VI m d (Proc.devRef .tc main_arg6)) (funext fun a => Fin.ext (emb4_whole 6 (by decide) (by decide) t y a))
  have s7 : (stg4 (VI m) d 7 t : S1x128.Idx → EReal) = VI m d (Proc.devRef .tc main_v41) :=
    funext fun y => congrArg (VI m d (Proc.devRef .tc main_v41)) (funext fun a => Fin.ext (emb4_whole 7 (by decide) (by decide) t y a))
  have s8 : (stg4 (VI m) d 8 t : S128x64.Idx → EReal) = VI m d (Proc.devRef .tc main_arg8) :=
    funext fun y => congrArg (VI m d (Proc.devRef .tc main_arg8)) (funext fun a => Fin.ext (emb4_whole 8 (by decide) (by decide) t y a))
  have s9 : (stg4 (VI m) d 9 t : S1x64.Idx → EReal) = VI m d (Proc.devRef .tc main_v42) :=
    funext fun y => congrArg (VI m d (Proc.devRef .tc main_v42)) (funext fun a => Fin.ext (emb4_whole 9 (by decide) (by decide) t y a))
  have s10 : (stg4 (VI m) d 10 t : S480x1.Idx → EReal) = VI m d (Proc.devRef .tc main_arg10) :=
    funext fun y => congrArg (VI m d (Proc.devRef .tc main_arg10)) (funext fun a => Fin.ext (emb4_whole 10 (by decide) (by decide) t y a))
  have s11 : (stg4 (VI m) d 11 t : S1x1.Idx → EReal) = VI m d (Proc.devRef .tc main_v43) :=
    funext fun y => congrArg (VI m d (Proc.devRef .tc main_v43)) (funext fun a => Fin.ext (emb4_whole 11 (by decide) (by decide) t y a))
  rw [VI_launch m d (r := main_arg2) (by decide)] at s2
  rw [VI_launch m d (r := main_arg3) (by decide)] at s3
  rw [VI_launch m d (r := main_arg4) (by decide)] at s4
  rw [VI_launch m d (r := main_arg6) (by decide)] at s6
  rw [VI_launch m d (r := main_arg8) (by decide)] at s8
  rw [VI_launch m d (r := main_arg10) (by decide)] at s10
  refine (dense_at _ _ _ _ _ _ _ _ _ _ _ _ i).trans ?_
  unfold scoreOf model
  refine score_congr (joined_embed m d hx t i b hb) (fun l k => congrFun s2 (ix2 l k)) (fun l k => congrFun s3 (ix2 l k))
    (fun p q => congrFun s4 (ix2 p q)) (fun q => (congrFun s5 (ix2 0 q)).trans ((host40_at m d q).trans (congrArg (m (d, Proc.devRef .tc main_arg5)) (eq1 (ix1 q) q rfl))))
    (fun p q => congrFun s6 (ix2 p q)) (fun q => (congrFun s7 (ix2 0 q)).trans ((host41_at m d q).trans (congrArg (m (d, Proc.devRef .tc main_arg7)) (eq1 (ix1 q) q rfl))))
    (fun p q => congrFun s8 (ix2 p q)) (fun q => (congrFun s9 (ix2 0 q)).trans ((host42_at m d q).trans (congrArg (m (d, Proc.devRef .tc main_arg9)) (eq1 (ix1 q) q rfl))))
    (fun k => congrFun s10 (ix2 k 0)) ((congrFun s11 (ix2 0 0)).trans ((host43_at m d 0).trans (congrArg (m (d, Proc.devRef .tc main_arg11)) (eq1 (ix1 (0 : Fin 1)) 0 rfl))))

/-- The kernel's result: every example's score. -/
theorem result_at (hx : ∀ i, (idx m d i).toNat < 100000) :
    VJ m d (Proc.devRef .tc main_v44) = fun y : S16384x1.Idx => scoreOf m d (y 0) := by
  refine ((afterRegion_arr (dat4 (VI m) d) _ launch4.win.arr_inj 12).trans (arr4 (VI m) d)).trans (funext fun y => ?_)
  obtain ⟨b, u, rfl⟩ : ∃ b u, y = ix2 (a := 16384) (b := 1) b u := ⟨_, _, eq_ix2 y⟩
  obtain rfl : u = 0 := Subsingleton.elim _ _
  exact logits_at m d hx ⟨b.val / 2048, by show _ < 8; omega⟩ ⟨b.val % 2048, Nat.mod_lt _ (by decide)⟩ b
    (by show b.val = b.val / 2048 * 2048 + b.val % 2048; omega)

end Cert.Proof

end
-- ==== Proof.RefRow.lean ====
/-
  The reference read one example at a time: its result's entry is the model's score.
-/
module

public import proofs.«01_k».proof.Proof.Model
public import proofs.«01_k».proof.Proof.Gen.ReferenceIdeal.Read
public import Idealize.ShloMosaic.Lib.IdealHost

@[expose] public section

set_option maxRecDepth 16384

noncomputable section

namespace Cert.Proof

open Cert.ReferenceIdeal Cert.ReferenceIdeal.Gen Cert.ReferenceIdeal.Read
open Idealize.ShloMosaic

/-- The indexing of the tables by pairs of a table and a row, at an entry. -/
theorem pairs_at {α : Type} (x : S26x100000x16.Idx → α) (p : IVec S16384x26x2 32) (b : Fin 16384) (f : Fin 26) (w : Fin 16) :
    Host.gather gather_S26x100000x16_S16384x26x2_S16384x26x16_2_01_n_n_01_2_1116 x p (ix3 b f w)
      = x (ix3 ⟨min (p (ix3 b f 0)).toInt.toNat 25, by omega⟩ ⟨min (p (ix3 b f 1)).toInt.toNat 99999, by omega⟩ w) := by
  unfold Host.gather
  refine congrArg x (funext fun a => Fin.ext ?_)
  show GatherDims.start _ _ p a + GatherDims.batchCoord _ _ a + GatherDims.offCoord _ _ a = _
  rw [GatherDims.batchCoord_eq_zero _ _ _ List.not_mem_nil, Nat.add_zero]
  have hsi : ∀ (k : Fin 2), GatherDims.siIdx gather_S26x100000x16_S16384x26x2_S16384x26x16_2_01_n_n_01_2_1116 (ix3 b f w) k = ix3 b f k := by
    intro k
    funext q
    match q with
    | 0 => rfl
    | 1 => rfl
    | 2 => rfl
  match a with
  | 0 =>
    rw [GatherDims.offCoord_eq_zero _ _ _ (fun h => ((GatherDims.mem_sKept _ _).mp h).1 (by decide)), Nat.add_zero]
    unfold GatherDims.start
    rw [dif_pos (by decide)]
    exact congrArg (fun q => min (p q).toInt.toNat 25) (hsi 0)
  | 1 =>
    rw [GatherDims.offCoord_eq_zero _ _ _ (fun h => ((GatherDims.mem_sKept _ _).mp h).1 (by decide)), Nat.add_zero]
    unfold GatherDims.start
    rw [dif_pos (by decide)]
    exact congrArg (fun q => min (p q).toInt.toNat 99999) (hsi 1)
  | 2 =>
    unfold GatherDims.start
    rw [dif_neg (by decide), Nat.zero_add]
    unfold GatherDims.offCoord
    rw [dif_pos (by decide)]
    rfl

/-- The table's number in a pair. -/
theorem table_at (f : Fin 26) : (val_main_v6 (F := Ideal) (ix2 0 f)).toInt.toNat = f.val := by
  rw [val_main_v6_apply, val_main_v3_apply, val_main_v5_apply, val_main_v2_apply, val_main_v4_apply, val_main_v1_apply, val_main_v0_apply, val_main_c_apply, val_main_c_0_apply]
  show (Scalar.select (IntOp.cmpi .slt (BitVec.ofNat 32 f.val) 0#32) (IntOp.addi (BitVec.ofNat 32 f.val) 26#32) (BitVec.ofNat 32 f.val)).toInt.toNat = f.val
  revert f
  decide

/-- The row's number in a pair. -/
theorem row_at (x0 : S16384x26.Idx → BitVec 32) (i : S16384x26.Idx) (h : (x0 i).toNat < 100000) :
    (val_main_v11 (F := Ideal) x0 i).toInt.toNat = (x0 i).toNat := by
  have hi : (x0 i).toInt = (x0 i).toNat := by rw [BitVec.toInt_eq_toNat_cond]; split <;> omega
  have hs : val_main_v8 (F := Ideal) x0 i = 0#1 := by
    rw [val_main_v8_apply, val_main_v7_apply, val_main_c_1_apply]
    show BitVec.ofBool ((x0 i).slt 0#32) = 0#1
    rw [BitVec.slt_eq_decide, hi]
    have : ¬ (((x0 i).toNat : Int) < (0#32).toInt) := by simp
    rw [decide_eq_false this]
    rfl
  rw [val_main_v11_apply, hs]
  show (x0 i).toInt.toNat = _
  omega

section Rows

variable (x0 : S16384x26.Idx → BitVec 32) (x1 : S26x100000x16.Idx → EReal) (x2 x3 : S3x416.Idx → EReal)
  (x4 : S416x256.Idx → EReal) (x5 : S256.Idx → EReal) (x6 : S256x128.Idx → EReal) (x7 : S128.Idx → EReal)
  (x8 : S128x64.Idx → EReal) (x9 : S64.Idx → EReal) (x10 : S480x1.Idx → EReal) (x11 : S1.Idx → EReal) (b : Fin 16384)

/-- The reference's embedding row. -/
theorem v17_at (hx : ∀ i, (x0 i).toNat < 100000) (j : Fin 416) : val_main_v17 (F := Ideal) x0 x1 (ix2 b j) = embed x0 x1 b j := by
  have hj := j.isLt
  have hb := b.isLt
  rw [val_main_v17_apply]
  have ei : idx_main_v17 (ix2 b j) = ix3 b ⟨j.val / 16, by omega⟩ ⟨j.val % 16, Nat.mod_lt _ (by decide)⟩ := funext fun x => Fin.ext (by
    match x with
    | 0 => show (b.val * 416 + j.val) / 416 = b.val; omega
    | 1 => show (b.val * 416 + j.val) / 16 % 26 = j.val / 16; omega
    | 2 => show (b.val * 416 + j.val) % 16 = j.val % 16; omega)
  rw [ei]
  unfold val_main_v16
  rw [pairs_at]
  unfold embed
  have e0 : val_main_v15 (F := Ideal) x0 (ix3 b ⟨j.val / 16, by omega⟩ 0) = val_main_v6 (F := Ideal) (ix2 0 ⟨j.val / 16, by omega⟩) := by
    unfold val_main_v15
    refine (concatenate_pair_apply_left (t := S16384x26x2) (s₁ := S16384x26x1) (s₂ := S16384x26x1) 2 (val_main_v13 (F := Ideal)) (val_main_v14 (F := Ideal) x0) _
      (ix3 (a := 16384) (b := 26) (c := 2) b ⟨j.val / 16, by omega⟩ 0) rfl (ix3 (a := 16384) (b := 26) (c := 1) b ⟨j.val / 16, by omega⟩ 0) (fun b => by match b with | 0 => rfl | 1 => rfl | 2 => rfl)).trans ?_
    rw [val_main_v13_apply, val_main_v12_apply]
    exact congrArg _ (eq2 _ _ _ rfl rfl)
  have e1 : val_main_v15 (F := Ideal) x0 (ix3 b ⟨j.val / 16, by omega⟩ 1) = val_main_v11 (F := Ideal) x0 (ix2 b ⟨j.val / 16, by omega⟩) := by
    unfold val_main_v15
    refine (concatenate_pair_apply_right (t := S16384x26x2) (s₁ := S16384x26x1) (s₂ := S16384x26x1) 2 (val_main_v13 (F := Ideal)) (val_main_v14 (F := Ideal) x0) _
      (ix3 (a := 16384) (b := 26) (c := 2) b ⟨j.val / 16, by omega⟩ 1) rfl rfl (ix3 (a := 16384) (b := 26) (c := 1) b ⟨j.val / 16, by omega⟩ 0)
      (fun b hb => by match b with | 0 => rfl | 1 => rfl | 2 => exact absurd rfl hb) rfl).trans ?_
    rw [val_main_v14_apply]
    exact congrArg _ (eq2 _ _ _ rfl rfl)
  refine congrArg x1 (funext fun x => Fin.ext ?_)
  have h := hx (ix2 b ⟨j.val / 16, by omega⟩)
  match x with
  | 0 =>
    show min (val_main_v15 (F := Ideal) x0 _).toInt.toNat 25 = j.val / 16
    rw [e0, table_at]
    show min (j.val / 16) 25 = j.val / 16
    omega
  | 1 =>
    show min (val_main_v15 (F := Ideal) x0 _).toInt.toNat 99999 = (x0 (ix2 b ⟨j.val / 16, by omega⟩)).toNat % 100000
    rw [e1, row_at x0 _ h]
    omega
  | 2 => rfl

/-- The reference's first cross layer at an example. -/
theorem v29_at (j : Fin 416) : val_main_v29 (F := Ideal) x0 x1 x2 x3 (ix2 b j)
    = cross (fun k => val_main_v17 (F := Ideal) x0 x1 (ix2 b k)) (fun k => x2 (ix2 0 k)) (fun k => x3 (ix2 0 k)) (fun k => val_main_v17 (F := Ideal) x0 x1 (ix2 b k)) j := by
  rw [val_main_v29_apply, val_main_v28_apply, val_main_v23_apply, val_main_v22_apply, val_main_v21_apply, val_main_v20_apply, val_main_v27_apply,
    val_main_v26_apply, val_main_v25_apply, val_main_v24_apply]
  refine congrArg₂ (fun s c : EReal => val_main_v17 (F := Ideal) x0 x1 (ix2 b j) * s + c + val_main_v17 (F := Ideal) x0 x1 (ix2 b j))
    (Finset.sum_congr rfl fun k _ => ?_) (congrArg x3 (eq2 _ _ _ rfl (Nat.mod_eq_of_lt j.isLt)))
  rw [val_main_v19_apply, val_main_v18_apply]
  exact congrArg₂ (fun s c : EReal => s * c) (congrArg (val_main_v17 (F := Ideal) x0 x1) (eq2 _ _ _ rfl rfl)) (congrArg x2 (eq2 _ _ _ rfl (Nat.mod_eq_of_lt k.isLt)))

/-- The second. -/
theorem v41_at (j : Fin 416) : val_main_v41 (F := Ideal) x0 x1 x2 x3 (ix2 b j)
    = cross (fun k => val_main_v17 (F := Ideal) x0 x1 (ix2 b k)) (fun k => x2 (ix2 1 k)) (fun k => x3 (ix2 1 k)) (fun k => val_main_v29 (F := Ideal) x0 x1 x2 x3 (ix2 b k)) j := by
  rw [val_main_v41_apply, val_main_v40_apply, val_main_v35_apply, val_main_v34_apply, val_main_v33_apply, val_main_v32_apply, val_main_v39_apply,
    val_main_v38_apply, val_main_v37_apply, val_main_v36_apply]
  refine congrArg₂ (fun s c : EReal => val_main_v17 (F := Ideal) x0 x1 (ix2 b j) * s + c + val_main_v29 (F := Ideal) x0 x1 x2 x3 (ix2 b j))
    (Finset.sum_congr rfl fun k _ => ?_) (congrArg x3 (eq2 _ _ _ rfl (Nat.mod_eq_of_lt j.isLt)))
  rw [val_main_v31_apply, val_main_v30_apply]
  exact congrArg₂ (fun s c : EReal => s * c) (congrArg (val_main_v29 (F := Ideal) x0 x1 x2 x3) (eq2 _ _ _ rfl rfl)) (congrArg x2 (eq2 _ _ _ rfl (Nat.mod_eq_of_lt k.isLt)))

/-- The third. -/
theorem v53_at (j : Fin 416) : val_main_v53 (F := Ideal) x0 x1 x2 x3 (ix2 b j)
    = cross (fun k => val_main_v17 (F := Ideal) x0 x1 (ix2 b k)) (fun k => x2 (ix2 2 k)) (fun k => x3 (ix2 2 k)) (fun k => val_main_v41 (F := Ideal) x0 x1 x2 x3 (ix2 b k)) j := by
  rw [val_main_v53_apply, val_main_v52_apply, val_main_v47_apply, val_main_v46_apply, val_main_v45_apply, val_main_v44_apply, val_main_v51_apply,
    val_main_v50_apply, val_main_v49_apply, val_main_v48_apply]
  refine congrArg₂ (fun s c : EReal => val_main_v17 (F := Ideal) x0 x1 (ix2 b j) * s + c + val_main_v41 (F := Ideal) x0 x1 x2 x3 (ix2 b j))
    (Finset.sum_congr rfl fun k _ => ?_) (congrArg x3 (eq2 _ _ _ rfl (Nat.mod_eq_of_lt j.isLt)))
  rw [val_main_v43_apply, val_main_v42_apply]
  exact congrArg₂ (fun s c : EReal => s * c) (congrArg (val_main_v41 (F := Ideal) x0 x1 x2 x3) (eq2 _ _ _ rfl rfl)) (congrArg x2 (eq2 _ _ _ rfl (Nat.mod_eq_of_lt k.isLt)))

/-- The reference's first dense layer at an example. -/
theorem v58_at (j : Fin 256) : val_main_v58 (F := Ideal) x0 x1 x4 x5 (ix2 b j)
    = pos (affine (fun p q => x4 (ix2 p q)) (fun q => x5 (ValueIdx.ix1 q)) (fun k => val_main_v17 (F := Ideal) x0 x1 (ix2 b k))) j := by
  rw [val_main_v58_apply, val_main_v57_apply, val_main_v54_apply, val_main_v56_apply, val_main_v55_apply, val_main_call0_v0_apply, val_main_call0_cst_apply]
  refine congrArg₂ (fun s z : EReal => max s z) (congrArg₂ (fun s c : EReal => s + c) (Finset.sum_congr rfl fun k _ => ?_) (congrArg x5 (eq1 _ _ rfl))) Ideal.ofBits_zero_f32
  exact congrArg₂ (fun s c : EReal => s * c) (congrArg (val_main_v17 (F := Ideal) x0 x1) (eq2 _ _ _ rfl rfl)) (congrArg x4 (eq2 _ _ _ rfl rfl))

/-- The second. -/
theorem v63_at (j : Fin 128) : val_main_v63 (F := Ideal) x0 x1 x4 x5 x6 x7 (ix2 b j)
    = pos (affine (fun p q => x6 (ix2 p q)) (fun q => x7 (ValueIdx.ix1 q)) (fun k => val_main_v58 (F := Ideal) x0 x1 x4 x5 (ix2 b k))) j := by
  rw [val_main_v63_apply, val_main_v62_apply, val_main_v59_apply, val_main_v61_apply, val_main_v60_apply, val_main_call1_v0_apply, val_main_call1_cst_apply]
  refine congrArg₂ (fun s z : EReal => max s z) (congrArg₂ (fun s c : EReal => s + c) (Finset.sum_congr rfl fun k _ => ?_) (congrArg x7 (eq1 _ _ rfl))) Ideal.ofBits_zero_f32
  exact congrArg₂ (fun s c : EReal => s * c) (congrArg (val_main_v58 (F := Ideal) x0 x1 x4 x5) (eq2 _ _ _ rfl rfl)) (congrArg x6 (eq2 _ _ _ rfl rfl))

/-- The third. -/
theorem v68_at (j : Fin 64) : val_main_v68 (F := Ideal) x0 x1 x4 x5 x6 x7 x8 x9 (ix2 b j)
    = pos (affine (fun p q => x8 (ix2 p q)) (fun q => x9 (ValueIdx.ix1 q)) (fun k => val_main_v63 (F := Ideal) x0 x1 x4 x5 x6 x7 (ix2 b k))) j := by
  rw [val_main_v68_apply, val_main_v67_apply, val_main_v64_apply, val_main_v66_apply, val_main_v65_apply, val_main_call2_v0_apply, val_main_call2_cst_apply]
  refine congrArg₂ (fun s z : EReal => max s z) (congrArg₂ (fun s c : EReal => s + c) (Finset.sum_congr rfl fun k _ => ?_) (congrArg x9 (eq1 _ _ rfl))) Ideal.ofBits_zero_f32
  exact congrArg₂ (fun s c : EReal => s * c) (congrArg (val_main_v63 (F := Ideal) x0 x1 x4 x5 x6 x7) (eq2 _ _ _ rfl rfl)) (congrArg x8 (eq2 _ _ _ rfl rfl))

/-- The reference's cross layers at an example. -/
theorem crosses_at (hx : ∀ i, (x0 i).toNat < 100000) (j : Fin 416) : val_main_v53 (F := Ideal) x0 x1 x2 x3 (ix2 b j)
    = cross (embed x0 x1 b) (fun k => x2 (ix2 2 k)) (fun k => x3 (ix2 2 k)) (cross (embed x0 x1 b) (fun k => x2 (ix2 1 k)) (fun k => x3 (ix2 1 k))
        (cross (embed x0 x1 b) (fun k => x2 (ix2 0 k)) (fun k => x3 (ix2 0 k)) (embed x0 x1 b))) j := by
  rw [v53_at, funext fun k => v41_at x0 x1 x2 x3 b k, funext fun k => v29_at x0 x1 x2 x3 b k, funext fun k => v17_at x0 x1 b hx k]

/-- The reference's dense layers at an example. -/
theorem denses_at (hx : ∀ i, (x0 i).toNat < 100000) (j : Fin 64) : val_main_v68 (F := Ideal) x0 x1 x4 x5 x6 x7 x8 x9 (ix2 b j)
    = pos (affine (fun p q => x8 (ix2 p q)) (fun q => x9 (ValueIdx.ix1 q)) (pos (affine (fun p q => x6 (ix2 p q)) (fun q => x7 (ValueIdx.ix1 q))
        (pos (affine (fun p q => x4 (ix2 p q)) (fun q => x5 (ValueIdx.ix1 q)) (embed x0 x1 b)))))) j := by
  rw [v68_at, funext fun k => v63_at x0 x1 x4 x5 x6 x7 b k, funext fun k => v58_at x0 x1 x4 x5 b k, funext fun k => v17_at x0 x1 b hx k]

/-- The reference's result at an example is the model's score. -/
theorem reference_at (hx : ∀ i, (x0 i).toNat < 100000) :
    val_main_v79 (F := Ideal) x0 x1 x2 x3 x4 x5 x6 x7 x8 x9 x10 x11 (ix2 b 0) = model x0 x1 x2 x3 x4 x5 x6 x7 x8 x9 x10 x11 b := by
  rw [val_main_v79_apply, val_main_v78_apply, val_main_v77_apply, val_main_v76_apply, val_main_v75_apply, val_main_v74_apply, val_main_v73_apply,
    val_main_v70_apply, val_main_v72_apply, val_main_v71_apply, val_main_cst_apply, val_main_cst_3_apply]
  show Ideal.div (Ideal.ofBits .f32 0x3F800000#32) (Ideal.ofBits .f32 0x3F800000#32 + Ideal.exp (-((∑ k : Fin 480, _) + x11 _))) = _
  rw [Ideal.ofBits_one_f32]
  unfold model score Ideal.logistic
  refine congrArg (fun z : EReal => Ideal.div 1 (1 + Ideal.exp (-z))) (congrArg₂ (fun s c : EReal => s + c) ?_ (congrArg x11 (eq1 _ _ rfl)))
  rw [Fin.sum_univ_add (a := 416) (b := 64)]
  refine congrArg₂ (fun s c : EReal => s + c) (Finset.sum_congr rfl fun k _ => ?_) (Finset.sum_congr rfl fun k _ => ?_)
  · refine congrArg₂ (fun s c : EReal => s * c) ?_ (congrArg x10 (eq2 _ _ _ rfl rfl))
    unfold val_main_v69
    refine (concatenate_pair_apply_left (t := S16384x480) (s₁ := S16384x416) (s₂ := S16384x64) 1 (val_main_v53 (F := Ideal) x0 x1 x2 x3)
      (val_main_v68 (F := Ideal) x0 x1 x4 x5 x6 x7 x8 x9) _ (lidx_main_v70 (ix2 b 0) (Fin.castAdd 64 k)) rfl (ix2 (a := 16384) (b := 416) b k) (fun b => by match b with | 0 => rfl | 1 => rfl)).trans ?_
    exact crosses_at x0 x1 x2 x3 b hx k
  · refine congrArg₂ (fun s c : EReal => s * c) ?_ (congrArg x10 (eq2 _ _ _ rfl rfl))
    unfold val_main_v69
    refine (concatenate_pair_apply_right (t := S16384x480) (s₁ := S16384x416) (s₂ := S16384x64) 1 (val_main_v53 (F := Ideal) x0 x1 x2 x3)
      (val_main_v68 (F := Ideal) x0 x1 x4 x5 x6 x7 x8 x9) _ (lidx_main_v70 (ix2 b 0) (Fin.natAdd 416 k)) rfl rfl (ix2 (a := 16384) (b := 64) b k) (fun b hb => by match b with | 0 => rfl | 1 => exact absurd rfl hb) (Nat.add_comm k.val 416)).trans ?_
    exact denses_at x0 x1 x4 x5 x6 x7 x8 x9 b hx k

end Rows

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.ReferenceIdeal.Run
public import proofs.«01_k».proof.Proof.Gen.ReferenceIdeal.Read
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_rows_named
public import proofs.«01_k».proof.Proof.Frames
public import proofs.«01_k».proof.Proof.Same
public import proofs.«01_k».proof.Proof.DenseGrid
public import proofs.«01_k».proof.Proof.RefRow
public import Idealize.ShloMosaic.Adequacy
public import Idealize.ShloMosaic.Init

@[expose] public section

noncomputable section

namespace Cert.Proof

open Idealize.ShloMosaic Idealize.SL.Sem Cert.Kernel

set_option maxHeartbeats 8000000 in
/-- The kernel leaves its arguments as they were and its counters at zero. -/
theorem frame_kernel : Cert.quiescent_Kernel := by
  intro m ρ h
  have hr := run_named (F := Bits) m ρ h
  rw [defs_same, threads_same]
  exact (θ_run Cert.KernelIdeal.defs _ _).mono (fun r q => ⟨fun c => args_kept (F := Bits) m q c, q.2⟩) hr

/-- So does the kernel over the reals. -/
theorem frame_ideal : Cert.quiescent_KernelIdeal := by
  intro m ρ h
  exact (θ_run Cert.KernelIdeal.defs _ _).mono (fun r q => ⟨fun c => args_kept (F := Ideal) m q c, q.2⟩) (run_named (F := Ideal) m ρ h)

/-- So does the reference, on any indices. -/
theorem frame_reference : Cert.quiescent_ReferenceIdeal := by
  intro m ρ _
  exact (θ_run Cert.ReferenceIdeal.defs _ _).mono (fun r q => ⟨fun c => (q c).2, sem_eq_zero_of_no_sems (by decide) r.2⟩)
    (Cert.ReferenceIdeal.Value.run (F := Ideal) m ρ)

/-- The reference's result: every example's score, of arguments whose indices name rows. -/
theorem reference_result (x0 : IVec Cert.ReferenceIdeal.S16384x26 32) (x1 : FVec Ideal Cert.ReferenceIdeal.S26x100000x16 .f32)
    (x2 x3 : FVec Ideal Cert.ReferenceIdeal.S3x416 .f32) (x4 : FVec Ideal Cert.ReferenceIdeal.S416x256 .f32)
    (x5 : FVec Ideal Cert.ReferenceIdeal.S256 .f32) (x6 : FVec Ideal Cert.ReferenceIdeal.S256x128 .f32)
    (x7 : FVec Ideal Cert.ReferenceIdeal.S128 .f32) (x8 : FVec Ideal Cert.ReferenceIdeal.S128x64 .f32)
    (x9 : FVec Ideal Cert.ReferenceIdeal.S64 .f32) (x10 : FVec Ideal Cert.ReferenceIdeal.S480x1 .f32) (x11 : FVec Ideal Cert.ReferenceIdeal.S1 .f32)
    (hx : ∀ i, (x0 i).toNat < 100000) :
    Cert.ReferenceIdeal.Read.val_main_v79 (F := Ideal) x0 x1 x2 x3 x4 x5 x6 x7 x8 x9 x10 x11
      = fun y : Cert.ReferenceIdeal.S16384x1.Idx => model x0 x1 x2 x3 x4 x5 x6 x7 x8 x9 x10 x11 (y 0) := by
  funext y
  obtain ⟨b, u, rfl⟩ : ∃ b u, y = ix2 (a := 16384) (b := 1) b u := ⟨_, _, eq_ix2 y⟩
  obtain rfl : u = 0 := Subsingleton.elim _ _
  exact reference_at x0 x1 x2 x3 x4 x5 x6 x7 x8 x9 x10 x11 b hx

set_option maxHeartbeats 4000000 in
/-- From indices that name rows, the kernel over the reals and the reference over the reals return the same scores. -/
theorem same_scores : Cert.algebraic_KernelIdeal_ReferenceIdeal := by
  intro m g m' g' h e
  have hn : Named (F := Ideal) m := h
  refine ⟨fun c => fun y : Cert.KernelIdeal.S16384x1.Idx => scoreOf m c (y 0), ?_, ?_⟩
  · exact (θ_run Cert.KernelIdeal.defs _ _).mono
      (fun r q c => ⟨(q.1 c Cert.KernelIdeal.main_v44 rfl).trans (result_at m c (idx_lt hn c)), args_kept (F := Ideal) m q c⟩) (run_named (F := Ideal) m g hn)
  · refine (θ_run Cert.ReferenceIdeal.defs _ _).mono (fun r q c => ⟨(q c).1.trans ?_, (q c).2⟩) (Cert.ReferenceIdeal.Value.run (F := Ideal) m' g')
    obtain ⟨e0, e1, e2, e3, e4, e5, e6, e7, e8, e9, e10, e11⟩ := e c
    rw [Cert.ReferenceIdeal.Read.val_main_v79_eq, e0, e1, e2, e3, e4, e5, e6, e7, e8, e9, e10, e11]
    exact reference_result _ _ _ _ _ _ _ _ _ _ _ _ (idx_lt hn c)

/-- Everything the certificate claims. -/
theorem claim : Cert.Claim := ⟨Cert.Kernel.Gen.facts, Cert.KernelIdeal.Gen.facts, Cert.ReferenceIdeal.Gen.facts, Cert.Pre_rows_named.Gen.facts,
  frame_kernel, frame_ideal, frame_reference, fun m ρ _ => frame_reference m ρ trivial, trivial, same_scores⟩

end Cert.Proof

end
